-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)) (v3 : (c : Dev Cert.Kernel4Ideal.nD) → Buf (Elt Ideal) ((c.tc : Thread Cert.Kernel4Ideal.nD Cert.Kernel4Ideal.τ).loc Cert.Kernel4Ideal.main_v15_3)) (v4 : (c : Dev Cert.Kernel4Ideal.nD) → Buf (Elt Ideal) ((c.tc : Thread Cert.Kernel4Ideal.nD Cert.Kernel4Ideal.τ).loc Cert.Kernel4Ideal.main_v15_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_v15_3) = v3 c
          ∧ r.2.mem ((c.tc : Thread Cert.Kernel4Ideal.nD Cert.Kernel4Ideal.τ).loc Cert.Kernel4Ideal.main_v15_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v29) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v136) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x4096x512 : Shape := ⟨3, ![16, 4096, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x256x512 : Shape := ⟨3, ![1, 256, 512]⟩
abbrev S264x512 : Shape := ⟨2, ![264, 512]⟩
abbrev S8x512 : Shape := ⟨2, ![8, 512]⟩
abbrev S256x512 : Shape := ⟨2, ![256, 512]⟩

abbrev nBuf : Space → Nat
  | .hbm => 49
  | .vmem => 15
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S1x4x512, .f32⟩
  | .hbm, ⟨3, _⟩ => ⟨S1x512, .f32⟩
  | .hbm, ⟨4, _⟩ => ⟨S1x8x64x64, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x512, .f32⟩
  | .hbm, ⟨9, _⟩ => ⟨S4x512, .f32⟩
  | .hbm, ⟨10, _⟩ => ⟨S512, .f32⟩
  | .hbm, ⟨11, _⟩ => ⟨S8x64x64, .f32⟩
  | .hbm, ⟨12, _⟩ => ⟨S512, .f32⟩
  | .hbm, ⟨13, _⟩ => ⟨S8x64x64, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x64x1x64, .f32⟩
  | .hbm, ⟨25, _⟩ => ⟨S8x1x8x1, .f32⟩
  | .hbm, ⟨26, _⟩ => ⟨S8x64x8x64, .f32⟩
  | .hbm, ⟨27, _⟩ => ⟨S8x64x8x64, .f32⟩
  | .hbm, ⟨28, _⟩ => ⟨S8x64x8x64, .f32⟩
  | .hbm, ⟨29, _⟩ => ⟨S512x512, .f32⟩
  | .hbm, ⟨30, _⟩ => ⟨S512x512, .bf16⟩
  | .hbm, ⟨31, _⟩ => ⟨S1x512, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x64x1x64, .f32⟩
  | .hbm, ⟨40, _⟩ => ⟨S8x1x8x1, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S512x512, .bf16⟩
  | .hbm, ⟨46, _⟩ => ⟨S1x512, .f32⟩
  | .hbm, ⟨47, _⟩ => ⟨S1x512, .f32⟩
  | .hbm, ⟨48, _⟩ => ⟨S16x4096x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x256x512, .bf16⟩
  | .local _ .vmem, ⟨12, _⟩ => ⟨S1x256x512, .bf16⟩
  | .local _ .vmem, ⟨13, _⟩ => ⟨S264x512, .f32⟩
  | .local _ .vmem, ⟨14, _⟩ => ⟨S1x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x4096x512 : Shape := ⟨3, ![16, 4096, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S16x4099x512 : Shape := ⟨3, ![16, 4099, 512]⟩
abbrev S1x1x512 : Shape := ⟨3, ![1, 1, 512]⟩
abbrev S16x4096x8x64 : Shape := ⟨4, ![16, 4096, 8, 64]⟩
abbrev S8x64x16x4096 : Shape := ⟨4, ![8, 64, 16, 4096]⟩
abbrev S16x512 : Shape := ⟨2, ![16, 512]⟩
abbrev S4096x16x512 : Shape := ⟨3, ![4096, 16, 512]⟩
abbrev S1x16x512 : Shape := ⟨3, ![1, 16, 512]⟩

abbrev nBuf : Space → Nat
  | .hbm => 161
  | .vmem => 0
  | .smem => 0
  | _ => 0

abbrev hbmTy0_0 (i : Nat) : BufTy := match i % 128 with
  | 0 => ⟨S16x4096x512, .f32⟩
  | 1 => ⟨S16x4096x512, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S4x512, .f32⟩
  | 10 => ⟨S512, .f32⟩
  | 11 => ⟨S512, .f32⟩
  | 12 => ⟨S8x64x64, .f32⟩
  | 13 => ⟨S512, .f32⟩
  | 14 => ⟨S8x64x64, .f32⟩
  | 15 => ⟨S512, .f32⟩
  | 16 => ⟨S_, .i32⟩
  | 17 => ⟨S_, .f32⟩
  | 18 => ⟨S16x4099x512, .f32⟩
  | 19 => ⟨S1x512, .f32⟩
  | 20 => ⟨S512, .f32⟩
  | 21 => ⟨S16x4096x512, .f32⟩
  | 22 => ⟨S1x1x512, .f32⟩
  | 23 => ⟨S16x4096x512, .f32⟩
  | 24 => ⟨S16x4096x512, .f32⟩
  | 25 => ⟨S_, .f32⟩
  | 26 => ⟨S16x4096x512, .f32⟩
  | 27 => ⟨S16x4096x512, .f32⟩
  | 28 => ⟨S1x512, .f32⟩
  | 29 => ⟨S512, .f32⟩
  | 30 => ⟨S16x4096x512, .f32⟩
  | 31 => ⟨S1x1x512, .f32⟩
  | 32 => ⟨S16x4096x512, .f32⟩
  | 33 => ⟨S16x4096x512, .f32⟩
  | 34 => ⟨S16x4096x512, .f32⟩
  | 35 => ⟨S1x512, .f32⟩
  | 36 => ⟨S512, .f32⟩
  | 37 => ⟨S16x4096x512, .f32⟩
  | 38 => ⟨S1x1x512, .f32⟩
  | 39 => ⟨S16x4096x512, .f32⟩
  | 40 => ⟨S16x4096x512, .f32⟩
  | 41 => ⟨S16x4096x512, .f32⟩
  | 42 => ⟨S1x512, .f32⟩
  | 43 => ⟨S512, .f32⟩
  | 44 => ⟨S16x4096x512, .f32⟩
  | 45 => ⟨S1x1x512, .f32⟩
  | 46 => ⟨S16x4096x512, .f32⟩
  | 47 => ⟨S16x4096x512, .f32⟩
  | 48 => ⟨S16x4096x512, .f32⟩
  | 49 => ⟨S1x1x512, .f32⟩
  | 50 => ⟨S16x4096x512, .f32⟩
  | 51 => ⟨S16x4096x512, .f32⟩
  | 52 => ⟨S16x4096x8x64, .f32⟩
  | 53 => ⟨S8x64x16x4096, .f32⟩
  | 54 => ⟨S16x4096x8x64, .f32⟩
  | 55 => ⟨S16x4096x512, .f32⟩
  | 56 => ⟨S1x1x512, .f32⟩
  | 57 => ⟨S16x4096x512, .f32⟩
  | 58 => ⟨S16x4096x512, .f32⟩
  | 59 => ⟨S16x4096x512, .f32⟩
  | 60 => ⟨S16x4096x512, .f32⟩
  | 61 => ⟨S_, .f32⟩
  | 62 => ⟨S16x4096x512, .f32⟩
  | 63 => ⟨S16x4096x512, .f32⟩
  | 64 => ⟨S_, .f32⟩
  | 65 => ⟨S16x4096x512, .f32⟩
  | 66 => ⟨S16x4096x512, .f32⟩
  | 67 => ⟨S8x64x16x4096, .f32⟩
  | 68 => ⟨S16x4096x8x64, .f32⟩
  | 69 => ⟨S16x4096x512, .f32⟩
  | 70 => ⟨S1x1x512, .f32⟩
  | 71 => ⟨S16x4096x512, .f32⟩
  | 72 => ⟨S16x4096x512, .f32⟩
  | 73 => ⟨S16x4096x512, .f32⟩
  | 74 => ⟨S16x4096x512, .f32⟩
  | 75 => ⟨S_, .f32⟩
  | 76 => ⟨S16x4096x512, .f32⟩
  | 77 => ⟨S16x4096x512, .f32⟩
  | 78 => ⟨S_, .f32⟩
  | 79 => ⟨S16x4096x512, .f32⟩
  | 80 => ⟨S16x4096x512, .f32⟩
  | 81 => ⟨S_, .f32⟩
  | 82 => ⟨S16x4096x512, .f32⟩
  | 83 => ⟨S16x4096x512, .f32⟩
  | 84 => ⟨S512, .f32⟩
  | 85 => ⟨S_, .f32⟩
  | 86 => ⟨S512, .f32⟩
  | 87 => ⟨S512, .f32⟩
  | 88 => ⟨S512, .f32⟩
  | 89 => ⟨S512, .f32⟩
  | 90 => ⟨S512, .i1⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S1x1x512, .f32⟩
  | 100 => ⟨S16x4096x512, .f32⟩
  | 101 => ⟨S16x4096x512, .f32⟩
  | 102 => ⟨S16x4096x512, .f32⟩
  | 103 => ⟨S_, .f32⟩
  | 104 => ⟨S16x4096x512, .f32⟩
  | 105 => ⟨S16x4096x512, .f32⟩
  | 106 => ⟨S16x4096x512, .f32⟩
  | 107 => ⟨S16x4096x512, .f32⟩
  | 108 => ⟨S16x4096x512, .f32⟩
  | 109 => ⟨S16x4096x512, .f32⟩
  | 110 => ⟨S16x4096x512, .f32⟩
  | 111 => ⟨S_, .f32⟩
  | 112 => ⟨S16x512, .f32⟩
  | 113 => ⟨S4096x16x512, .f32⟩
  | 114 => ⟨S4096x16x512, .f32⟩
  | 115 => ⟨S_, .f32⟩
  | 116 => ⟨S4096x16x512, .f32⟩
  | 117 => ⟨S_, .i32⟩
  | 118 => ⟨S4096x16x512, .f32⟩
  | 119 => ⟨S4096x16x512, .f32⟩
  | 120 => ⟨S_, .i32⟩
  | 121 => ⟨S16x512, .f32⟩
  | 122 => ⟨S4096x16x512, .f32⟩
  | 123 => ⟨S_, .i32⟩
  | 124 => ⟨S_, .i1⟩
  | 125 => ⟨S_, .i32⟩
  | 126 => ⟨S_, .i32⟩
  | 127 => ⟨S1x16x512, .f32⟩
  | _ => ⟨S16x4096x512, .f32⟩

abbrev hbmTy0_1 (i : Nat) : BufTy := match i % 128 with
  | 0 => ⟨S16x512, .f32⟩
  | 1 => ⟨S_, .i32⟩
  | 2 => ⟨S_, .i32⟩
  | 3 => ⟨S1x16x512, .f32⟩
  | 4 => ⟨S16x512, .f32⟩
  | 5 => ⟨S16x512, .f32⟩
  | 6 => ⟨S16x512, .f32⟩
  | 7 => ⟨S1x16x512, .f32⟩
  | 8 => ⟨S_, .i32⟩
  | 9 => ⟨S_, .i32⟩
  | 10 => ⟨S4096x16x512, .f32⟩
  | 11 => ⟨S_, .i32⟩
  | 12 => ⟨S_, .i32⟩
  | 13 => ⟨S16x4096x512, .f32⟩
  | 14 => ⟨S16x4096x512, .f32⟩
  | 15 => ⟨S16x4096x512, .f32⟩
  | 16 => ⟨S_, .f32⟩
  | 17 => ⟨S16x4096x512, .f32⟩
  | 18 => ⟨S16x4096x512, .f32⟩
  | 19 => ⟨S16x4096x512, .f32⟩
  | 20 => ⟨S_, .f32⟩
  | 21 => ⟨S16x4096x512, .f32⟩
  | 22 => ⟨S16x4096x512, .f32⟩
  | 23 => ⟨S16x4096x512, .f32⟩
  | 24 => ⟨S_, .f32⟩
  | 25 => ⟨S16x4096x512, .f32⟩
  | 26 => ⟨S16x4096x512, .f32⟩
  | 27 => ⟨S_, .f32⟩
  | 28 => ⟨S16x4096x512, .f32⟩
  | 29 => ⟨S16x4096x512, .f32⟩
  | 30 => ⟨S16x4096x512, .f32⟩
  | 31 => ⟨S16x4096x512, .f32⟩
  | 32 => ⟨S16x4096x512, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_cst_1 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_2 : Ref sig .tc := ⟨.hbm, 75, rfl⟩
abbrev main_v61 : Ref sig .tc := ⟨.hbm, 76, rfl⟩
abbrev main_v62 : Ref sig .tc := ⟨.hbm, 77, rfl⟩
abbrev main_cst_3 : Ref sig .tc := ⟨.hbm, 78, rfl⟩
abbrev main_v63 : Ref sig .tc := ⟨.hbm, 79, rfl⟩
abbrev main_v64 : Ref sig .tc := ⟨.hbm, 80, rfl⟩
abbrev main_cst_4 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩
abbrev main_c_8 : Ref sig .tc := ⟨.hbm, 117, rfl⟩
abbrev main_v84_0 : Ref sig .tc := ⟨.hbm, 118, rfl⟩
abbrev main_v84_1 : Ref sig .tc := ⟨.hbm, 119, rfl⟩
abbrev main_v84_2 : Ref sig .tc := ⟨.hbm, 120, rfl⟩
abbrev main_v84_3 : Ref sig .tc := ⟨.hbm, 121, rfl⟩
abbrev main_v84_4 : Ref sig .tc := ⟨.hbm, 122, rfl⟩
abbrev main_while0c_c_17 : Ref sig .tc := ⟨.hbm, 123, rfl⟩
abbrev main_while0c_v101 : Ref sig .tc := ⟨.hbm, 124, rfl⟩
abbrev main_while0b_call2_c : Ref sig .tc := ⟨.hbm, 125, rfl⟩
abbrev main_while0b_call2_c_0 : Ref sig .tc := ⟨.hbm, 126, rfl⟩
abbrev main_while0b_call2_v0 : Ref sig .tc := ⟨.hbm, 127, rfl⟩
abbrev main_while0b_v101 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_v0 : Ref sig .tc := ⟨.hbm, 131, rfl⟩
abbrev main_while0b_v102 : Ref sig .tc := ⟨.hbm, 132, rfl⟩
abbrev main_while0b_v103 : Ref sig .tc := ⟨.hbm, 133, rfl⟩
abbrev main_while0b_v104 : Ref sig .tc := ⟨.hbm, 134, rfl⟩
abbrev main_while0b_call4_v0 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_v105 : Ref sig .tc := ⟨.hbm, 138, rfl⟩
abbrev main_while0b_c_17 : Ref sig .tc := ⟨.hbm, 139, rfl⟩
abbrev main_while0b_v106 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_9 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_10 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_11 : Ref sig .tc := ⟨.hbm, 152, rfl⟩
abbrev main_v94 : Ref sig .tc := ⟨.hbm, 153, rfl⟩
abbrev main_v95 : Ref sig .tc := ⟨.hbm, 154, rfl⟩
abbrev main_cst_12 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16x4096x1024 : Shape := ⟨3, ![16, 4096, 1024]⟩
abbrev S2x16x4096x256 : Shape := ⟨4, ![2, 16, 4096, 256]⟩
abbrev S16x4096x512 : Shape := ⟨3, ![16, 4096, 512]⟩
abbrev S1x1536x1024 : Shape := ⟨3, ![1, 1536, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S65536x1024 : Shape := ⟨2, ![65536, 1024]⟩
abbrev S1x16x4096x256 : Shape := ⟨4, ![1, 16, 4096, 256]⟩
abbrev S16x4096x256 : Shape := ⟨3, ![16, 4096, 256]⟩
abbrev S65536x256 : Shape := ⟨2, ![65536, 256]⟩
abbrev S65536x512 : Shape := ⟨2, ![65536, 512]⟩
abbrev S1536x1024 : Shape := ⟨2, ![1536, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 49
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S16x4096x1024, .bf16⟩
  | .hbm, ⟨3, _⟩ => ⟨S16x4096x512, .bf16⟩
  | .hbm, ⟨4, _⟩ => ⟨S1x1536x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S65536x1024, .f32⟩
  | .hbm, ⟨14, _⟩ => ⟨S1x16x4096x256, .f32⟩
  | .hbm, ⟨15, _⟩ => ⟨S16x4096x256, .f32⟩
  | .hbm, ⟨16, _⟩ => ⟨S65536x256, .f32⟩
  | .hbm, ⟨17, _⟩ => ⟨S65536x1024, .bf16⟩
  | .hbm, ⟨18, _⟩ => ⟨S65536x512, .bf16⟩
  | .hbm, ⟨19, _⟩ => ⟨S1536x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024x4096, .f32⟩
  | .hbm, ⟨25, _⟩ => ⟨S1024x4096, .f32⟩
  | .hbm, ⟨26, _⟩ => ⟨S1x4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024x1024, .f32⟩
  | .hbm, ⟨31, _⟩ => ⟨S1024x1024, .f32⟩
  | .hbm, ⟨32, _⟩ => ⟨S1x256x1024, .f32⟩
  | .hbm, ⟨33, _⟩ => ⟨S256x1024, .f32⟩
  | .hbm, ⟨34, _⟩ => ⟨S1x1024, .f32⟩
  | .hbm, ⟨35, _⟩ => ⟨S1024, .f32⟩
  | .hbm, ⟨36, _⟩ => ⟨S1024x1024, .f32⟩
  | .hbm, ⟨37, _⟩ => ⟨S1024x1024, .bf16⟩
  | .hbm, ⟨38, _⟩ => ⟨S512x1024, .f32⟩
  | .hbm, ⟨39, _⟩ => ⟨S512x1024, .bf16⟩
  | .hbm, ⟨40, _⟩ => ⟨S1x1024, .f32⟩
  | .hbm, ⟨41, _⟩ => ⟨S1x1024, .f32⟩
  | .hbm, ⟨42, _⟩ => ⟨S1024x4096, .bf16⟩
  | .hbm, ⟨43, _⟩ => ⟨S4096x1024, .bf16⟩
  | .hbm, ⟨44, _⟩ => ⟨S1x1024, .f32⟩
  | .hbm, ⟨45, _⟩ => ⟨S1024x1024, .bf16⟩
  | .hbm, ⟨46, _⟩ => ⟨S256x1024, .bf16⟩
  | .hbm, ⟨47, _⟩ => ⟨S1x1024, .f32⟩
  | .hbm, ⟨48, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x4096x1024 : Shape := ⟨3, ![16, 4096, 1024]⟩
abbrev S2x16x4096x256 : Shape := ⟨4, ![2, 16, 4096, 256]⟩
abbrev S16x4096x512 : Shape := ⟨3, ![16, 4096, 512]⟩
abbrev S1x1536x1024 : Shape := ⟨3, ![1, 1536, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S16x4096x1536 : Shape := ⟨3, ![16, 4096, 1536]⟩
abbrev S1536x1024 : Shape := ⟨2, ![1536, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x4096x4096 : Shape := ⟨3, ![16, 4096, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x16x4096x256 : Shape := ⟨4, ![1, 16, 4096, 256]⟩
abbrev S16x4096x256 : Shape := ⟨3, ![16, 4096, 256]⟩
abbrev S1x256x1024 : Shape := ⟨3, ![1, 256, 1024]⟩
abbrev S256x1024 : Shape := ⟨2, ![256, 1024]⟩
abbrev S65536x1024 : Shape := ⟨2, ![65536, 1024]⟩

abbrev nBuf : Space → Nat
  | .hbm => 121
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S16x4096x1024, .bf16⟩
  | .hbm, ⟨3, _⟩ => ⟨S16x4096x512, .bf16⟩
  | .hbm, ⟨4, _⟩ => ⟨S1x1536x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S16x4096x1024, .f32⟩
  | .hbm, ⟨14, _⟩ => ⟨S16x4096x512, .f32⟩
  | .hbm, ⟨15, _⟩ => ⟨S16x4096x1536, .f32⟩
  | .hbm, ⟨16, _⟩ => ⟨S1536x1024, .f32⟩
  | .hbm, ⟨17, _⟩ => ⟨S16x4096x1024, .f32⟩
  | .hbm, ⟨18, _⟩ => ⟨S1x1024, .f32⟩
  | .hbm, ⟨19, _⟩ => ⟨S1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S1x1024, .f32⟩
  | .hbm, ⟨38, _⟩ => ⟨S1024, .f32⟩
  | .hbm, ⟨39, _⟩ => ⟨S16x4096x1024, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S_, .f32⟩
  | .hbm, ⟨47, _⟩ => ⟨S16x4096x1, .f32⟩
  | .hbm, ⟨48, _⟩ => ⟨S16x4096x1, .f32⟩
  | .hbm, ⟨49, _⟩ => ⟨S16x4096x1, .f32⟩
  | .hbm, ⟨50, _⟩ => ⟨S16x4096x1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S1x1024x4096, .f32⟩
  | .hbm, ⟨56, _⟩ => ⟨S1024x4096, .f32⟩
  | .hbm, ⟨57, _⟩ => ⟨S16x4096x4096, .f32⟩
  | .hbm, ⟨58, _⟩ => ⟨S_, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S1x4096x1024, .f32⟩
  | .hbm, ⟨63, _⟩ => ⟨S4096x1024, .f32⟩
  | .hbm, ⟨64, _⟩ => ⟨S16x4096x1024, .f32⟩
  | .hbm, ⟨65, _⟩ => ⟨S1x1024, .f32⟩
  | .hbm, ⟨66, _⟩ => ⟨S1024, .f32⟩
  | .hbm, ⟨67, _⟩ => ⟨S16x4096x1024, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | .hbm, ⟨83, _⟩ => ⟨S16x4096x1024, .f32⟩
  | .hbm, ⟨84, _⟩ => ⟨S1x1024x1024, .f32⟩
  | .hbm, ⟨85, _⟩ => ⟨S1024x1024, .f32⟩
  | .hbm, ⟨86, _⟩ => ⟨S16x4096x1024, .f32⟩
  | .hbm, ⟨87, _⟩ => ⟨S16x4096x1024, .f32⟩
  | .hbm, ⟨88, _⟩ => ⟨S16x4096x1024, .f32⟩
  | .hbm, ⟨89, _⟩ => ⟨S_, .f32⟩
  | .hbm, ⟨90, _⟩ => ⟨S16x4096x1024, .f32⟩
  | .hbm, ⟨91, _⟩ => ⟨S16x4096x1024, .f32⟩
  | .hbm, ⟨92, _⟩ => ⟨S_, .f32⟩
  | .hbm, ⟨93, _⟩ => ⟨S16x4096x1024, .f32⟩
  | .hbm, ⟨94, _⟩ => ⟨S16x4096x1024, .f32⟩
  | .hbm, ⟨95, _⟩ => ⟨S1x16x4096x256, .f32⟩
  | .hbm, ⟨96, _⟩ => ⟨S16x4096x256, .f32⟩
  | .hbm, ⟨97, _⟩ => ⟨S1x256x1024, .f32⟩
  | .hbm, ⟨98, _⟩ => ⟨S256x1024, .f32⟩
  | .hbm, ⟨99, _⟩ => ⟨S16x4096x1024, .f32⟩
  | .hbm, ⟨100, _⟩ => ⟨S16x4096x1024, .f32⟩
  | .hbm, ⟨101, _⟩ => ⟨S1x1024, .f32⟩
  | .hbm, ⟨102, _⟩ => ⟨S1024, .f32⟩
  | .hbm, ⟨103, _⟩ => ⟨S16x4096x1024, .f32⟩
  | .hbm, ⟨104, _⟩ => ⟨S_, .f32⟩
  | .hbm, ⟨105, _⟩ => ⟨S16x4096, .f32⟩
  | .hbm, ⟨106, _⟩ => ⟨S16x4096x1, .f32⟩
  | .hbm, ⟨107, _⟩ => ⟨S_, .f32⟩
  | .hbm, ⟨108, _⟩ => ⟨S16x4096x1, .f32⟩
  | .hbm, ⟨109, _⟩ => ⟨S16x4096x1, .f32⟩
  | .hbm, ⟨110, _⟩ => ⟨S_, .f32⟩
  | .hbm, ⟨111, _⟩ => ⟨S16x4096x1, .f32⟩
  | .hbm, ⟨112, _⟩ => ⟨S16x4096x1, .f32⟩
  | .hbm, ⟨113, _⟩ => ⟨S16x4096x1, .f32⟩
  | .hbm, ⟨114, _⟩ => ⟨S16x4096x1024, .f32⟩
  | .hbm, ⟨115, _⟩ => ⟨S16x4096x1024, .f32⟩
  | .hbm, ⟨116, _⟩ => ⟨S1x1x1024, .f32⟩
  | .hbm, ⟨117, _⟩ => ⟨S16x4096x1024, .f32⟩
  | .hbm, ⟨118, _⟩ => ⟨S16x4096x1024, .f32⟩
  | .hbm, ⟨119, _⟩ => ⟨S16x4096x1024, .f32⟩
  | .hbm, ⟨120, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel3.lean ====
abbrev S16x4096x1024 : Shape := ⟨3, ![16, 4096, 1024]⟩
abbrev S2x16x4096x256 : Shape := ⟨4, ![2, 16, 4096, 256]⟩
abbrev S16x4096x512 : Shape := ⟨3, ![16, 4096, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S65536x1024 : Shape := ⟨2, ![65536, 1024]⟩
abbrev S1x16x4096x256 : Shape := ⟨4, ![1, 16, 4096, 256]⟩
abbrev S16x4096x256 : Shape := ⟨3, ![16, 4096, 256]⟩
abbrev S65536x256 : Shape := ⟨2, ![65536, 256]⟩
abbrev S65536x512 : Shape := ⟨2, ![65536, 512]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 49
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S16x4096x512, .bf16⟩
  | .hbm, ⟨3, _⟩ => ⟨S16x4096x512, .bf16⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S65536x1024, .f32⟩
  | .hbm, ⟨14, _⟩ => ⟨S1x16x4096x256, .f32⟩
  | .hbm, ⟨15, _⟩ => ⟨S16x4096x256, .f32⟩
  | .hbm, ⟨16, _⟩ => ⟨S65536x256, .f32⟩
  | .hbm, ⟨17, _⟩ => ⟨S65536x512, .bf16⟩
  | .hbm, ⟨18, _⟩ => ⟨S65536x512, .bf16⟩
  | .hbm, ⟨19, _⟩ => ⟨S1024x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024x4096, .f32⟩
  | .hbm, ⟨25, _⟩ => ⟨S1024x4096, .f32⟩
  | .hbm, ⟨26, _⟩ => ⟨S1x4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024x1024, .f32⟩
  | .hbm, ⟨31, _⟩ => ⟨S1024x1024, .f32⟩
  | .hbm, ⟨32, _⟩ => ⟨S1x256x1024, .f32⟩
  | .hbm, ⟨33, _⟩ => ⟨S256x1024, .f32⟩
  | .hbm, ⟨34, _⟩ => ⟨S1x1024, .f32⟩
  | .hbm, ⟨35, _⟩ => ⟨S1024, .f32⟩
  | .hbm, ⟨36, _⟩ => ⟨S512x1024, .f32⟩
  | .hbm, ⟨37, _⟩ => ⟨S512x1024, .bf16⟩
  | .hbm, ⟨38, _⟩ => ⟨S512x1024, .f32⟩
  | .hbm, ⟨39, _⟩ => ⟨S512x1024, .bf16⟩
  | .hbm, ⟨40, _⟩ => ⟨S1x1024, .f32⟩
  | .hbm, ⟨41, _⟩ => ⟨S1x1024, .f32⟩
  | .hbm, ⟨42, _⟩ => ⟨S1024x4096, .bf16⟩
  | .hbm, ⟨43, _⟩ => ⟨S4096x1024, .bf16⟩
  | .hbm, ⟨44, _⟩ => ⟨S1x1024, .f32⟩
  | .hbm, ⟨45, _⟩ => ⟨S1024x1024, .bf16⟩
  | .hbm, ⟨46, _⟩ => ⟨S256x1024, .bf16⟩
  | .hbm, ⟨47, _⟩ => ⟨S1x1024, .f32⟩
  | .hbm, ⟨48, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16x4096x1024 : Shape := ⟨3, ![16, 4096, 1024]⟩
abbrev S2x16x4096x256 : Shape := ⟨4, ![2, 16, 4096, 256]⟩
abbrev S16x4096x512 : Shape := ⟨3, ![16, 4096, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x4096x4096 : Shape := ⟨3, ![16, 4096, 4096]⟩
abbrev S1x4096x1024 : Shape := ⟨3, ![1, 4096, 1024]⟩
abbrev S4096x1024 : Shape := ⟨2, ![4096, 1024]⟩
abbrev S1x16x4096x256 : Shape := ⟨4, ![1, 16, 4096, 256]⟩
abbrev S16x4096x256 : Shape := ⟨3, ![16, 4096, 256]⟩
abbrev S1x256x1024 : Shape := ⟨3, ![1, 256, 1024]⟩
abbrev S256x1024 : Shape := ⟨2, ![256, 1024]⟩
abbrev S65536x1024 : Shape := ⟨2, ![65536, 1024]⟩

abbrev nBuf : Space → Nat
  | .hbm => 121
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S16x4096x512, .bf16⟩
  | .hbm, ⟨3, _⟩ => ⟨S16x4096x512, .bf16⟩
  | .hbm, ⟨4, _⟩ => ⟨S1x1024x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S16x4096x512, .f32⟩
  | .hbm, ⟨14, _⟩ => ⟨S16x4096x512, .f32⟩
  | .hbm, ⟨15, _⟩ => ⟨S16x4096x1024, .f32⟩
  | .hbm, ⟨16, _⟩ => ⟨S1024x1024, .f32⟩
  | .hbm, ⟨17, _⟩ => ⟨S16x4096x1024, .f32⟩
  | .hbm, ⟨18, _⟩ => ⟨S1x1024, .f32⟩
  | .hbm, ⟨19, _⟩ => ⟨S1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S1x1024, .f32⟩
  | .hbm, ⟨38, _⟩ => ⟨S1024, .f32⟩
  | .hbm, ⟨39, _⟩ => ⟨S16x4096x1024, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S_, .f32⟩
  | .hbm, ⟨47, _⟩ => ⟨S16x4096x1, .f32⟩
  | .hbm, ⟨48, _⟩ => ⟨S16x4096x1, .f32⟩
  | .hbm, ⟨49, _⟩ => ⟨S16x4096x1, .f32⟩
  | .hbm, ⟨50, _⟩ => ⟨S16x4096x1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S1x1024x4096, .f32⟩
  | .hbm, ⟨56, _⟩ => ⟨S1024x4096, .f32⟩
  | .hbm, ⟨57, _⟩ => ⟨S16x4096x4096, .f32⟩
  | .hbm, ⟨58, _⟩ => ⟨S_, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S1x4096x1024, .f32⟩
  | .hbm, ⟨63, _⟩ => ⟨S4096x1024, .f32⟩
  | .hbm, ⟨64, _⟩ => ⟨S16x4096x1024, .f32⟩
  | .hbm, ⟨65, _⟩ => ⟨S1x1024, .f32⟩
  | .hbm, ⟨66, _⟩ => ⟨S1024, .f32⟩
  | .hbm, ⟨67, _⟩ => ⟨S16x4096x1024, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | .hbm, ⟨83, _⟩ => ⟨S16x4096x1024, .f32⟩
  | .hbm, ⟨84, _⟩ => ⟨S1x1024x1024, .f32⟩
  | .hbm, ⟨85, _⟩ => ⟨S1024x1024, .f32⟩
  | .hbm, ⟨86, _⟩ => ⟨S16x4096x1024, .f32⟩
  | .hbm, ⟨87, _⟩ => ⟨S16x4096x1024, .f32⟩
  | .hbm, ⟨88, _⟩ => ⟨S16x4096x1024, .f32⟩
  | .hbm, ⟨89, _⟩ => ⟨S_, .f32⟩
  | .hbm, ⟨90, _⟩ => ⟨S16x4096x1024, .f32⟩
  | .hbm, ⟨91, _⟩ => ⟨S16x4096x1024, .f32⟩
  | .hbm, ⟨92, _⟩ => ⟨S_, .f32⟩
  | .hbm, ⟨93, _⟩ => ⟨S16x4096x1024, .f32⟩
  | .hbm, ⟨94, _⟩ => ⟨S16x4096x1024, .f32⟩
  | .hbm, ⟨95, _⟩ => ⟨S1x16x4096x256, .f32⟩
  | .hbm, ⟨96, _⟩ => ⟨S16x4096x256, .f32⟩
  | .hbm, ⟨97, _⟩ => ⟨S1x256x1024, .f32⟩
  | .hbm, ⟨98, _⟩ => ⟨S256x1024, .f32⟩
  | .hbm, ⟨99, _⟩ => ⟨S16x4096x1024, .f32⟩
  | .hbm, ⟨100, _⟩ => ⟨S16x4096x1024, .f32⟩
  | .hbm, ⟨101, _⟩ => ⟨S1x1024, .f32⟩
  | .hbm, ⟨102, _⟩ => ⟨S1024, .f32⟩
  | .hbm, ⟨103, _⟩ => ⟨S16x4096x1024, .f32⟩
  | .hbm, ⟨104, _⟩ => ⟨S_, .f32⟩
  | .hbm, ⟨105, _⟩ => ⟨S16x4096, .f32⟩
  | .hbm, ⟨106, _⟩ => ⟨S16x4096x1, .f32⟩
  | .hbm, ⟨107, _⟩ => ⟨S_, .f32⟩
  | .hbm, ⟨108, _⟩ => ⟨S16x4096x1, .f32⟩
  | .hbm, ⟨109, _⟩ => ⟨S16x4096x1, .f32⟩
  | .hbm, ⟨110, _⟩ => ⟨S_, .f32⟩
  | .hbm, ⟨111, _⟩ => ⟨S16x4096x1, .f32⟩
  | .hbm, ⟨112, _⟩ => ⟨S16x4096x1, .f32⟩
  | .hbm, ⟨113, _⟩ => ⟨S16x4096x1, .f32⟩
  | .hbm, ⟨114, _⟩ => ⟨S16x4096x1024, .f32⟩
  | .hbm, ⟨115, _⟩ => ⟨S16x4096x1024, .f32⟩
  | .hbm, ⟨116, _⟩ => ⟨S1x1x1024, .f32⟩
  | .hbm, ⟨117, _⟩ => ⟨S16x4096x1024, .f32⟩
  | .hbm, ⟨118, _⟩ => ⟨S16x4096x1024, .f32⟩
  | .hbm, ⟨119, _⟩ => ⟨S16x4096x1024, .f32⟩
  | .hbm, ⟨120, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call0_cst : Ref sig .tc := ⟨.hbm, 58, rfl⟩
abbrev main_call0_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel4.lean ====
abbrev S16x4096x1024 : Shape := ⟨3, ![16, 4096, 1024]⟩
abbrev S1x1024x2560 : Shape := ⟨3, ![1, 1024, 2560]⟩
abbrev S2x1024 : Shape := ⟨2, ![2, 1024]⟩
abbrev S1024x2560 : Shape := ⟨2, ![1024, 2560]⟩
abbrev S1x1024 : Shape := ⟨2, ![1, 1024]⟩
abbrev S1024 : Shape := ⟨1, ![1024]⟩
abbrev S1024x512 : Shape := ⟨2, ![1024, 512]⟩
abbrev S65536x1024 : Shape := ⟨2, ![65536, 1024]⟩
abbrev S65536x512 : Shape := ⟨2, ![65536, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1x1024x2560, .f32⟩
  | .hbm, ⟨2, _⟩ => ⟨S2x1024, .f32⟩
  | .hbm, ⟨3, _⟩ => ⟨S1024x2560, .f32⟩
  | .hbm, ⟨4, _⟩ => ⟨S1x1024, .f32⟩
  | .hbm, ⟨5, _⟩ => ⟨S1024, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S65536x1024, .f32⟩
  | .hbm, ⟨17, _⟩ => ⟨S1x1024, .f32⟩
  | .hbm, ⟨18, _⟩ => ⟨S65536x512, .f32⟩
  | .hbm, ⟨19, _⟩ => ⟨S65536x512, .f32⟩
  | .hbm, ⟨20, _⟩ => ⟨S65536x512, .bf16⟩
  | .hbm, ⟨21, _⟩ => ⟨S65536x512, .bf16⟩
  | .hbm, ⟨22, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev main_v15_3 : Ref sig .tc := ⟨.hbm, 21, rfl⟩
abbrev main_v15_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16x4096x1024 : Shape := ⟨3, ![16, 4096, 1024]⟩
abbrev S1x1024x2560 : Shape := ⟨3, ![1, 1024, 2560]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x2560 : Shape := ⟨2, ![1024, 2560]⟩
abbrev S16x4096x2560 : Shape := ⟨3, ![16, 4096, 2560]⟩
abbrev S16x4096x512 : Shape := ⟨3, ![16, 4096, 512]⟩
abbrev S65536x512 : Shape := ⟨2, ![65536, 512]⟩

abbrev nBuf : Space → Nat
  | .hbm => 36
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024x2560, .f32⟩
  | .hbm, ⟨2, _⟩ => ⟨S2x1024, .f32⟩
  | .hbm, ⟨3, _⟩ => ⟨S1x1024, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x2560, .f32⟩
  | .hbm, ⟨22, _⟩ => ⟨S16x4096x2560, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S16x4096x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .bf16⟩
  | .hbm, ⟨32, _⟩ => ⟨S65536x512, .f32⟩
  | .hbm, ⟨33, _⟩ => ⟨S65536x512, .bf16⟩
  | .hbm, ⟨34, _⟩ => ⟨S65536x512, .f32⟩
  | .hbm, ⟨35, _⟩ => ⟨S65536x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel5.lean ====
abbrev S16x4096x1024 : Shape := ⟨3, ![16, 4096, 1024]⟩
abbrev S1x1024x3600 : Shape := ⟨3, ![1, 1024, 3600]⟩
abbrev S2x1024 : Shape := ⟨2, ![2, 1024]⟩
abbrev S1024x3600 : Shape := ⟨2, ![1024, 3600]⟩
abbrev S1x1024 : Shape := ⟨2, ![1, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1024x1024 : Shape := ⟨2, ![1024, 1024]⟩
abbrev S1024x1536 : Shape := ⟨2, ![1024, 1536]⟩
abbrev S65536x1024 : Shape := ⟨2, ![65536, 1024]⟩
abbrev S65536x1536 : Shape := ⟨2, ![65536, 1536]⟩
abbrev S65536x128 : Shape := ⟨2, ![65536, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S1x1024x3600, .f32⟩
  | .hbm, ⟨2, _⟩ => ⟨S2x1024, .f32⟩
  | .hbm, ⟨3, _⟩ => ⟨S1024x3600, .f32⟩
  | .hbm, ⟨4, _⟩ => ⟨S1x1024, .f32⟩
  | .hbm, ⟨5, _⟩ => ⟨S1024, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1024, .f32⟩
  | .hbm, ⟨11, _⟩ => ⟨S1024x1536, .f32⟩
  | .hbm, ⟨12, _⟩ => ⟨S1024x1024, .f32⟩
  | .hbm, ⟨13, _⟩ => ⟨S1024x1024, .bf16⟩
  | .hbm, ⟨14, _⟩ => ⟨S1024x1536, .bf16⟩
  | .hbm, ⟨15, _⟩ => ⟨S1024x128, .bf16⟩
  | .hbm, ⟨16, _⟩ => ⟨S1024x1024, .bf16⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1536, .f32⟩
  | .hbm, ⟨21, _⟩ => ⟨S65536x128, .f32⟩
  | .hbm, ⟨22, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1536, .f32⟩
  | .local _ .vmem, ⟨10, _⟩ => ⟨S512x1536, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16x4096x1024 : Shape := ⟨3, ![16, 4096, 1024]⟩
abbrev S1x1024x3600 : Shape := ⟨3, ![1, 1024, 3600]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x3600 : Shape := ⟨2, ![1024, 3600]⟩
abbrev S16x4096x3600 : Shape := ⟨3, ![16, 4096, 3600]⟩
abbrev S16x4096x1536 : Shape := ⟨3, ![16, 4096, 1536]⟩
abbrev S16x4096x16 : Shape := ⟨3, ![16, 4096, 16]⟩
abbrev S65536x1024 : Shape := ⟨2, ![65536, 1024]⟩
abbrev S65536x1536 : Shape := ⟨2, ![65536, 1536]⟩
abbrev S65536x16 : Shape := ⟨2, ![65536, 16]⟩
abbrev S65536x128 : Shape := ⟨2, ![65536, 128]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024x3600, .f32⟩
  | .hbm, ⟨2, _⟩ => ⟨S2x1024, .f32⟩
  | .hbm, ⟨3, _⟩ => ⟨S1x1024, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x3600, .f32⟩
  | .hbm, ⟨22, _⟩ => ⟨S16x4096x3600, .f32⟩
  | .hbm, ⟨23, _⟩ => ⟨S16x4096x1024, .f32⟩
  | .hbm, ⟨24, _⟩ => ⟨S16x4096x1536, .f32⟩
  | .hbm, ⟨25, _⟩ => ⟨S16x4096x16, .f32⟩
  | .hbm, ⟨26, _⟩ => ⟨S16x4096x1024, .f32⟩
  | .hbm, ⟨27, _⟩ => ⟨S65536x1024, .f32⟩
  | .hbm, ⟨28, _⟩ => ⟨S65536x1536, .f32⟩
  | .hbm, ⟨29, _⟩ => ⟨S65536x16, .f32⟩
  | .hbm, ⟨30, _⟩ => ⟨S_, .i32⟩
  | .hbm, ⟨31, _⟩ => ⟨S_, .f32⟩
  | .hbm, ⟨32, _⟩ => ⟨S65536x128, .f32⟩
  | .hbm, ⟨33, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel6.lean ====
abbrev S16x4096x1536 : Shape := ⟨3, ![16, 4096, 1536]⟩
abbrev S16x4096x1024 : Shape := ⟨3, ![16, 4096, 1024]⟩
abbrev S16x4096x128 : Shape := ⟨3, ![16, 4096, 128]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x128x1536 : Shape := ⟨3, ![1, 128, 1536]⟩
abbrev S1x128x1024 : Shape := ⟨3, ![1, 128, 1024]⟩
abbrev S1x128x128 : Shape := ⟨3, ![1, 128, 128]⟩
abbrev S136x1536 : Shape := ⟨2, ![136, 1536]⟩
abbrev S2x128x512 : Shape := ⟨3, ![2, 128, 512]⟩
abbrev S8x1536 : Shape := ⟨2, ![8, 1536]⟩
abbrev S128x1536 : Shape := ⟨2, ![128, 1536]⟩
abbrev S128x1024 : Shape := ⟨2, ![128, 1024]⟩
abbrev S128x128 : Shape := ⟨2, ![128, 128]⟩
abbrev S128x1 : Shape := ⟨2, ![128, 1]⟩
abbrev S256x128 : Shape := ⟨2, ![256, 128]⟩
abbrev S128x256 : Shape := ⟨2, ![128, 256]⟩
abbrev S128x512 : Shape := ⟨2, ![128, 512]⟩
abbrev S1x128x512 : Shape := ⟨3, ![1, 128, 512]⟩
abbrev S1x512 : Shape := ⟨2, ![1, 512]⟩

abbrev nBuf : Space → Nat
  | .hbm => 31
  | .vmem => 16
  | .smem => 0
  | _ => 0

abbrev bufTy : (tb : Table) → Fin (tcTables nBuf tb) → BufTy
  | .hbm, ⟨0, _⟩ => ⟨S16x4096x1536, .f32⟩
  | .hbm, ⟨1, _⟩ => ⟨S16x4096x1024, .f32⟩
  | .hbm, ⟨2, _⟩ => ⟨S16x4096x128, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S4x1536, .f32⟩
  | .hbm, ⟨10, _⟩ => ⟨S1536, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S1024, .f32⟩
  | .hbm, ⟨15, _⟩ => ⟨S1x1536, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S16, .f32⟩
  | .hbm, ⟨21, _⟩ => ⟨S16, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S16x64, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S16x4096x1024, .bf16⟩
  | .local _ .vmem, ⟨0, _⟩ => ⟨S1x128x1536, .f32⟩
  | .local _ .vmem, ⟨1, _⟩ => ⟨S1x128x1536, .f32⟩
  | .local _ .vmem, ⟨2, _⟩ => ⟨S1x128x1024, .f32⟩
  | .local _ .vmem, ⟨3, _⟩ => ⟨S1x128x1024, .f32⟩
  | .local _ .vmem, ⟨4, _⟩ => ⟨S1x128x128, .f32⟩
  | .local _ .vmem, ⟨5, _⟩ => ⟨S1x128x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x128x1024, .bf16⟩
  | .local _ .vmem, ⟨13, _⟩ => ⟨S1x128x1024, .bf16⟩
  | .local _ .vmem, ⟨14, _⟩ => ⟨S136x1536, .f32⟩
  | .local _ .vmem, ⟨15, _⟩ => ⟨S2x128x512, .f32⟩
  | _, _ => ⟨S16x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16x4096x1536 : Shape := ⟨3, ![16, 4096, 1536]⟩
abbrev S16x4096x1024 : Shape := ⟨3, ![16, 4096, 1024]⟩
abbrev S16x4096x128 : Shape := ⟨3, ![16, 4096, 128]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S4x1536 : Shape := ⟨2, ![4, 1536]⟩
abbrev S1536 : Shape := ⟨1, ![1536]⟩
abbrev S16 : Shape := ⟨1, ![16]⟩
abbrev S_ : Shape := ⟨0, ![]⟩
abbrev S16x4099x1536 : Shape := ⟨3, ![16, 4099, 1536]⟩
abbrev S1x1x1536 : Shape := ⟨3, ![1, 1, 1536]⟩
abbrev S16x4096x256 : Shape := ⟨3, ![16, 4096, 256]⟩
abbrev S16x4096x16x64 : Shape := ⟨4, ![16, 4096, 16, 64]⟩
abbrev S16x4096x16 : Shape := ⟨3, ![16, 4096, 16]⟩
abbrev S1x1x16 : Shape := ⟨3, ![1, 1, 16]⟩
abbrev S16x4096x2x128 : Shape := ⟨4, ![16, 4096, 2, 128]⟩
abbrev S16x4096x2x8x128 : Shape := ⟨5, ![16, 4096, 2, 8, 128]⟩
abbrev S16x4096x16x128 : Shape := ⟨4, ![16, 4096, 16, 128]⟩
abbrev S16x32x128x16x128 : Shape := ⟨5, ![16, 32, 128, 16, 128]⟩
abbrev S16x4096x16x1 : Shape := ⟨4, ![16, 4096, 16, 1]⟩
abbrev S16x32x128x16x64 : Shape := ⟨5, ![16, 32, 128, 16, 64]⟩
abbrev S16x32x128x16 : Shape := ⟨4, ![16, 32, 128, 16]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S16x32x1x128x16 : Shape := ⟨5, ![16, 32, 1, 128, 16]⟩
abbrev S16x32x128x128x16 : Shape := ⟨5, ![16, 32, 128, 128, 16]⟩
abbrev S16x32x128x1x16 : Shape := ⟨5, ![16, 32, 128, 1, 16]⟩
abbrev S16x32x16x128x128 : Shape := ⟨5, ![16, 32, 16, 128, 128]⟩
abbrev S16x32x16x64x128 : Shape := ⟨5, ![16, 32, 16, 64, 128]⟩
abbrev S16x32x1x16 : Shape := ⟨4, ![16, 32, 1, 16]⟩
abbrev S16x32x128x16x1 : Shape := ⟨5, ![16, 32, 128, 16, 1]⟩
abbrev S16x32x16x128x64 : Shape := ⟨5, ![16, 32, 16, 128, 64]⟩
abbrev S16x32x16 : Shape := ⟨3, ![16, 32, 16]⟩
abbrev S16x1 : Shape := ⟨2, ![16, 1]⟩
abbrev S1x1x16x1 : Shape := ⟨4, ![1, 1, 16, 1]⟩
abbrev S16x16x128x64 : Shape := ⟨4, ![16, 16, 128, 64]⟩
abbrev S32x16x16x128x64 : Shape := ⟨5, ![32, 16, 16, 128, 64]⟩
abbrev S32x16x16 : Shape := ⟨3, ![32, 16, 16]⟩
abbrev S32x16x128x16x128 : Shape := ⟨5, ![32, 16, 128, 16, 128]⟩
abbrev S32x16x128x16 : Shape := ⟨4, ![32, 16, 128, 16]⟩
abbrev S32x16x128x16x64 : Shape := ⟨5, ![32, 16, 128, 16, 64]⟩
abbrev S1x16x16x128x64 : Shape := ⟨5, ![1, 16, 16, 128, 64]⟩
abbrev S1x16x16 : Shape := ⟨3, ![1, 16, 16]⟩
abbrev S16x16 : Shape := ⟨2, ![16, 16]⟩
abbrev S1x16x128x16x128 : Shape := ⟨5, ![1, 16, 128, 16, 128]⟩
abbrev S16x128x16x128 : Shape := ⟨4, ![16, 128, 16, 128]⟩
abbrev S1x16x128x16 : Shape := ⟨4, ![1, 16, 128, 16]⟩
abbrev S16x128x16 : Shape := ⟨3, ![16, 128, 16]⟩
abbrev S1x16x128x16x64 : Shape := ⟨5, ![1, 16, 128, 16, 64]⟩
abbrev S16x128x16x64 : Shape := ⟨4, ![16, 128, 16, 64]⟩
abbrev S16x16x64x128 : Shape := ⟨4, ![16, 16, 64, 128]⟩
abbrev S16x128x16x1 : Shape := ⟨4, ![16, 128, 16, 1]⟩
abbrev S16x16x1x1 : Shape := ⟨4, ![16, 16, 1, 1]⟩
abbrev S16x4096x2x512 : Shape := ⟨4, ![16, 4096, 2, 512]⟩
abbrev S16x4096x2 : Shape := ⟨3, ![16, 4096, 2]⟩
abbrev S16x4096x2x1 : Shape := ⟨4, ![16, 4096, 2, 1]⟩
abbrev S1024 : Shape := ⟨1, ![1024]⟩
abbrev S1x1x1024 : Shape := ⟨3, ![1, 1, 1024]⟩

abbrev nBuf : Space → Nat
  | .hbm => 252
  | .vmem => 0
  | .smem => 0
  | _ => 0

abbrev hbmTy0_0 (i : Nat) : BufTy := match i % 128 with
  | 0 => ⟨S16x4096x1536, .f32⟩
  | 1 => ⟨S16x4096x1024, .f32⟩
  | 2 => ⟨S16x4096x128, .f32⟩
  | 3 => ⟨S1x4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S4x1536, .f32⟩
  | 10 => ⟨S1536, .f32⟩
  | 11 => ⟨S16, .f32⟩
  | 12 => ⟨S16, .f32⟩
  | 13 => ⟨S16, .f32⟩
  | 14 => ⟨S_, .i32⟩
  | 15 => ⟨S_, .f32⟩
  | 16 => ⟨S16x4099x1536, .f32⟩
  | 17 => ⟨S1x1536, .f32⟩
  | 18 => ⟨S1536, .f32⟩
  | 19 => ⟨S16x4096x1536, .f32⟩
  | 20 => ⟨S1x1x1536, .f32⟩
  | 21 => ⟨S16x4096x1536, .f32⟩
  | 22 => ⟨S16x4096x1536, .f32⟩
  | 23 => ⟨S_, .f32⟩
  | 24 => ⟨S16x4096x1536, .f32⟩
  | 25 => ⟨S16x4096x1536, .f32⟩
  | 26 => ⟨S1x1536, .f32⟩
  | 27 => ⟨S1536, .f32⟩
  | 28 => ⟨S16x4096x1536, .f32⟩
  | 29 => ⟨S1x1x1536, .f32⟩
  | 30 => ⟨S16x4096x1536, .f32⟩
  | 31 => ⟨S16x4096x1536, .f32⟩
  | 32 => ⟨S16x4096x1536, .f32⟩
  | 33 => ⟨S1x1536, .f32⟩
  | 34 => ⟨S1536, .f32⟩
  | 35 => ⟨S16x4096x1536, .f32⟩
  | 36 => ⟨S1x1x1536, .f32⟩
  | 37 => ⟨S16x4096x1536, .f32⟩
  | 38 => ⟨S16x4096x1536, .f32⟩
  | 39 => ⟨S16x4096x1536, .f32⟩
  | 40 => ⟨S1x1536, .f32⟩
  | 41 => ⟨S1536, .f32⟩
  | 42 => ⟨S16x4096x1536, .f32⟩
  | 43 => ⟨S1x1x1536, .f32⟩
  | 44 => ⟨S16x4096x1536, .f32⟩
  | 45 => ⟨S16x4096x1536, .f32⟩
  | 46 => ⟨S16x4096x1536, .f32⟩
  | 47 => ⟨S1x1x1536, .f32⟩
  | 48 => ⟨S16x4096x1536, .f32⟩
  | 49 => ⟨S16x4096x1536, .f32⟩
  | 50 => ⟨S16x4096x1536, .f32⟩
  | 51 => ⟨S16x4096x1536, .f32⟩
  | 52 => ⟨S_, .f32⟩
  | 53 => ⟨S16x4096x1536, .f32⟩
  | 54 => ⟨S16x4096x1536, .f32⟩
  | 55 => ⟨S_, .f32⟩
  | 56 => ⟨S16x4096x1536, .f32⟩
  | 57 => ⟨S16x4096x1536, .f32⟩
  | 58 => ⟨S16x4096x1536, .f32⟩
  | 59 => ⟨S16x4096x1024, .f32⟩
  | 60 => ⟨S16x4096x256, .f32⟩
  | 61 => ⟨S16x4096x256, .f32⟩
  | 62 => ⟨S16x4096x16x64, .f32⟩
  | 63 => ⟨S16x4096x16, .f32⟩
  | 64 => ⟨S1x1x16, .f32⟩
  | 65 => ⟨S16x4096x16, .f32⟩
  | 66 => ⟨S16x4096x16, .f32⟩
  | 67 => ⟨S_, .f32⟩
  | 68 => ⟨S16x4096x16, .f32⟩
  | 69 => ⟨S16x4096x16, .f32⟩
  | 70 => ⟨S16x4096x16, .f32⟩
  | 71 => ⟨S16x4096x16, .f32⟩
  | 72 => ⟨S16x4096x16, .i1⟩
  | 73 => ⟨S16x4096x16, .f32⟩
  | 74 => ⟨S16x4096x16, .f32⟩
  | 75 => ⟨S16x4096x16, .f32⟩
  | 76 => ⟨S16x4096x16, .f32⟩
  | 77 => ⟨S16x4096x16, .f32⟩
  | 78 => ⟨S16x4096x16, .f32⟩
  | 79 => ⟨S16x4096x16, .f32⟩
  | 80 => ⟨S16x4096x16, .f32⟩
  | 81 => ⟨S16, .f32⟩
  | 82 => ⟨S16, .f32⟩
  | 83 => ⟨S16x4096x2x128, .f32⟩
  | 84 => ⟨S16x4096x2x8x128, .f32⟩
  | 85 => ⟨S16x4096x16x128, .f32⟩
  | 86 => ⟨S16x32x128x16x128, .f32⟩
  | 87 => ⟨S16x4096x2x128, .f32⟩
  | 88 => ⟨S16x4096x2x8x128, .f32⟩
  | 89 => ⟨S16x4096x16x128, .f32⟩
  | 90 => ⟨S16x32x128x16x128, .f32⟩
  | 91 => ⟨S16x4096x16x1, .f32⟩
  | 92 => ⟨S16x4096x16x64, .f32⟩
  | 93 => ⟨S16x4096x16x64, .f32⟩
  | 94 => ⟨S16x32x128x16x64, .f32⟩
  | 95 => ⟨S1x1x16, .f32⟩
  | 96 => ⟨S16x4096x16, .f32⟩
  | 97 => ⟨S16x4096x16, .f32⟩
  | 98 => ⟨S16x32x128x16, .f32⟩
  | 99 => ⟨S128, .i32⟩
  | 100 => ⟨S128x1, .i32⟩
  | 101 => ⟨S128, .i32⟩
  | 102 => ⟨S1x128, .i32⟩
  | 103 => ⟨S128x128, .i32⟩
  | 104 => ⟨S128x128, .i32⟩
  | 105 => ⟨S128x128, .i1⟩
  | 106 => ⟨S128x128x1, .i1⟩
  | 107 => ⟨S16x32x1x128x16, .f32⟩
  | 108 => ⟨S_, .f32⟩
  | 109 => ⟨S_, .f32⟩
  | 110 => ⟨S16x32x128x128x16, .i1⟩
  | 111 => ⟨S16x32x128x128x16, .f32⟩
  | 112 => ⟨S16x32x128x128x16, .f32⟩
  | 113 => ⟨S16x32x128x128x16, .f32⟩
  | 114 => ⟨S_, .f32⟩
  | 115 => ⟨S16x32x128x16, .f32⟩
  | 116 => ⟨S16x32x128x1x16, .f32⟩
  | 117 => ⟨S16x32x1x128x16, .f32⟩
  | 118 => ⟨S16x32x128x128x16, .f32⟩
  | 119 => ⟨S16x32x128x128x16, .f32⟩
  | 120 => ⟨S16x32x128x128x16, .f32⟩
  | 121 => ⟨S16x32x16x128x128, .f32⟩
  | 122 => ⟨S_, .f32⟩
  | 123 => ⟨S_, .f32⟩
  | 124 => ⟨S16x32x16x128x128, .i1⟩
  | 125 => ⟨S16x32x16x128x128, .f32⟩
  | 126 => ⟨S16x32x16x128x128, .f32⟩
  | 127 => ⟨S16x32x16x128x128, .f32⟩
  | _ => ⟨S16x4096x1536, .f32⟩

abbrev hbmTy0_1 (i : Nat) : BufTy := match i % 128 with
  | 0 => ⟨S_, .f32⟩
  | 1 => ⟨S_, .f32⟩
  | 2 => ⟨S16x32x16x128x128, .i1⟩
  | 3 => ⟨S16x32x16x128x128, .f32⟩
  | 4 => ⟨S16x32x16x128x128, .f32⟩
  | 5 => ⟨S16x32x16x128x128, .f32⟩
  | 6 => ⟨S16x32x16x128x128, .f32⟩
  | 7 => ⟨S16x32x16x64x128, .f32⟩
  | 8 => ⟨S16x32x128x16x64, .f32⟩
  | 9 => ⟨S16x32x1x16, .f32⟩
  | 10 => ⟨S16x32x128x16, .f32⟩
  | 11 => ⟨S16x32x128x16, .f32⟩
  | 12 => ⟨S16x32x128x16, .f32⟩
  | 13 => ⟨S16x32x128x16x1, .f32⟩
  | 14 => ⟨S16x32x128x16x64, .f32⟩
  | 15 => ⟨S16x32x128x16x64, .f32⟩
  | 16 => ⟨S16x32x16x128x64, .f32⟩
  | 17 => ⟨S16x32x1x16, .f32⟩
  | 18 => ⟨S16x32x16, .f32⟩
  | 19 => ⟨S16x32x16, .f32⟩
  | 20 => ⟨S16x1, .f32⟩
  | 21 => ⟨S1x1x16x1, .f32⟩
  | 22 => ⟨S16x4096x16x64, .f32⟩
  | 23 => ⟨S16x4096x16x64, .f32⟩
  | 24 => ⟨S16x32x128x16x64, .f32⟩
  | 25 => ⟨S_, .f32⟩
  | 26 => ⟨S16x16x128x64, .f32⟩
  | 27 => ⟨S32x16x16x128x64, .f32⟩
  | 28 => ⟨S32x16x16, .f32⟩
  | 29 => ⟨S32x16x128x16x128, .f32⟩
  | 30 => ⟨S16x32x128x16, .f32⟩
  | 31 => ⟨S32x16x128x16, .f32⟩
  | 32 => ⟨S16x32x128x16x64, .f32⟩
  | 33 => ⟨S32x16x128x16x64, .f32⟩
  | 34 => ⟨S_, .f32⟩
  | 35 => ⟨S32x16x128x16x64, .f32⟩
  | 36 => ⟨S_, .i32⟩
  | 37 => ⟨S32x16x16x128x64, .f32⟩
  | 38 => ⟨S32x16x16, .f32⟩
  | 39 => ⟨S32x16x128x16x128, .f32⟩
  | 40 => ⟨S32x16x128x16, .f32⟩
  | 41 => ⟨S32x16x128x16x64, .f32⟩
  | 42 => ⟨S_, .i32⟩
  | 43 => ⟨S16x16x128x64, .f32⟩
  | 44 => ⟨S32x16x128x16x64, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x16x16x128x64, .f32⟩
  | 52 => ⟨S16x16x128x64, .f32⟩
  | 53 => ⟨S_, .i32⟩
  | 54 => ⟨S_, .i32⟩
  | 55 => ⟨S1x16x16, .f32⟩
  | 56 => ⟨S16x16, .f32⟩
  | 57 => ⟨S_, .i32⟩
  | 58 => ⟨S_, .i32⟩
  | 59 => ⟨S_, .i32⟩
  | 60 => ⟨S_, .i32⟩
  | 61 => ⟨S1x16x128x16x128, .f32⟩
  | 62 => ⟨S16x128x16x128, .f32⟩
  | 63 => ⟨S_, .i32⟩
  | 64 => ⟨S_, .i32⟩
  | 65 => ⟨S_, .i32⟩
  | 66 => ⟨S1x16x128x16, .f32⟩
  | 67 => ⟨S16x128x16, .f32⟩
  | 68 => ⟨S_, .i32⟩
  | 69 => ⟨S_, .i32⟩
  | 70 => ⟨S_, .i32⟩
  | 71 => ⟨S_, .i32⟩
  | 72 => ⟨S1x16x128x16x64, .f32⟩
  | 73 => ⟨S16x128x16x64, .f32⟩
  | 74 => ⟨S16x16x64x128, .f32⟩
  | 75 => ⟨S16x128x16x64, .f32⟩
  | 76 => ⟨S16x128x16x1, .f32⟩
  | 77 => ⟨S16x128x16x64, .f32⟩
  | 78 => ⟨S16x128x16x64, .f32⟩
  | 79 => ⟨S16x16x1x1, .f32⟩
  | 80 => ⟨S16x16x128x64, .f32⟩
  | 81 => ⟨S16x16x128x64, .f32⟩
  | 82 => ⟨S16x16x128x64, .f32⟩
  | 83 => ⟨S16x128x16x64, .f32⟩
  | 84 => ⟨S1x16x128x16x64, .f32⟩
  | 85 => ⟨S_, .i32⟩
  | 86 => ⟨S_, .i32⟩
  | 87 => ⟨S_, .i32⟩
  | 88 => ⟨S_, .i32⟩
  | 89 => ⟨S32x16x128x16x64, .f32⟩
  | 90 => ⟨S_, .i32⟩
  | 91 => ⟨S_, .i32⟩
  | 92 => ⟨S16x32x128x16x64, .f32⟩
  | 93 => ⟨S16x4096x1024, .f32⟩
  | 94 => ⟨S16x4096x1024, .f32⟩
  | 95 => ⟨S16x4096x1024, .f32⟩
  | 96 => ⟨S_, .f32⟩
  | 97 => ⟨S16x4096x1024, .f32⟩
  | 98 => ⟨S16x4096x1024, .f32⟩
  | 99 => ⟨S_, .f32⟩
  | 100 => ⟨S16x4096x1024, .f32⟩
  | 101 => ⟨S16x4096x1024, .f32⟩
  | 102 => ⟨S16x4096x1024, .f32⟩
  | 103 => ⟨S16x4096x1024, .f32⟩
  | 104 => ⟨S16x4096x2x512, .f32⟩
  | 105 => ⟨S16x4096x2x512, .f32⟩
  | 106 => ⟨S_, .f32⟩
  | 107 => ⟨S16x4096x2, .f32⟩
  | 108 => ⟨S16x4096x2x1, .f32⟩
  | 109 => ⟨S_, .f32⟩
  | 110 => ⟨S16x4096x2x1, .f32⟩
  | 111 => ⟨S16x4096x2x1, .f32⟩
  | 112 => ⟨S_, .f32⟩
  | 113 => ⟨S16x4096x2x1, .f32⟩
  | 114 => ⟨S16x4096x2x1, .f32⟩
  | 115 => ⟨S16x4096x2x1, .f32⟩
  | 116 => ⟨S16x4096x2x512, .f32⟩
  | 117 => ⟨S16x4096x2x512, .f32⟩
  | 118 => ⟨S16x4096x1024, .f32⟩
  | 119 => ⟨S1024, .f32⟩
  | 120 => ⟨S1x1x1024, .f32⟩
  | 121 => ⟨S16x4096x1024, .f32⟩
  | 122 => ⟨S16x4096x1024, .f32⟩
  | 123 => ⟨S16x4096x1024, .bf16⟩
  | _ => ⟨S16x4096x1536, .f32⟩

abbrev hbmTy (i : Nat) : BufTy := match i / 128 with
  | 0 => hbmTy0_0 i
  | 1 => hbmTy0_1 i
  | _ => ⟨S16x4096x1536, .f32⟩

abbrev bufTy : (tb : Table) → Fin (tcTables nBuf tb) → BufTy
  | .hbm, ⟨i, _⟩ => hbmTy i
  | _, _ => ⟨S16x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_0 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_v75 : Ref sig .tc := ⟨.hbm, 113, rfl⟩
abbrev main_cst_1 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_2 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v83 : Ref sig .tc := ⟨.hbm, 126, rfl⟩
abbrev main_v84 : Ref sig .tc := ⟨.hbm, 127, rfl⟩
abbrev main_cst_3 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_4 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_5 : Ref sig .tc := ⟨.hbm, 162, rfl⟩
abbrev main_v114 : Ref sig .tc := ⟨.hbm, 163, rfl⟩
abbrev main_c_6 : Ref sig .tc := ⟨.hbm, 164, rfl⟩
abbrev main_v115_0 : Ref sig .tc := ⟨.hbm, 165, rfl⟩
abbrev main_v115_1 : Ref sig .tc := ⟨.hbm, 166, rfl⟩
abbrev main_v115_2 : Ref sig .tc := ⟨.hbm, 167, rfl⟩
abbrev main_v115_3 : Ref sig .tc := ⟨.hbm, 168, rfl⟩
abbrev main_v115_4 : Ref sig .tc := ⟨.hbm, 169, rfl⟩
abbrev main_v115_5 : Ref sig .tc := ⟨.hbm, 170, rfl⟩
abbrev main_v115_6 : Ref sig .tc := ⟨.hbm, 171, rfl⟩
abbrev main_v115_7 : Ref sig .tc := ⟨.hbm, 172, rfl⟩
abbrev main_while0c_c_17 : Ref sig .tc := ⟨.hbm, 173, rfl⟩
abbrev main_while0c_v137 : Ref sig .tc := ⟨.hbm, 174, rfl⟩
abbrev main_while0b_call6_c : Ref sig .tc := ⟨.hbm, 175, rfl⟩
abbrev main_while0b_call6_c_0 : Ref sig .tc := ⟨.hbm, 176, rfl⟩
abbrev main_while0b_call6_c_1 : Ref sig .tc := ⟨.hbm, 177, rfl⟩
abbrev main_while0b_call6_c_2 : Ref sig .tc := ⟨.hbm, 178, rfl⟩
abbrev main_while0b_call6_v0 : Ref sig .tc := ⟨.hbm, 179, rfl⟩
abbrev main_while0b_v137 : Ref sig .tc := ⟨.hbm, 180, rfl⟩
abbrev main_while0b_call7_c : Ref sig .tc := ⟨.hbm, 181, rfl⟩
abbrev main_while0b_call7_c_0 : Ref sig .tc := ⟨.hbm, 182, rfl⟩
abbrev main_while0b_call7_v0 : Ref sig .tc := ⟨.hbm, 183, rfl⟩
abbrev main_while0b_v138 : Ref sig .tc := ⟨.hbm, 184, rfl⟩
abbrev main_while0b_call8_c : Ref sig .tc := ⟨.hbm, 185, rfl⟩
abbrev main_while0b_call8_c_0 : Ref sig .tc := ⟨.hbm, 186, rfl⟩
abbrev main_while0b_call8_c_1 : Ref sig .tc := ⟨.hbm, 187, rfl⟩
abbrev main_while0b_call8_c_2 : Ref sig .tc := ⟨.hbm, 188, rfl⟩
abbrev main_while0b_call8_v0 : Ref sig .tc := ⟨.hbm, 189, rfl⟩
abbrev main_while0b_v139 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_call9_v0 : Ref sig .tc := ⟨.hbm, 194, rfl⟩
abbrev main_while0b_v140 : Ref sig .tc := ⟨.hbm, 195, rfl⟩
abbrev main_while0b_call10_c : Ref sig .tc := ⟨.hbm, 196, rfl⟩
abbrev main_while0b_call10_c_0 : Ref sig .tc := ⟨.hbm, 197, rfl⟩
abbrev main_while0b_call10_c_1 : Ref sig .tc := ⟨.hbm, 198, rfl⟩
abbrev main_while0b_call10_c_2 : Ref sig .tc := ⟨.hbm, 199, rfl⟩
abbrev main_while0b_call10_v0 : Ref sig .tc := ⟨.hbm, 200, rfl⟩
abbrev main_while0b_v141 : Ref sig .tc := ⟨.hbm, 201, rfl⟩
abbrev main_while0b_v142 : Ref sig .tc := ⟨.hbm, 202, rfl⟩
abbrev main_while0b_v143 : Ref sig .tc := ⟨.hbm, 203, rfl⟩
abbrev main_while0b_v144 : Ref sig .tc := ⟨.hbm, 204, rfl⟩
abbrev main_while0b_v145 : Ref sig .tc := ⟨.hbm, 205, rfl⟩
abbrev main_while0b_v146 : Ref sig .tc := ⟨.hbm, 206, rfl⟩
abbrev main_while0b_v147 : Ref sig .tc := ⟨.hbm, 207, rfl⟩
abbrev main_while0b_v148 : Ref sig .tc := ⟨.hbm, 208, rfl⟩
abbrev main_while0b_v149 : Ref sig .tc := ⟨.hbm, 209, rfl⟩
abbrev main_while0b_v150 : Ref sig .tc := ⟨.hbm, 210, rfl⟩
abbrev main_while0b_v151 : Ref sig .tc := ⟨.hbm, 211, rfl⟩
abbrev main_while0b_call11_v0 : Ref sig .tc := ⟨.hbm, 212, rfl⟩
abbrev main_while0b_call11_c : Ref sig .tc := ⟨.hbm, 213, rfl⟩
abbrev main_while0b_call11_c_0 : Ref sig .tc := ⟨.hbm, 214, rfl⟩
abbrev main_while0b_call11_c_1 : Ref sig .tc := ⟨.hbm, 215, rfl⟩
abbrev main_while0b_call11_c_2 : Ref sig .tc := ⟨.hbm, 216, rfl⟩
abbrev main_while0b_v152 : Ref sig .tc := ⟨.hbm, 217, rfl⟩
abbrev main_while0b_c_17 : Ref sig .tc := ⟨.hbm, 218, rfl⟩
abbrev main_while0b_v153 : Ref sig .tc := ⟨.hbm, 219, rfl⟩
abbrev main_v116 : Ref sig .tc := ⟨.hbm, 220, rfl⟩
abbrev main_v117 : Ref sig .tc := ⟨.hbm, 221, rfl⟩
abbrev main_call12_v0 : Ref sig .tc := ⟨.hbm, 222, rfl⟩
abbrev main_call12_v1 : Ref sig .tc := ⟨.hbm, 223, rfl⟩
abbrev main_call12_cst : Ref sig .tc := ⟨.hbm, 224, rfl⟩
abbrev main_call12_v2 : Ref sig .tc := ⟨.hbm, 225, rfl⟩
abbrev main_call12_v3 : Ref sig .tc := ⟨.hbm, 226, rfl⟩
abbrev main_call12_cst_0 : Ref sig .tc := ⟨.hbm, 227, rfl⟩
abbrev main_call12_v4 : Ref sig .tc := ⟨.hbm, 228, rfl⟩
abbrev main_call12_v5 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_cst_7 : Ref sig .tc := ⟨.hbm, 234, rfl⟩
abbrev main_v122 : Ref sig .tc := ⟨.hbm, 235, rfl⟩
abbrev main_v123 : Ref sig .tc := ⟨.hbm, 236, rfl⟩
abbrev main_cst_8 : Ref sig .tc := ⟨.hbm, 237, rfl⟩
abbrev main_v124 : Ref sig .tc := ⟨.hbm, 238, rfl⟩
abbrev main_v125 : Ref sig .tc := ⟨.hbm, 239, rfl⟩
abbrev main_cst_9 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩

abbrev nD : Nat := 1
abbrev τ : Topo := Topo.v7x

variable {F : FTy → Type} [FloatOps F]

abbrev main_while0_count : Scf.Loop 32 := ⟨0#32, 32#32, 1#32⟩
-- ==== Proof.Lru.Math.lean ====
/- Facts about the extended reals that the recurrence needs: a gate is a real in [0, 1], the logarithm of the decay is
   at most zero, so the decay itself is a real in [0, 1] and distributes over every sum, infinite terms included; the
   two spellings of the input scale agree; and a doubling scan over a tile is the recurrence run step by step. -/
module

public import Idealize.ShloMosaic.PureOps.Ideal
public import Idealize.ShloMosaic.Lib.IdealHost

@[expose] public section

noncomputable section

namespace Cert.Lru

open Idealize.ShloMosaic

/-! ### Scalars -/

/-- The literal -8. -/
theorem lit_neg_eight : Ideal.ofBits .f32 0xC1000000#32 = ((-8 : ℝ) : EReal) := by
  simp [Ideal.ofBits, Ideal.ieee, -EReal.coe_mul]; norm_num

/-- The literal 2. -/
theorem lit_two : Ideal.ofBits .f32 0x40000000#32 = ((2 : ℝ) : EReal) := by
  simp [Ideal.ofBits, Ideal.ieee, -EReal.coe_mul]; norm_num

/-- The logistic function `1 / (1 + exp (-x))`. -/
def sgm (x : EReal) : EReal := Ideal.div 1 (1 + Ideal.exp (-x))

/-- The softplus `max x 0 + log1p (exp (-|x|))`. -/
def soft (x : EReal) : EReal := max x 0 + Ideal.log1p (Ideal.exp (-(max x (-x))))

/-- The exponential is nowhere negative. -/
theorem exp_nonneg (x : EReal) : 0 ≤ Ideal.exp x := by
  induction x with
  | bot => simp
  | top => simp
  | coe r => simpa using (Real.exp_pos r).le

/-- A logistic value is not negative. -/
theorem sgm_nonneg (x : EReal) : 0 ≤ sgm x := by
  have e : sgm x = Ideal.logistic x := rfl
  rw [e]
  induction x with
  | bot => rw [Ideal.logistic_bot]
  | top => rw [Ideal.logistic_top]; exact zero_le_one
  | coe r => rw [Ideal.logistic_coe]; exact_mod_cast (inv_pos.mpr (by positivity)).le

/-- The logarithm of one plus a nonnegative number is not negative. -/
theorem log1p_nonneg {x : EReal} (h : 0 ≤ x) : 0 ≤ Ideal.log1p x := by
  unfold Ideal.log1p
  induction x with
  | bot => simp at h
  | top => rw [EReal.add_top_of_ne_bot (x := 1) (EReal.coe_ne_bot 1), Ideal.log_top]; exact le_top
  | coe r =>
    have hr : 0 ≤ r := by exact_mod_cast h
    have e : (1 : EReal) + (r : EReal) = ((1 + r : ℝ) : EReal) := by push_cast; rfl
    rw [e, Ideal.log_coe, if_neg (by linarith)]
    exact_mod_cast Real.log_nonneg (by linarith)

/-- A softplus value is not negative. -/
theorem soft_nonneg (x : EReal) : 0 ≤ soft x :=
  add_nonneg (le_max_right _ _) (log1p_nonneg (exp_nonneg _))

/-- The logarithm of the decay. -/
def logDecay (r lam : EReal) : EReal := ((-8 : ℝ) : EReal) * r * soft (-lam)

/-- It is at most zero. -/
theorem logDecay_nonpos {r : EReal} (hr : 0 ≤ r) (lam : EReal) : logDecay r lam ≤ 0 := by
  have h8 : ((-8 : ℝ) : EReal) = -((8 : ℝ) : EReal) := by push_cast; rfl
  unfold logDecay
  rw [h8, EReal.neg_mul, EReal.neg_mul, EReal.neg_le]
  simp only [neg_zero]
  exact mul_nonneg (mul_nonneg (by exact_mod_cast (by norm_num : (0:ℝ) ≤ 8)) hr) (soft_nonneg _)

/-- The exponential of a nonpositive number is finite. -/
theorem exp_ne_top {x : EReal} (h : x ≤ 0) : Ideal.exp x ≠ ⊤ := by
  induction x with
  | bot => simp
  | top => simp at h
  | coe r => simp

/-- The two spellings of the squared input scale: `-tanh L (exp L² + 1)` is `-(exp (2 L) - 1)` for `L ≤ 0`. -/
theorem scale_eq {L : EReal} (h : L ≤ 0) :
    (0 - Ideal.tanh L) * (Ideal.exp L * Ideal.exp L + 1) = -(Ideal.exp (((2 : ℝ) : EReal) * L) - 1) := by
  induction L with
  | bot =>
    have e : ((2 : ℝ) : EReal) * ⊥ = ⊥ := EReal.coe_mul_bot_of_pos (by norm_num)
    rw [e]; simp
  | top => simp at h
  | coe r =>
    have e1 : (1 : EReal) = ((1 : ℝ) : EReal) := rfl
    have e0 : (0 : EReal) = ((0 : ℝ) : EReal) := rfl
    rw [← EReal.coe_mul, Ideal.tanh_coe, Ideal.exp_coe, Ideal.exp_coe, e1, e0, ← EReal.coe_sub, ← EReal.coe_mul,
      ← EReal.coe_add, ← EReal.coe_mul, ← EReal.coe_sub, ← EReal.coe_neg]
    congr 1
    have hp : (0 : ℝ) < Real.exp r := Real.exp_pos r
    rw [Real.tanh_eq_sinh_div_cosh, Real.sinh_eq, Real.cosh_eq, two_mul, Real.exp_add, Real.exp_neg]
    field_simp
    ring

/-! ### The recurrence and the doubling scan -/

/-- `n` steps of `h ↦ a h + u` from position `s`. -/
def run (a u : ℕ → EReal) (s : ℕ) : ℕ → EReal → EReal
  | 0, h => h
  | n + 1, h => a (s + n) * run a u s n h + u (s + n)

/-- Steps compose. -/
theorem run_add (a u : ℕ → EReal) (s m n : ℕ) (h : EReal) :
    run a u s (m + n) h = run a u (s + m) n (run a u s m h) := by
  induction n with
  | zero => rfl
  | succ n ih =>
    show a (s + (m + n)) * run a u s (m + n) h + u (s + (m + n)) = _
    rw [ih, ← Nat.add_assoc]; rfl

/-- The steps from a shifted origin. -/
theorem run_shift (a u : ℕ → EReal) (o s n : ℕ) (h : EReal) :
    run (fun k => a (o + k)) (fun k => u (o + k)) s n h = run a u (o + s) n h := by
  induction n with
  | zero => rfl
  | succ n ih =>
    show a (o + (s + n)) * run _ _ s n h + u (o + (s + n)) = _
    rw [ih, ← Nat.add_assoc]; rfl

/-- Steps depend on the coefficients they pass only. -/
theorem run_congr {a u a' u' : ℕ → EReal} (s n : ℕ) (ha : ∀ k, s ≤ k → k < s + n → a k = a' k)
    (hu : ∀ k, s ≤ k → k < s + n → u k = u' k) (h : EReal) : run a u s n h = run a' u' s n h := by
  induction n with
  | zero => rfl
  | succ n ih =>
    show a (s + n) * run a u s n h + u (s + n) = a' (s + n) * run a' u' s n h + u' (s + n)
    rw [ih (fun k h1 h2 => ha k h1 (by omega)) (fun k h1 h2 => hu k h1 (by omega)), ha _ (by omega) (by omega),
      hu _ (by omega) (by omega)]

/-- What the scan holds after the stages below `d`: row `r` carries the composite of the last `d` steps that end at
    `r`, or of all the steps from row 0 where there are fewer. -/
structure Covers (a u : ℕ → EReal) (N d : ℕ) (A U : ℕ → EReal) : Prop where
  nonneg : ∀ r, r < N → 0 ≤ A r
  ne_top : ∀ r, r < N → A r ≠ ⊤
  comp : ∀ r, r < N → ∀ h, A r * h + U r = run a u (r + 1 - d) (min d (r + 1)) h

/-- Before the first stage: one step. -/
theorem Covers.start {a u : ℕ → EReal} {N : ℕ} (h0 : ∀ r, r < N → 0 ≤ a r) (h1 : ∀ r, r < N → a r ≠ ⊤) :
    Covers a u N 1 a u := by
  refine ⟨h0, h1, fun r _ h => ?_⟩
  rw [Nat.add_sub_cancel, Nat.min_eq_left (by omega)]
  rfl

/-- A product of two finite nonnegative numbers is finite. -/
theorem mul_ne_top_of {x y : EReal} (hx : 0 ≤ x) (hx' : x ≠ ⊤) (hy : 0 ≤ y) (hy' : y ≠ ⊤) : x * y ≠ ⊤ := by
  induction x with
  | bot => simp at hx
  | top => exact absurd rfl hx'
  | coe a =>
    induction y with
    | bot => simp at hy
    | top => exact absurd rfl hy'
    | coe b => rw [← EReal.coe_mul]; exact EReal.coe_ne_top _

/-- One stage doubles the reach. -/
theorem Covers.double {a u : ℕ → EReal} {N d : ℕ} {A U A' U' : ℕ → EReal} (H : Covers a u N d A U)
    (hA : ∀ r, r < N → A' r = A r * (if d ≤ r then A (r - d) else 1))
    (hU : ∀ r, r < N → U' r = A r * (if d ≤ r then U (r - d) else 0) + U r) :
    Covers a u N (d + d) A' U' := by
  refine ⟨fun r hr => ?_, fun r hr => ?_, fun r hr h => ?_⟩
  · rw [hA r hr]
    split_ifs with c
    · exact mul_nonneg (H.nonneg r hr) (H.nonneg _ (by omega))
    · rw [mul_one]; exact H.nonneg r hr
  · rw [hA r hr]
    split_ifs with c
    · exact mul_ne_top_of (H.nonneg r hr) (H.ne_top r hr) (H.nonneg _ (by omega)) (H.ne_top _ (by omega))
    · rw [mul_one]; exact H.ne_top r hr
  · rw [hA r hr, hU r hr]
    split_ifs with c
    · rw [mul_assoc, ← add_assoc, ← EReal.left_distrib_of_nonneg_of_ne_top (H.nonneg r hr) (H.ne_top r hr),
        H.comp (r - d) (by omega) h, H.comp r hr]
      have e1 : min d (r + 1) = d := by omega
      have e2 : r + 1 - d = (r - d + 1 - d) + min d (r - d + 1) := by omega
      have e3 : min (d + d) (r + 1) = min d (r - d + 1) + d := by omega
      have e4 : r + 1 - (d + d) = r - d + 1 - d := by omega
      rw [e1, e3, e4, run_add, ← e2]
    · rw [mul_one, mul_zero, zero_add, H.comp r hr]
      have e1 : min (d + d) (r + 1) = min d (r + 1) := by omega
      have e2 : r + 1 - (d + d) = r + 1 - d := by omega
      rw [e1, e2]

/-- After all stages a row carries every step from row 0. -/
theorem Covers.full {a u : ℕ → EReal} {N d : ℕ} {A U : ℕ → EReal} (H : Covers a u N d A U) (hd : N ≤ d) {r : ℕ}
    (hr : r < N) (h : EReal) : U r + A r * h = run a u 0 (r + 1) h := by
  rw [add_comm, H.comp r hr]
  have e1 : min d (r + 1) = r + 1 := by omega
  have e2 : r + 1 - d = 0 := by omega
  rw [e1, e2]

end Cert.Lru

end
-- ==== Proof.Lru.Stage.lean ====
module

public import proofs.«01_k».proof.Proof.Gen.KernelIdeal.Skeleton
public import proofs.«01_k».proof.Proof.Lru.Math
public import Idealize.ShloMosaic.Lib.Pointwise

/-! # The kernel's doubling scan over the rows of one tile

Eight stages with distances 1, 2, 4, …, 128: each multiplies the decays and folds the inputs of the rows `d` above. -/

@[expose] public section

noncomputable section

namespace Cert.Lru.Ker

open Idealize Idealize.ShloMosaic
open Cert.KernelIdeal Cert.KernelIdeal.Gen

set_option maxRecDepth 100000

/-- A tile of rows. -/
abbrev Tile : Type := FVec Ideal S256x512 .f32

/-- Which rows have a row `d` above them in the tile. -/
def keep (d : BitVec 32) : IVec S256x512 1 :=
  cmpi .sge (iota .tc S256x512 32 [0] iota_S256x512_d0_w32) (broadcast S256x512 d)

/-- One stage's decays. -/
def stA (d : BitVec 32) (A : Tile) : Tile :=
  mulf A (select (keep d) (dynamicRotate 0 d none A rotates_S256x512_d0)
    (broadcast S256x512 (Scalar.ofBits .f32 0x3F800000#32)))

/-- One stage's inputs. -/
def stU (d : BitVec 32) (A U : Tile) : Tile :=
  addf (mulf A (select (keep d) (dynamicRotate 0 d none U rotates_S256x512_d0)
    (broadcast S256x512 (Scalar.ofBits .f32 0x00000000#32)))) U

theorem keep_apply (d : ℕ) (hd : d < 256) (r : Fin 256) (j : Fin 512) :
    keep (BitVec.ofNat 32 d) (ix2 r j) = if d ≤ r.val then 1#1 else 0#1 := by
  pointwise [keep]
  have e (n : ℕ) (hn : n < 256) : (BitVec.ofNat 32 n).toInt = n := by
    have t : (BitVec.ofNat 32 n).toNat = n := by rw [BitVec.toNat_ofNat]; omega
    rw [BitVec.toInt_eq_toNat_cond, t, if_pos (by omega)]
  show BitVec.ofBool (decide ((BitVec.ofNat 32 d).toInt ≤ (BitVec.ofNat 32 r.val).toInt)) = _
  rw [e d hd, e r.val r.isLt]
  by_cases h : d ≤ r.val
  · rw [if_pos h, decide_eq_true (by omega)]; rfl
  · rw [if_neg h, decide_eq_false (by omega)]; rfl

/-- The row a rotation reads. -/
theorem rot_row (d : ℕ) (hd : d < 256) (r : ℕ) (hr : r < 256) (h : d ≤ r) :
    (r + 256 - (BitVec.ofNat 32 d).toNat % 256) % 256 = r - d := by
  rw [BitVec.toNat_ofNat]
  omega

theorem stA_apply (d : ℕ) (hd : d < 256) (A : Tile) (r : Fin 256) (j : Fin 512) :
    stA (BitVec.ofNat 32 d) A (ix2 r j)
      = A (ix2 r j) * (if h : d ≤ r.val then A (ix2 ⟨r.val - d, by omega⟩ j) else 1) := by
  pointwise [stA]
  rw [keep_apply d hd]
  by_cases h : d ≤ r.val
  · rw [if_pos h, dif_pos h]
    simp only [rot_row d hd r.val r.isLt h]
    rfl
  · rw [if_neg h, dif_neg h]
    rfl

theorem stU_apply (d : ℕ) (hd : d < 256) (A U : Tile) (r : Fin 256) (j : Fin 512) :
    stU (BitVec.ofNat 32 d) A U (ix2 r j)
      = A (ix2 r j) * (if h : d ≤ r.val then U (ix2 ⟨r.val - d, by omega⟩ j) else 0) + U (ix2 r j) := by
  pointwise [stU]
  rw [keep_apply d hd]
  by_cases h : d ≤ r.val
  · rw [if_pos h, dif_pos h]
    simp only [rot_row d hd r.val r.isLt h]
    rfl
  · rw [if_neg h, dif_neg h, mul_zero]
    rfl

/-- One column of a tile. -/
def col (T : Tile) (j : Fin 512) (r : ℕ) : EReal := if h : r < 256 then T (ix2 ⟨r, h⟩ j) else 0

theorem col_of (T : Tile) (j : Fin 512) (r : Fin 256) : col T j r.val = T (ix2 r j) := dif_pos r.isLt

/-- A stage doubles the number of steps each row covers. -/
theorem covers_stage {a u : ℕ → EReal} {d : ℕ} (hd : d < 256) {A U : Tile} {j : Fin 512}
    (H : Covers a u 256 d (col A j) (col U j)) :
    Covers a u 256 (d + d) (col (stA (BitVec.ofNat 32 d) A) j) (col (stU (BitVec.ofNat 32 d) A U) j) := by
  refine H.double (fun r hr => ?_) (fun r hr => ?_)
  · have e := stA_apply d hd A ⟨r, hr⟩ j
    rw [← col_of (stA (BitVec.ofNat 32 d) A) j ⟨r, hr⟩, ← col_of A j ⟨r, hr⟩] at e
    refine e.trans (congrArg _ ?_)
    split_ifs with h
    · exact (col_of A j ⟨r - d, by omega⟩).symm
    · rfl
  · have e := stU_apply d hd A U ⟨r, hr⟩ j
    rw [← col_of (stU (BitVec.ofNat 32 d) A U) j ⟨r, hr⟩, ← col_of A j ⟨r, hr⟩, ← col_of U j ⟨r, hr⟩] at e
    refine e.trans (congrArg (· + _) (congrArg _ ?_))
    split_ifs with h
    · exact (col_of U j ⟨r - d, by omega⟩).symm
    · rfl

/-- The decays and inputs after `k` stages. -/
def levels (a u : Tile) : ℕ → Tile × Tile
  | 0 => (a, u)
  | k + 1 => (stA (BitVec.ofNat 32 (2 ^ k)) (levels a u k).1, stU (BitVec.ofNat 32 (2 ^ k)) (levels a u k).1 (levels a u k).2)

theorem covers_levels (a u : Tile) (j : Fin 512) (h0 : ∀ r, 0 ≤ a (ix2 r j)) (h1 : ∀ r, a (ix2 r j) ≠ ⊤) (k : ℕ) (hk : k ≤ 8) :
    Covers (col a j) (col u j) 256 (2 ^ k) (col (levels a u k).1 j) (col (levels a u k).2 j) := by
  induction k with
  | zero =>
    exact Covers.start (fun r hr => by rw [show r = (⟨r, hr⟩ : Fin 256).val from rfl, col_of]; exact h0 _)
      (fun r hr => by rw [show r = (⟨r, hr⟩ : Fin 256).val from rfl, col_of]; exact h1 _)
  | succ k ih =>
    have hp : 2 ^ k < 256 := by
      calc 2 ^ k ≤ 2 ^ 7 := Nat.pow_le_pow_right (by omega) (by omega)
        _ < 256 := by decide
    have := covers_stage hp (ih (by omega))
    rwa [show 2 ^ k + 2 ^ k = 2 ^ (k + 1) by ring] at this

/-- The states of the tile's rows, from the decays, the inputs and the state before the tile. -/
def states (a u : Tile) (h : Vec Ideal S1x512 .f32) : Tile :=
  addf (levels a u 8).2 (mulf (levels a u 8).1
    (broadcastTo S256x512 h broadcasts_S1x512_S256x512))

/-- They are the recurrence's. -/
theorem states_apply (a u : Tile) (h : Vec Ideal S1x512 .f32) (r : Fin 256) (j : Fin 512) (h0 : ∀ r, 0 ≤ a (ix2 r j))
    (h1 : ∀ r, a (ix2 r j) ≠ ⊤) :
    states a u h (ix2 r j) = run (col a j) (col u j) 0 (r.val + 1) (h (ix2 0 j)) := by
  have H := (covers_levels a u j h0 h1 8 le_rfl).full (by decide) r.isLt (h (ix2 0 j))
  rw [← H, col_of, col_of]
  pointwise [states]

theorem a2_eq (v55 : Tile) (v72 : Vec Ideal S1x512 .f32) :
    k0_pay22 (k0_pay18 v55 v72) k0_pay19 (k0_pay20 v55 v72) k0_pay21 = stA 2#32 (k0_pay18 v55 v72) := rfl

theorem a3_eq (v108 : Tile) (v110) (v111 v112 : Tile) :
    k0_pay24 (iota Kind.tc S256x512 32 [0] iota_S256x512_d0_w32) v108 v110 v111 v112 = stA 4#32 (k0_pay22 v108 v110 v111 v112) := rfl

theorem a4_eq (v108 : Tile) (v110) (v111 v112 : Tile) :
    k0_pay26 (iota Kind.tc S256x512 32 [0] iota_S256x512_d0_w32) v108 v110 v111 v112 = stA 8#32 (k0_pay24 (iota Kind.tc S256x512 32 [0] iota_S256x512_d0_w32) v108 v110 v111 v112) := rfl

theorem a5_eq (v108 : Tile) (v110) (v111 v112 : Tile) :
    k0_pay29 (iota Kind.tc S256x512 32 [0] iota_S256x512_d0_w32) v108 v110 v111 v112 = stA 16#32 (k0_pay26 (iota Kind.tc S256x512 32 [0] iota_S256x512_d0_w32) v108 v110 v111 v112) := rfl

theorem u5_eq (u1 v108 v111 v112 : Tile) :
    k0_pay28 (iota Kind.tc S256x512 32 [0] iota_S256x512_d0_w32) u1 v108 k0_pay19 v111 v112
      = stU 16#32 (k0_pay26 (iota Kind.tc S256x512 32 [0] iota_S256x512_d0_w32) v108 k0_pay19 v111 v112) (stU 8#32 (k0_pay24 (iota Kind.tc S256x512 32 [0] iota_S256x512_d0_w32) v108 k0_pay19 v111 v112)
        (stU 4#32 (k0_pay22 v108 k0_pay19 v111 v112) (stU 2#32 v108 u1))) := rfl

theorem out_eq (u5 a5 : Tile) (h : Vec Ideal S1x512 .f32) :
    k0_pay31 (iota Kind.tc S256x512 32 [0] iota_S256x512_d0_w32) u5 a5 (k0_pay30 (iota Kind.tc S256x512 32 [0] iota_S256x512_d0_w32)) h
      = addf (stU 128#32 (stA 64#32 (stA 32#32 a5)) (stU 64#32 (stA 32#32 a5) (stU 32#32 a5 u5)))
          (mulf (stA 128#32 (stA 64#32 (stA 32#32 a5)))
            (broadcastTo S256x512 h broadcasts_S1x512_S256x512)) := rfl

theorem states_eq (a u : Tile) (h : Vec Ideal S1x512 .f32) (a3 a5 : Tile) (u5 : Tile)
    (e3 : a3 = stA 4#32 (stA 2#32 (stA 1#32 a))) (e5 : a5 = stA 16#32 (stA 8#32 a3))
    (f5 : u5 = stU 16#32 (stA 8#32 a3) (stU 8#32 a3 (stU 4#32 (stA 2#32 (stA 1#32 a)) (stU 2#32 (stA 1#32 a) (stU 1#32 a u))))) :
    states a u h = addf (stU 128#32 (stA 64#32 (stA 32#32 a5)) (stU 64#32 (stA 32#32 a5) (stU 32#32 a5 u5)))
          (mulf (stA 128#32 (stA 64#32 (stA 32#32 a5)))
            (broadcastTo S256x512 h broadcasts_S1x512_S256x512)) := by
  subst f5 e5 e3
  simp only [states, levels, Nat.reducePow]

/-- The kernel's last part is the scan's last three stages, over its first five. -/
theorem scan_eq (v36 v55 v67 v68 : Tile) (v72 h : Vec Ideal S1x512 .f32) (u : Tile)
    (hu : k0_pay17 v36 v55 v67 v68 v72 = stU 1#32 (k0_pay15 v55 v72) u) :
    k0_pay31 (iota Kind.tc S256x512 32 [0] iota_S256x512_d0_w32) (k0_pay28 (iota Kind.tc S256x512 32 [0] iota_S256x512_d0_w32) (k0_pay17 v36 v55 v67 v68 v72) (k0_pay18 v55 v72) k0_pay19 (k0_pay20 v55 v72) k0_pay21)
      (k0_pay29 (iota Kind.tc S256x512 32 [0] iota_S256x512_d0_w32) (k0_pay18 v55 v72) k0_pay19 (k0_pay20 v55 v72) k0_pay21) (k0_pay30 (iota Kind.tc S256x512 32 [0] iota_S256x512_d0_w32)) h
    = states (k0_pay15 v55 v72) u h := by
  rw [out_eq, u5_eq, a5_eq, a4_eq, a3_eq, a2_eq, hu, show k0_pay18 v55 v72 = stA 1#32 (k0_pay15 v55 v72) from rfl]
  exact (states_eq _ _ _ _ _ _ rfl rfl rfl).symm

end Cert.Lru.Ker
-- ==== Proof.Lru.Spec.lean ====
/- The recurrence as plain mathematics: for each batch entry and channel, a convolution of four taps, two gates that
   are block-diagonal by head, a decay and an input per position, the state after each position, and the gated output. -/
module

public import proofs.«01_k».proof.Proof.Lru.Math
public import Idealize.ShloMosaic.Lib.Pointwise

@[expose] public section

noncomputable section

namespace Cert.Lru

open Idealize.ShloMosaic

/-- Arrays of the sizes that occur, with extended real entries. -/
abbrev Seq : Type := (⟨3, ![16, 4096, 512]⟩ : Shape).Idx → EReal
/-- The four taps. -/
abbrev Taps : Type := (⟨3, ![1, 4, 512]⟩ : Shape).Idx → EReal
/-- A row of 512 channels. -/
abbrev Row : Type := (⟨2, ![1, 512]⟩ : Shape).Idx → EReal
/-- Gate weights by head. -/
abbrev Heads : Type := (⟨4, ![1, 8, 64, 64]⟩ : Shape).Idx → EReal

/-- Entry `n` of the sequence with three zeros before it. -/
def xpad (x : Seq) (b : Fin 16) (n : ℕ) (j : Fin 512) : EReal :=
  if h : 3 ≤ n ∧ n - 3 < 4096 then x (ix3 b ⟨n - 3, h.2⟩ j) else 0

/-- The causal convolution at position `s`. -/
def conv (x : Seq) (cw : Taps) (cb : Row) (b : Fin 16) (s : ℕ) (j : Fin 512) : EReal :=
  cw (ix3 0 0 j) * xpad x b s j + cw (ix3 0 1 j) * xpad x b (s + 1) j + cw (ix3 0 2 j) * xpad x b (s + 2) j
    + cw (ix3 0 3 j) * xpad x b (s + 3) j + cb (ix2 0 j)

/-- A gate before the logistic function: channel `j` sees the 64 channels of its head. -/
def pre (c : Fin 512 → EReal) (w : Heads) (bias : Row) (j : Fin 512) : EReal :=
  (∑ i : Fin 64, w (ix4 0 ⟨j.val / 64, by omega⟩ i ⟨j.val % 64, by omega⟩) * c ⟨j.val / 64 * 64 + i.val, by omega⟩)
    + bias (ix2 0 j)

/-- The logarithm of the decay, from the convolved row. -/
def logA (c : Fin 512 → EReal) (wa : Heads) (ba lam : Row) (j : Fin 512) : EReal :=
  logDecay (sgm (pre c wa ba j)) (lam (ix2 0 j))

/-- The decay. -/
def decay (c : Fin 512 → EReal) (wa : Heads) (ba lam : Row) (j : Fin 512) : EReal := Ideal.exp (logA c wa ba lam j)

/-- The input. -/
def inp (c : Fin 512 → EReal) (wa : Heads) (ba : Row) (wx : Heads) (bx lam : Row) (j : Fin 512) : EReal :=
  Ideal.sqrt (-(Ideal.exp (((2 : ℝ) : EReal) * logA c wa ba lam j) - 1)) * (sgm (pre c wx bx j) * c j)

/-- The state after `n` positions. -/
def state (x : Seq) (cw : Taps) (cb : Row) (wa : Heads) (ba : Row) (wx : Heads) (bx lam : Row) (b : Fin 16)
    (j : Fin 512) (n : ℕ) : EReal :=
  run (fun s => decay (conv x cw cb b s) wa ba lam j) (fun s => inp (conv x cw cb b s) wa ba wx bx lam j) 0 n 0

/-- The gate on the output: gelu in its tanh form. -/
def gelu (g : EReal) : EReal :=
  g * (Ideal.ofBits .f32 0x3F000000#32 * (1 + Ideal.tanh (Ideal.ofBits .f32 0x3F4C422A#32
    * (g + Ideal.ofBits .f32 0x3D372713#32 * (g * g * g)))))

/-- The output at position `s`. -/
def out (x gate : Seq) (cw : Taps) (cb : Row) (wa : Heads) (ba : Row) (wx : Heads) (bx lam : Row) (b : Fin 16)
    (s : Fin 4096) (j : Fin 512) : EReal :=
  state x cw cb wa ba wx bx lam b j (s.val + 1) * gelu (gate (ix3 b s j))

end Cert.Lru

end
-- ==== Proof.Lru.Tile.lean ====
module

public import proofs.«01_k».proof.Proof.Lru.Stage
public import proofs.«01_k».proof.Proof.Lru.Spec

/-! # One tile of the recurrence, entry by entry -/

@[expose] public section

noncomputable section

namespace Cert.Lru.Ker

open Idealize Idealize.ShloMosaic
open Cert.KernelIdeal Cert.KernelIdeal.Gen

set_option maxRecDepth 100000

/-- The convolution of one row, from the eight rows above the tile and the tile. -/
theorem conv_tile (v8 v10 v17 v23 v29 : Vec Ideal S1x512 .f32) (v12 v19 v25 v31 : Vec Ideal S256x512 .f32) (r : Fin 256) (j : Fin 512) :
    k0_pay8 (k0_pay5 v8) (k0_pay6 v10 v12 v17 v19 v23 v25) (k0_pay7 v29) v31 (ix2 r j)
      = v10 (ix2 0 j) * v12 (ix2 r j) + v17 (ix2 0 j) * v19 (ix2 r j) + v23 (ix2 0 j) * v25 (ix2 r j)
        + v29 (ix2 0 j) * v31 (ix2 r j) + v8 (ix2 0 j) := by
  unfold_payloads
  pointwise []
  exact add_comm _ _

/-- A sum over 512 channels that only one head's 64 channels enter. -/
theorem sum_head (f : Fin 512 → EReal) (q : Fin 8) (hf : ∀ k : Fin 512, k.val / 64 ≠ q.val → f k = 0) :
    ∑ k, f k = ∑ i : Fin 64, f ⟨q.val * 64 + i.val, by omega⟩ := by
  rw [← Equiv.sum_comp (finProdFinEquiv : Fin 8 × Fin 64 ≃ Fin 512) f, Fintype.sum_prod_type, Finset.sum_eq_single q]
  · refine Finset.sum_congr rfl fun i _ => congrArg f (Fin.ext ?_)
    show i.val + 64 * q.val = q.val * 64 + i.val
    omega
  · intro p _ hp
    refine Finset.sum_eq_zero fun i _ => hf _ ?_
    show (i.val + 64 * p.val) / 64 ≠ q.val
    have := i.isLt
    intro h
    exact hp (Fin.ext (by omega))
  · intro h
    exact absurd (Finset.mem_univ q) h

/-- Weights of the 512 channels that hold the heads' on the diagonal and zero elsewhere. -/
def BlockDiag (W : Vec Ideal S512x512 .bf16) (w : Heads) : Prop :=
  ∀ k j : Fin 512, W (ix2 k j)
    = if k.val / 64 = j.val / 64 then w (ix4 0 ⟨j.val / 64, by omega⟩ ⟨k.val % 64, by omega⟩ ⟨j.val % 64, by omega⟩) else 0

/-- The product with such weights is each head's own product. -/
theorem dot_head {W : Vec Ideal S512x512 .bf16} {w : Heads} (hW : BlockDiag W w) (c : Fin 512 → EReal) (bias : Row) (j : Fin 512) :
    ∑ k, c k * W (ix2 k j) + bias (ix2 0 j) = pre c w bias j := by
  unfold pre
  rw [sum_head _ ⟨j.val / 64, by omega⟩ (fun k hk => by rw [hW, if_neg hk, mul_zero])]
  refine congrArg (· + _) (Finset.sum_congr rfl fun i _ => ?_)
  have h1 : (j.val / 64 * 64 + i.val) / 64 = j.val / 64 := by omega
  have h2 : (j.val / 64 * 64 + i.val) % 64 = i.val := by omega
  rw [hW, if_pos h1, mul_comm]
  simp only [h2]

/-- The recurrence gate. -/
theorem rec_tile (v9 v30 : FVec Ideal S1x512 .f32) (v28 : Tile) (v31 : Vec Ideal S256x512 .f32) (W : Vec Ideal S512x512 .bf16) (bias : Row)
    (w : Heads) (hW : BlockDiag W w) (C : ℕ → Fin 512 → EReal) (hC : ∀ (r : Fin 256) (j : Fin 512), k0_pay8 v9 v28 v30 v31 (ix2 r j) = C r.val j)
    (r : Fin 256) (j : Fin 512) : k0_pay11 v9 v28 v30 v31 W bias (ix2 r j) = sgm (pre (C r.val) w bias j) := by
  unfold k0_pay11 k0_pay10
  generalize k0_pay8 v9 v28 v30 v31 = X at hC
  pointwise []
  simp only [hC, dot_head hW, zero_sub]
  rfl

/-- The input gate's denominator. -/
theorem den_tile (v9 v30 : FVec Ideal S1x512 .f32) (v28 : Tile) (v31 : Vec Ideal S256x512 .f32) (W : Vec Ideal S512x512 .bf16) (bias : Row)
    (w : Heads) (hW : BlockDiag W w) (C : ℕ → Fin 512 → EReal) (hC : ∀ (r : Fin 256) (j : Fin 512), k0_pay8 v9 v28 v30 v31 (ix2 r j) = C r.val j)
    (r : Fin 256) (j : Fin 512) : k0_pay12 v9 v28 v30 v31 W bias (ix2 r j) = 1 + Ideal.exp (-pre (C r.val) w bias j) := by
  unfold k0_pay12 k0_pay10
  generalize k0_pay8 v9 v28 v30 v31 = X at hC
  pointwise []
  simp only [hC, dot_head hW, zero_sub]

theorem log_tile (R : Tile) (lam : Vec Ideal S1x512 .f32) (r : Fin 256) (j : Fin 512) :
    k0_pay14 R lam (ix2 r j) = logDecay (R (ix2 r j)) (lam (ix2 0 j)) := by
  pointwise [k0_pay14]
  simp only [zero_sub, lit_neg_eight]
  rfl

theorem decay_tile (R : Tile) (lam : Vec Ideal S1x512 .f32) (r : Fin 256) (j : Fin 512) :
    k0_pay15 R lam (ix2 r j) = Ideal.exp (logDecay (R (ix2 r j)) (lam (ix2 0 j))) := by
  rw [← log_tile]
  pointwise [k0_pay15]

/-- The inputs of the scan. -/
def inVec (X R D one : Tile) (lam : Vec Ideal S1x512 .f32) : Tile :=
  mulf (sqrt (mulf (subf (broadcast S256x512 (Scalar.ofBits .f32 0x00000000#32)) (tanh (k0_pay14 R lam)))
    (addf (mulf (k0_pay15 R lam) (k0_pay15 R lam)) (broadcast S256x512 (Scalar.ofBits .f32 0x3F800000#32))))) (mulf (divf one D) X)

theorem first_stage (X R D one : Tile) (lam : Vec Ideal S1x512 .f32) :
    k0_pay17 X R D one lam = stU 1#32 (k0_pay15 R lam) (inVec X R D one lam) := rfl

theorem in_tile (X R D one : Tile) (lam : Vec Ideal S1x512 .f32) (r : Fin 256) (j : Fin 512) (hR : 0 ≤ R (ix2 r j)) :
    inVec X R D one lam (ix2 r j)
      = Ideal.sqrt (-(Ideal.exp (((2 : ℝ) : EReal) * logDecay (R (ix2 r j)) (lam (ix2 0 j))) - 1))
        * (Ideal.div (one (ix2 r j)) (D (ix2 r j)) * X (ix2 r j)) := by
  pointwise [inVec]
  rw [decay_tile, log_tile, scale_eq (logDecay_nonpos hR _)]

/-- The states of a tile's rows, from its convolved rows and the state before it. -/
theorem states_tile (v9 v30 : FVec Ideal S1x512 .f32) (v28 : Tile) (v31 : Vec Ideal S256x512 .f32) (Wa Wx : Vec Ideal S512x512 .bf16)
    (ba bx lam : Row) (wa wx : Heads) (hWa : BlockDiag Wa wa) (hWx : BlockDiag Wx wx) (C : ℕ → Fin 512 → EReal)
    (hC : ∀ (r : Fin 256) (j : Fin 512), k0_pay8 v9 v28 v30 v31 (ix2 r j) = C r.val j) (h : Vec Ideal S1x512 .f32)
    (r : Fin 256) (j : Fin 512) :
    states (k0_pay15 (k0_pay11 v9 v28 v30 v31 Wa ba) lam)
        (inVec (k0_pay8 v9 v28 v30 v31) (k0_pay11 v9 v28 v30 v31 Wa ba) (k0_pay12 v9 v28 v30 v31 Wx bx) k0_pay13 lam) h (ix2 r j)
      = run (fun s => decay (C s) wa ba lam j) (fun s => inp (C s) wa ba wx bx lam j) 0 (r.val + 1) (h (ix2 0 j)) := by
  have eR := rec_tile v9 v30 v28 v31 Wa ba wa hWa C hC
  have eD := den_tile v9 v30 v28 v31 Wx bx wx hWx C hC
  have e1 (r : Fin 256) (j : Fin 512) : (k0_pay13 : Tile) (ix2 r j) = 1 := by pointwise [k0_pay13]
  have hd (r : Fin 256) : k0_pay15 (k0_pay11 v9 v28 v30 v31 Wa ba) lam (ix2 r j) = decay (C r.val) wa ba lam j := by
    rw [decay_tile, eR]; rfl
  have hu (r : Fin 256) : inVec (k0_pay8 v9 v28 v30 v31) (k0_pay11 v9 v28 v30 v31 Wa ba) (k0_pay12 v9 v28 v30 v31 Wx bx) k0_pay13 lam (ix2 r j)
      = inp (C r.val) wa ba wx bx lam j := by
    rw [in_tile _ _ _ _ _ _ _ (by rw [eR]; exact sgm_nonneg _), eR, eD, e1, hC]; rfl
  rw [states_apply _ _ _ _ _ (fun r => by rw [hd]; exact exp_nonneg _)
    (fun r => by rw [hd]; exact exp_ne_top (logDecay_nonpos (sgm_nonneg _) _))]
  refine run_congr _ _ ?_ ?_ _
  · intro s _ hs
    show col _ j (⟨s, by omega⟩ : Fin 256).val = _
    rw [col_of]
    exact hd _
  · intro s _ hs
    show col _ j (⟨s, by omega⟩ : Fin 256).val = _
    rw [col_of]
    exact hu _

/-- What a tile stores. -/
theorem gated_tile (hs : Tile) (g : Vec Ideal S1x256x512 .f32) (r : Fin 256) (j : Fin 512) :
    k0_pay1 hs g (ix3 0 r j) = hs (ix2 r j) * gelu (g (ix3 0 r j)) := by
  unfold_payloads
  pointwise []
  rw [← mul_assoc (g (ix3 0 r j)) (g (ix3 0 r j)) (g (ix3 0 r j))]
  rfl

end Cert.Lru.Ker
-- ==== Proof.Lru.Blocks.lean ====
module

public import proofs.«01_k».proof.Proof.Gen.KernelIdeal.Value
public import proofs.«01_k».proof.Proof.Lru.Tile
public import Idealize.ShloMosaic.Lib.Pointwise
public import Idealize.ShloMosaic.Lib.Claim
public import Idealize.ShloMosaic.Lib.Pipeline.Value
public import Idealize.ShloMosaic.Lib.Pipeline.ValueKit.Point

/-! # The blocks the kernel reads, as entries of the launched arrays -/

@[expose] public section

noncomputable section

namespace Cert.Lru.Ker

open Idealize Idealize.ShloMosaic
open Cert.KernelIdeal Cert.KernelIdeal.Gen

set_option maxRecDepth 100000

variable (m : (ℓ : Loc nD τ sig) → Buf (Elt Ideal) ℓ)

/-- Where the sequence windows stand: the sequence `t / 16`, the tile `t % 16`. -/
theorem idx_seq : ∀ t : Fin cfg0.N, (win0_0.index t = ![t.val / 16, t.val % 16, 0] ∧ win0_1.index t = ![t.val / 16, t.val % 16, 0])
    ∧ win0_9.index t = ![t.val / 16, t.val % 16, 0] := by decide +kernel

/-- The weight windows stand at the origin. -/
theorem idx_w : ∀ t : Fin cfg0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] := by decide +kernel

/-- Two rows with the same entries. -/
theorem row_ext {u v : Vec Ideal S1x512 .f32} (h : ∀ j : Fin 512, u (ix2 0 j) = v (ix2 0 j)) : u = v := by
  funext i
  have e : i = ix2 0 (i 1) := by
    funext a
    match a with
    | ⟨0, _⟩ => exact Subsingleton.elim (α := Fin 1) _ _
    | ⟨1, _⟩ => rfl
  rw [e]
  exact h _

theorem tlt (t : Fin cfg0.N) : t.val < 256 := lt_of_lt_of_eq t.isLt N_0

/-- A tile of the sequence. -/
theorem blk_x (c : Dev nD) (t : Fin cfg0.N) (r : Fin 256) (j : Fin 512) :
    iblk m c 0 t (ix3 0 r j) = m (c.tc.loc main_arg0) (ix3 ⟨t.val / 16, by have := tlt t; omega⟩ ⟨t.val % 16 * 256 + r.val, by omega⟩ j) := by
  blk_ext [iblk, V_main_arg0, (idx_seq t).1.1]

theorem blk_gate (c : Dev nD) (t : Fin cfg0.N) (r : Fin 256) (j : Fin 512) :
    iblk m c 1 t (ix3 0 r j) = m (c.tc.loc main_arg1) (ix3 ⟨t.val / 16, by have := tlt t; omega⟩ ⟨t.val % 16 * 256 + r.val, by omega⟩ j) := by
  blk_ext [iblk, V_main_arg1, (idx_seq t).1.2]

/-- An entry of the identity matrix between the heads. -/
theorem eye_apply (a b : ℕ) (ha : a < 8) (hb : b < 8) :
    FloatOps.uitofp (F := Ideal) .f32 (IntOp.cmpi CmpIPredicate.eq (IntOp.addi (BitVec.ofNat 32 a) 0#32) (BitVec.ofNat 32 b))
      = if a = b then (1 : EReal) else 0 := by
  have e : IntOp.cmpi CmpIPredicate.eq (IntOp.addi (BitVec.ofNat 32 a) 0#32) (BitVec.ofNat 32 b) = if a = b then 1#1 else 0#1 := by
    interval_cases a <;> interval_cases b <;> rfl
  rw [e]
  show (((if a = b then 1#1 else 0#1 : BitVec 1).toNat : ℝ) : EReal) = _
  split_ifs <;> simp

/-- A head's weights times the identity matrix's entry. -/
theorem diag_apply (w : Heads) (k j : Fin 512) (h1 h2 h3) :
    w (ix4 0 ⟨k.val / 64, h1⟩ ⟨k.val % 64, h2⟩ ⟨j.val % 64, h3⟩)
      * FloatOps.uitofp (F := Ideal) .f32 (IntOp.cmpi CmpIPredicate.eq (IntOp.addi (BitVec.ofNat 32 (k.val / 64)) 0#32) (BitVec.ofNat 32 (j.val / 64)))
      = if k.val / 64 = j.val / 64 then w (ix4 0 ⟨j.val / 64, by omega⟩ ⟨k.val % 64, by omega⟩ ⟨j.val % 64, by omega⟩) else 0 := by
  rw [eye_apply _ _ (by omega) (by omega)]
  by_cases h : k.val / 64 = j.val / 64
  · rw [if_pos h, if_pos h, mul_one]
    simp only [h]
  · rw [if_neg h, if_neg h, mul_zero]

theorem blk_cw (c : Dev nD) (t : Fin cfg0.N) (k : Fin 4) (j : Fin 512) :
    iblk m c 2 t (ix2 k j) = m (c.tc.loc main_arg2) (ix3 0 k j) := by
  rw [show iblk m c 2 t (ix2 k j) = V m c main_v0 (ix2 k j) from by blk_ext [iblk, (idx_w t).1]]
  entry_read
  pointwise []

theorem blk_cb (c : Dev nD) (t : Fin cfg0.N) (j : Fin 512) :
    iblk m c 3 t (ix2 0 j) = m (c.tc.loc main_arg3) (ix2 0 j) := by
  rw [show iblk m c 3 t (ix2 0 j) = V m c main_v7 (ix2 0 j) from by blk_ext [iblk, (idx_w t).2.1]]
  entry_read
  pointwise []

theorem blk_ba (c : Dev nD) (t : Fin cfg0.N) (j : Fin 512) :
    iblk m c 5 t (ix2 0 j) = m (c.tc.loc main_arg5) (ix2 0 j) := by
  rw [show iblk m c 5 t (ix2 0 j) = V m c main_v21 (ix2 0 j) from by blk_ext [iblk, (idx_w t).2.2.2.1]]
  entry_read
  pointwise []

theorem blk_bx (c : Dev nD) (t : Fin cfg0.N) (j : Fin 512) :
    iblk m c 7 t (ix2 0 j) = m (c.tc.loc main_arg7) (ix2 0 j) := by
  rw [show iblk m c 7 t (ix2 0 j) = V m c main_v35 (ix2 0 j) from by blk_ext [iblk, (idx_w t).2.2.2.2.2.1]]
  entry_read
  pointwise []

theorem blk_lam (c : Dev nD) (t : Fin cfg0.N) (j : Fin 512) :
    iblk m c 8 t (ix2 0 j) = m (c.tc.loc main_arg8) (ix2 0 j) := by
  rw [show iblk m c 8 t (ix2 0 j) = V m c main_v36 (ix2 0 j) from by blk_ext [iblk, (idx_w t).2.2.2.2.2.2]]
  entry_read
  pointwise []

theorem blk_wa (c : Dev nD) (t : Fin cfg0.N) : BlockDiag (iblk m c 4 t) (m (c.tc.loc main_arg4)) := by
  intro k j
  rw [show iblk m c 4 t (ix2 k j) = V m c main_v20 (ix2 k j) from by blk_ext [iblk, (idx_w t).2.2.1]]
  entry_read
  pointwise []
  exact diag_apply (m (c.tc.loc main_arg4)) k j _ _ _

theorem blk_wx (c : Dev nD) (t : Fin cfg0.N) : BlockDiag (iblk m c 6 t) (m (c.tc.loc main_arg6)) := by
  intro k j
  rw [show iblk m c 6 t (ix2 k j) = V m c main_v34 (ix2 k j) from by blk_ext [iblk, (idx_w t).2.2.2.2.1]]
  entry_read
  pointwise []
  exact diag_apply (m (c.tc.loc main_arg6)) k j _ _ _

end Cert.Lru.Ker
-- ==== Proof.Lru.Point.lean ====
module

public import proofs.«01_k».proof.Proof.Lru.Blocks
public import Idealize.ShloMosaic.Lib.WritesUnit

/-! # What one point of the grid computes

The buffer of 264 rows holds the last eight rows of the tile before, then the tile. -/

@[expose] public section

noncomputable section

namespace Cert.Lru.Ker

open Idealize Idealize.ShloMosaic
open Cert.KernelIdeal Cert.KernelIdeal.Gen

set_option maxRecDepth 100000

variable (m : (ℓ : Loc nD τ sig) → Buf (Elt Ideal) ℓ)

/-- The states of a tile's rows, from everything one point loads. -/
def tile (v8 v10 v17 v23 v29 : Vec Ideal S1x512 .f32) (v12 v19 v25 v31 : Vec Ideal S256x512 .f32) (Wa : Vec Ideal S512x512 .bf16)
    (ba : Vec Ideal S1x512 .f32) (Wx : Vec Ideal S512x512 .bf16) (bx lam h : Vec Ideal S1x512 .f32) : Tile :=
  k0_pay31 (iota Kind.tc S256x512 32 [0] iota_S256x512_d0_w32)
    (k0_pay28 (iota Kind.tc S256x512 32 [0] iota_S256x512_d0_w32)
      (k0_pay17 (k0_pay8 (k0_pay5 v8) (k0_pay6 v10 v12 v17 v19 v23 v25) (k0_pay7 v29) v31)
        (k0_pay11 (k0_pay5 v8) (k0_pay6 v10 v12 v17 v19 v23 v25) (k0_pay7 v29) v31 Wa ba)
        (k0_pay12 (k0_pay5 v8) (k0_pay6 v10 v12 v17 v19 v23 v25) (k0_pay7 v29) v31 Wx bx) k0_pay13 lam)
      (k0_pay18 (k0_pay11 (k0_pay5 v8) (k0_pay6 v10 v12 v17 v19 v23 v25) (k0_pay7 v29) v31 Wa ba) lam) k0_pay19
      (k0_pay20 (k0_pay11 (k0_pay5 v8) (k0_pay6 v10 v12 v17 v19 v23 v25) (k0_pay7 v29) v31 Wa ba) lam) k0_pay21)
    (k0_pay29 (iota Kind.tc S256x512 32 [0] iota_S256x512_d0_w32) (k0_pay18 (k0_pay11 (k0_pay5 v8) (k0_pay6 v10 v12 v17 v19 v23 v25) (k0_pay7 v29) v31 Wa ba) lam) k0_pay19
      (k0_pay20 (k0_pay11 (k0_pay5 v8) (k0_pay6 v10 v12 v17 v19 v23 v25) (k0_pay7 v29) v31 Wa ba) lam) k0_pay21)
    (k0_pay30 (iota Kind.tc S256x512 32 [0] iota_S256x512_d0_w32)) h

/-- Those states are the recurrence over the convolved rows. -/
theorem tile_apply {v8 v10 v17 v23 v29 : Vec Ideal S1x512 .f32} {v12 v19 v25 v31 : Vec Ideal S256x512 .f32} {Wa : Vec Ideal S512x512 .bf16}
    {ba : Vec Ideal S1x512 .f32} {Wx : Vec Ideal S512x512 .bf16} {bx lam h : Vec Ideal S1x512 .f32} {wa wx : Heads}
    (hWa : BlockDiag Wa wa) (hWx : BlockDiag Wx wx) (C : ℕ → Fin 512 → EReal)
    (hC : ∀ (r : Fin 256) (j : Fin 512), v10 (ix2 0 j) * v12 (ix2 r j) + v17 (ix2 0 j) * v19 (ix2 r j) + v23 (ix2 0 j) * v25 (ix2 r j)
        + v29 (ix2 0 j) * v31 (ix2 r j) + v8 (ix2 0 j) = C r.val j) (r : Fin 256) (j : Fin 512) :
    tile v8 v10 v17 v23 v29 v12 v19 v25 v31 Wa ba Wx bx lam h (ix2 r j)
      = run (fun s => decay (C s) wa ba lam j) (fun s => inp (C s) wa ba wx bx lam j) 0 (r.val + 1) (h (ix2 0 j)) := by
  unfold tile
  rw [scan_eq _ _ _ _ _ _ _ (first_stage _ _ _ _ _)]
  exact states_tile _ _ _ _ Wa Wx ba bx lam wa wx hWa hWx C (fun r j => (conv_tile v8 v10 v17 v23 v29 v12 v19 v25 v31 r j).trans (hC r j)) h r j

/-- The last row is the new state. -/
theorem last_apply (u a : Tile) (b h) (j : Fin 512) :
    k0_pay32 (iota Kind.tc S256x512 32 [0] iota_S256x512_d0_w32) u a b h (ix2 0 j) = k0_pay31 (iota Kind.tc S256x512 32 [0] iota_S256x512_d0_w32) u a b h (ix2 255 j) := by
  unfold k0_pay32
  generalize k0_pay31 (iota Kind.tc S256x512 32 [0] iota_S256x512_d0_w32) u a b h = T
  pointwise []

theorem copy_rows (v : Vec Ideal S1x256x512 .f32) (r : Fin 256) (j : Fin 512) : k0_pay4 v (ix2 r j) = v (ix3 0 r j) := by
  pointwise [k0_pay4]

theorem copy_last (v : Vec Ideal S8x512 .f32) (r : Fin 8) (j : Fin 512) : k0_pay9 v (ix2 r j) = v (ix2 r j) := by
  pointwise [k0_pay9]

theorem zero_rows (r : Fin 8) (j : Fin 512) : (k0_pay2 : FVec Ideal S8x512 .f32) (ix2 r j) = 0 := by
  pointwise [k0_pay2]

theorem zero_row (j : Fin 512) : (k0_pay3 : FVec Ideal S1x512 .f32) (ix2 0 j) = 0 := by
  pointwise [k0_pay3]

section Rows

variable (v : View sig .tc .vmem S264x512 .f32) (f : v.ty.Contents (Elt Ideal)) (L : List (View.Piece (Elt Ideal) S264x512 .f32))

/-- After the tile is stored, rows 8 and below it are the tile. -/
theorem low_rows (w : S256x512.Idx → EReal) (n : Fin 264) (j : Fin 512) (h : 8 ≤ n.val) :
    v.read (Elt Ideal) (v.writes (Elt Ideal) f (⟨Rect.unit ![8, 0] ![256, 512] inb_S264x512_S256x512_8_0, w⟩ :: L)) (ix2 n j)
      = w (ix2 ⟨n.val - 8, by omega⟩ j) :=
  View.read_writes_cons_rows_of_mem (d := ![264, 512]) v f inb_S264x512_S256x512_8_0 w L (ix2 n j) (ix2 ⟨n.val - 8, by omega⟩ j) rfl
    (by show n.val = 8 + (n.val - 8); omega) rfl

/-- The rows above are as they were. -/
theorem low_rows' (w : S256x512.Idx → EReal) (n : Fin 264) (j : Fin 512) (h : n.val < 8) :
    v.read (Elt Ideal) (v.writes (Elt Ideal) f (⟨Rect.unit ![8, 0] ![256, 512] inb_S264x512_S256x512_8_0, w⟩ :: L)) (ix2 n j)
      = v.read (Elt Ideal) (v.writes (Elt Ideal) f L) (ix2 n j) :=
  View.read_writes_cons_rows_of_not_mem (d := ![264, 512]) v f inb_S264x512_S256x512_8_0 w L (ix2 n j) rfl rfl (Or.inl h)

/-- A store to the first eight rows. -/
theorem top_rows (w : S8x512.Idx → EReal) (n : Fin 264) (j : Fin 512) (h : n.val < 8) :
    v.read (Elt Ideal) (v.writes (Elt Ideal) f (⟨Rect.unit ![0, 0] ![8, 512] inb_S264x512_S8x512_0_0, w⟩ :: L)) (ix2 n j)
      = w (ix2 ⟨n.val, h⟩ j) :=
  View.read_writes_cons_rows_of_mem (d := ![264, 512]) v f inb_S264x512_S8x512_0_0 w L (ix2 n j) (ix2 ⟨n.val, h⟩ j) rfl
    (by show n.val = 0 + n.val; omega) rfl

end Rows

/-- Row `n` of the buffer while point `t` runs. -/
def ext (x : Seq) (t n : ℕ) (ht : t < 256) (j : Fin 512) : EReal := xpad x ⟨t / 16, by omega⟩ (256 * (t % 16) + n - 5) j

theorem ext_low (c : Dev nD) (t : Fin cfg0.N) (n : ℕ) (h : 8 ≤ n) (hn : n < 264) (j : Fin 512) :
    k0_pay4 (iblk m c 0 t) (ix2 ⟨n - 8, by omega⟩ j) = ext (m (c.tc.loc main_arg0)) t.val n (tlt t) j := by
  rw [copy_rows, blk_x]
  unfold ext xpad
  rw [dif_pos (by omega)]
  congr 2
  exact Fin.ext (by show t.val % 16 * 256 + (n - 8) = 256 * (t.val % 16) + n - 5 - 3; omega)

/-- At a sequence's first tile the eight rows above are zeros. -/
theorem ext_A (c : Dev nD) (t : Fin cfg0.N) (h0 : t.val % 16 = 0) (v : View sig .tc .vmem S264x512 .f32) (f : v.ty.Contents (Elt Ideal))
    (n : Fin 264) (h : 5 ≤ n.val) (j : Fin 512) :
    v.read (Elt Ideal) (v.writes (Elt Ideal) f [⟨Rect.unit ![8, 0] ![256, 512] inb_S264x512_S256x512_8_0, k0_pay4 (iblk m c 0 t)⟩,
      ⟨Rect.unit ![0, 0] ![8, 512] inb_S264x512_S8x512_0_0, k0_pay2 (F := Ideal)⟩]) (ix2 n j) = ext (m (c.tc.loc main_arg0)) t.val n.val (tlt t) j := by
  by_cases h8 : 8 ≤ n.val
  · rw [low_rows _ _ _ _ _ _ h8, ext_low m c t n.val h8 n.isLt]
  · rw [low_rows' _ _ _ _ _ _ (by omega), top_rows _ _ _ _ _ _ (by omega), zero_rows]
    unfold ext xpad
    rw [dif_neg (by omega)]

/-- At a later tile they are the last rows of the tile before. -/
theorem ext_B (c : Dev nD) (t : Fin cfg0.N) (v : View sig .tc .vmem S264x512 .f32) (f : v.ty.Contents (Elt Ideal))
    (hf : ∀ (n : Fin 264) (j : Fin 512), 5 ≤ n.val → n.val < 8 →
      v.read (Elt Ideal) f (ix2 n j) = ext (m (c.tc.loc main_arg0)) t.val n.val (tlt t) j)
    (n : Fin 264) (h : 5 ≤ n.val) (j : Fin 512) :
    v.read (Elt Ideal) (v.writes (Elt Ideal) f [⟨Rect.unit ![8, 0] ![256, 512] inb_S264x512_S256x512_8_0, k0_pay4 (iblk m c 0 t)⟩]) (ix2 n j)
      = ext (m (c.tc.loc main_arg0)) t.val n.val (tlt t) j := by
  by_cases h8 : 8 ≤ n.val
  · rw [low_rows _ _ _ _ _ _ h8, ext_low m c t n.val h8 n.isLt]
  · rw [low_rows' _ _ _ _ _ _ (by omega)]
    exact hf n j h (by omega)

end Cert.Lru.Ker
-- ==== Proof.Lru.Carry.lean ====
module

public import proofs.«01_k».proof.Proof.Lru.Point

/-! # The state carried from tile to tile -/

@[expose] public section

noncomputable section

namespace Cert.Lru.Ker

open Idealize Idealize.ShloMosaic
open Cert.KernelIdeal Cert.KernelIdeal.Gen

set_option maxRecDepth 100000

variable (m : (ℓ : Loc nD τ sig) → Buf (Elt Ideal) ℓ)

/-- The states of a tile as the body leaves them, from the loads of the row buffer and of the carried state. -/
def hs (c : Dev nD) (t : Fin cfg0.N) (v12 v19 v25 v31 : Vec Ideal S256x512 .f32) (h : Vec Ideal S1x512 .f32) : Tile :=
  tile (View.ld (iblk m c 3 t) (Rect.unit ![0, 0] ![1, 512] inb_S1x512_S1x512_0_0))
    (View.ld (iblk m c 2 t) (Rect.unit ![0, 0] ![1, 512] inb_S4x512_S1x512_0_0))
    (View.ld (iblk m c 2 t) (Rect.unit ![1, 0] ![1, 512] inb_S4x512_S1x512_1_0))
    (View.ld (iblk m c 2 t) (Rect.unit ![2, 0] ![1, 512] inb_S4x512_S1x512_2_0))
    (View.ld (iblk m c 2 t) (Rect.unit ![3, 0] ![1, 512] inb_S4x512_S1x512_3_0)) v12 v19 v25 v31
    (View.ld (iblk m c 4 t) (Rect.unit ![0, 0] ![512, 512] inb_S512x512_S512x512_0_0))
    (View.ld (iblk m c 5 t) (Rect.unit ![0, 0] ![1, 512] inb_S1x512_S1x512_0_0))
    (View.ld (iblk m c 6 t) (Rect.unit ![0, 0] ![512, 512] inb_S512x512_S512x512_0_0))
    (View.ld (iblk m c 7 t) (Rect.unit ![0, 0] ![1, 512] inb_S1x512_S1x512_0_0))
    (View.ld (iblk m c 8 t) (Rect.unit ![0, 0] ![1, 512] inb_S1x512_S1x512_0_0)) h

/-- The state of sequence `b` after `n` positions, from the launched arrays. -/
abbrev stateOf (c : Dev nD) (b : Fin 16) (j : Fin 512) (n : ℕ) : EReal :=
  state (m (c.tc.loc main_arg0)) (m (c.tc.loc main_arg2)) (m (c.tc.loc main_arg3)) (m (c.tc.loc main_arg4)) (m (c.tc.loc main_arg5))
    (m (c.tc.loc main_arg6)) (m (c.tc.loc main_arg7)) (m (c.tc.loc main_arg8)) b j n

/-- From the right rows and the right state before the tile, the states of its rows. -/
theorem hs_apply (c : Dev nD) (t : Fin cfg0.N) {v12 v19 v25 v31 : Vec Ideal S256x512 .f32} {h : Vec Ideal S1x512 .f32}
    (e12 : ∀ (r : Fin 256) (j : Fin 512), v12 (ix2 r j) = ext (m (c.tc.loc main_arg0)) t.val (5 + r.val) (tlt t) j)
    (e19 : ∀ (r : Fin 256) (j : Fin 512), v19 (ix2 r j) = ext (m (c.tc.loc main_arg0)) t.val (6 + r.val) (tlt t) j)
    (e25 : ∀ (r : Fin 256) (j : Fin 512), v25 (ix2 r j) = ext (m (c.tc.loc main_arg0)) t.val (7 + r.val) (tlt t) j)
    (e31 : ∀ (r : Fin 256) (j : Fin 512), v31 (ix2 r j) = ext (m (c.tc.loc main_arg0)) t.val (8 + r.val) (tlt t) j)
    (j : Fin 512) (eh : h (ix2 0 j) = stateOf m c ⟨t.val / 16, by have := tlt t; omega⟩ j (256 * (t.val % 16))) (r : Fin 256) :
    hs m c t v12 v19 v25 v31 h (ix2 r j) = stateOf m c ⟨t.val / 16, by have := tlt t; omega⟩ j (256 * (t.val % 16) + (r.val + 1)) := by
  have zz : (![0, 0] : Fin 2 → ℕ) = fun _ => 0 := by funext a; fin_cases a <;> rfl
  have lWa : View.ld (iblk m c 4 t) (Rect.unit ![0, 0] ![512, 512] inb_S512x512_S512x512_0_0) = iblk m c 4 t :=
    View.ld_unit_zero (S := S512x512) zz _ _
  have lWx : View.ld (iblk m c 6 t) (Rect.unit ![0, 0] ![512, 512] inb_S512x512_S512x512_0_0) = iblk m c 6 t :=
    View.ld_unit_zero (S := S512x512) zz _ _
  have lba : View.ld (iblk m c 5 t) (Rect.unit ![0, 0] ![1, 512] inb_S1x512_S1x512_0_0) = m (c.tc.loc main_arg5) :=
    (View.ld_unit_zero (S := S1x512) zz _ _).trans (row_ext (blk_ba m c t))
  have lbx : View.ld (iblk m c 7 t) (Rect.unit ![0, 0] ![1, 512] inb_S1x512_S1x512_0_0) = m (c.tc.loc main_arg7) :=
    (View.ld_unit_zero (S := S1x512) zz _ _).trans (row_ext (blk_bx m c t))
  have llam : View.ld (iblk m c 8 t) (Rect.unit ![0, 0] ![1, 512] inb_S1x512_S1x512_0_0) = m (c.tc.loc main_arg8) :=
    (View.ld_unit_zero (S := S1x512) zz _ _).trans (row_ext (blk_lam m c t))
  unfold hs
  rw [lWa, lWx, lba, lbx, llam]
  rw [tile_apply (blk_wa m c t) (blk_wx m c t)
    (fun s => conv (m (c.tc.loc main_arg0)) (m (c.tc.loc main_arg2)) (m (c.tc.loc main_arg3)) ⟨t.val / 16, by have := tlt t; omega⟩
      (256 * (t.val % 16) + s)) (fun r j => ?_) r j, eh]
  · unfold stateOf state
    rw [run_add _ _ 0 (256 * (t.val % 16)) (r.val + 1), Nat.zero_add]
    exact run_shift (fun s => decay (conv _ _ _ _ s) _ _ _ j) (fun s => inp (conv _ _ _ _ s) _ _ _ _ _ j) _ 0 _ _
  · rw [e12, e19, e25, e31]
    unfold conv ext
    rw [show 256 * (t.val % 16) + (5 + r.val) - 5 = 256 * (t.val % 16) + r.val by omega,
      show 256 * (t.val % 16) + (6 + r.val) - 5 = 256 * (t.val % 16) + r.val + 1 by omega,
      show 256 * (t.val % 16) + (7 + r.val) - 5 = 256 * (t.val % 16) + r.val + 2 by omega,
      show 256 * (t.val % 16) + (8 + r.val) - 5 = 256 * (t.val % 16) + r.val + 3 by omega]
    pointwise []
    rw [blk_cw, blk_cw, blk_cw, blk_cw, blk_cb]

/-- The states of a sequence's first tile. -/
def hsA (c : Dev nD) (t : Fin cfg0.N) : Tile :=
  hs m c t (((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] (Rect.unit ![5, 0] ![256, 512] inb_S264x512_S256x512_5_0).toLoadRect : Vec Ideal S256x512 .f32))
    (((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] (Rect.unit ![6, 0] ![256, 512] inb_S264x512_S256x512_6_0).toLoadRect : Vec Ideal S256x512 .f32))
    (((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] (Rect.unit ![7, 0] ![256, 512] inb_S264x512_S256x512_7_0).toLoadRect : Vec Ideal S256x512 .f32))
    (((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] (Rect.unit ![8, 0] ![256, 512] inb_S264x512_S256x512_8_0).toLoadRect : Vec Ideal S256x512 .f32))
    ((View.whole cc0_scratch1).readCov [⟨Rect.unit ![0, 0] ![1, 512] inb_S1x512_S1x512_0_0, k0_pay3 (F := Ideal)⟩] (Rect.unit ![0, 0] ![1, 512] inb_S1x512_S1x512_0_0).toLoadRect)

/-- The states of a later tile. -/
def hsB (c : Dev nD) (t : Fin cfg0.N) : Tile :=
  hs m c t
    (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![256, 512] inb_S264x512_S256x512_8_0, k0_pay4 (View.ld (iblk m c 0 t) (Rect.unit ![0, 0, 0] ![1, 256, 512] inb_S1x256x512_S1x256x512_0_0_0))⟩])) (Rect.unit ![5, 0] ![256, 512] inb_S264x512_S256x512_5_0))
    (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![256, 512] inb_S264x512_S256x512_8_0, k0_pay4 (View.ld (iblk m c 0 t) (Rect.unit ![0, 0, 0] ![1, 256, 512] inb_S1x256x512_S1x256x512_0_0_0))⟩])) (Rect.unit ![6, 0] ![256, 512] inb_S264x512_S256x512_6_0))
    (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![256, 512] inb_S264x512_S256x512_8_0, k0_pay4 (View.ld (iblk m c 0 t) (Rect.unit ![0, 0, 0] ![1, 256, 512] inb_S1x256x512_S1x256x512_0_0_0))⟩])) (Rect.unit ![7, 0] ![256, 512] inb_S264x512_S256x512_7_0))
    ((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩] (Rect.unit ![8, 0] ![256, 512] inb_S264x512_S256x512_8_0).toLoadRect)
    (View.ld (View.read (Elt Ideal) (View.whole cc0_scratch1) ((Memref.isWhole_whole _ : scM0_1.IsWhole).unread (outsAt0 m c (t.val - 1) (Nat.lt_of_le_of_lt (Nat.sub_le _ _) t.isLt)).2.2)) (Rect.unit ![0, 0] ![1, 512] inb_S1x512_S1x512_0_0))

/-- What a first tile stores. -/
theorem outA (c : Dev nD) (t : Fin cfg0.N) (h0 : t.val % 16 = 0) :
    (outsAt0 m c t.val t.isLt).1 = k0_pay1 (hsA m c t) (View.ld (iblk m c 1 t) (Rect.unit ![0, 0, 0] ![1, 256, 512] inb_S1x256x512_S1x256x512_0_0_0)) := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S1x256x512) (by funext a; fin_cases a <;> rfl)]
  rfl

/-- The state a first tile leaves. -/
theorem keptA (c : Dev nD) (t : Fin cfg0.N) (h0 : t.val % 16 = 0) :
    (outsAt0 m c t.val t.isLt).2.2 = shapeCast S1x512 (extractStridedSlice S1x512 ![255, 0] ((hsA m c t)) slices_S256x512_o255_0_S1x512) shapeCasts_S1x512_S1x512 := by
  rw [outsAt0_A m c t h0]
  dsimp only
  unfold sout0_A_1
  rw [View.read_writes_eq_canon _ _ _ (scover0_A_1 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_cons_unit_zero (S := S1x512) (by funext a; fin_cases a <;> rfl)]
  rfl

/-- What a later tile stores. -/
theorem outB (c : Dev nD) (t : Fin cfg0.N) (h0 : ¬ t.val % 16 = 0) :
    (outsAt0 m c t.val t.isLt).1 = k0_pay1 (hsB m c t) (View.ld (iblk m c 1 t) (Rect.unit ![0, 0, 0] ![1, 256, 512] inb_S1x256x512_S1x256x512_0_0_0)) := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S1x256x512) (by funext a; fin_cases a <;> rfl)]
  rfl

/-- The state a later tile leaves. -/
theorem keptB (c : Dev nD) (t : Fin cfg0.N) (h0 : ¬ t.val % 16 = 0) :
    (outsAt0 m c t.val t.isLt).2.2 = shapeCast S1x512 (extractStridedSlice S1x512 ![255, 0] ((hsB m c t)) slices_S256x512_o255_0_S1x512) shapeCasts_S1x512_S1x512 := by
  rw [outsAt0_B m c t h0]
  dsimp only
  unfold sout0_B_1
  rw [View.read_writes_eq_canon _ _ _ (scover0_B_1 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S1x512) (by funext a; fin_cases a <;> rfl)]
  rfl

/-- The row buffer a first tile leaves. -/
theorem bufA (c : Dev nD) (t : Fin cfg0.N) (h0 : t.val % 16 = 0) :
    (outsAt0 m c t.val t.isLt).2.1 = View.canon [⟨Rect.unit ![0, 0] ![8, 512] inb_S264x512_S8x512_0_0, k0_pay9 (F := Ideal) ((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] (Rect.unit ![256, 0] ![8, 512] inb_S264x512_S8x512_256_0).toLoadRect)⟩,
      ⟨Rect.unit ![8, 0] ![256, 512] inb_S264x512_S256x512_8_0, k0_pay4 (View.ld (iblk m c 0 t) (Rect.unit ![0, 0, 0] ![1, 256, 512] inb_S1x256x512_S1x256x512_0_0_0))⟩, ⟨Rect.unit ![0, 0] ![8, 512] inb_S264x512_S8x512_0_0, k0_pay2 (F := Ideal)⟩] := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  skip
  rfl

/-- The row buffer a later tile leaves. -/
theorem bufB (c : Dev nD) (t : Fin cfg0.N) (h0 : ¬ t.val % 16 = 0) :
    (outsAt0 m c t.val t.isLt).2.1 = View.canon [⟨Rect.unit ![0, 0] ![8, 512] inb_S264x512_S8x512_0_0, k0_pay9 (F := Ideal) ((View.whole cc0_scratch0).readCov [⟨Rect.unit ![8, 0] ![256, 512] inb_S264x512_S256x512_8_0, k0_pay4 (View.ld (iblk m c 0 t) (Rect.unit ![0, 0, 0] ![1, 256, 512] inb_S1x256x512_S1x256x512_0_0_0))⟩] (Rect.unit ![256, 0] ![8, 512] inb_S264x512_S8x512_256_0).toLoadRect)⟩,
      ⟨Rect.unit ![8, 0] ![256, 512] inb_S264x512_S256x512_8_0, k0_pay4 (View.ld (iblk m c 0 t) (Rect.unit ![0, 0, 0] ![1, 256, 512] inb_S1x256x512_S1x256x512_0_0_0))⟩] := by
  rw [outsAt0_B m c t h0]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  skip
  rfl

end Cert.Lru.Ker
-- ==== Proof.Lru.Fold.lean ====
module

public import proofs.«01_k».proof.Proof.Lru.Carry

/-! # The kernel's output, entry by entry -/

@[expose] public section

noncomputable section

namespace Cert.Lru.Ker

open Idealize Idealize.ShloMosaic
open Cert.KernelIdeal Cert.KernelIdeal.Gen

set_option maxRecDepth 100000

variable (m : (ℓ : Loc nD τ sig) → Buf (Elt Ideal) ℓ)

/-- A covered load of rows reads the buffer's rows. -/
theorem cov_row {k n : ℕ} (v : View sig .tc .vmem S264x512 .f32) (L : List (View.Piece (Elt Ideal) S264x512 .f32))
    (inb : ∀ a : Fin 2, (![k, 0] : Fin 2 → ℕ) a + (![n, 512] : Fin 2 → ℕ) a ≤ S264x512.size a) (hk : k + n ≤ 264) (r : Fin n) (j : Fin 512) :
    v.readCov L (Rect.unit (s := S264x512) ![k, 0] ![n, 512] inb).toLoadRect (ix2 r j)
      = v.read (Elt Ideal) (v.writes (Elt Ideal) v.junk L) (ix2 ⟨k + r.val, by omega⟩ j) := by
  rw [View.readCov_eq_canon', View.read_writes_junk_apply_eq_canon]
  refine congrArg (View.canon L) ?_
  funext a
  match a with
  | ⟨0, _⟩ => exact Fin.ext (by show k + 1 * r.val = k + r.val; omega)
  | ⟨1, _⟩ => exact Fin.ext (by show 0 + 1 * j.val = j.val; omega)

theorem ld_row {k : ℕ} (X : Vec Ideal S264x512 .f32)
    (inb : ∀ a : Fin 2, (![k, 0] : Fin 2 → ℕ) a + (![256, 512] : Fin 2 → ℕ) a ≤ S264x512.size a) (hk : k + 256 ≤ 264) (r : Fin 256) (j : Fin 512) :
    View.ld (Val := Elt Ideal) X (Rect.unit (s := S264x512) ![k, 0] ![256, 512] inb) (ix2 r j) = X (ix2 ⟨k + r.val, by omega⟩ j) := by
  refine congrArg X ?_
  funext a
  match a with
  | ⟨0, _⟩ => exact Fin.ext (by show k + 1 * r.val = k + r.val; omega)
  | ⟨1, _⟩ => exact Fin.ext (by show 0 + 1 * j.val = j.val; omega)

theorem ld_x (c : Dev nD) (t : Fin cfg0.N) :
    View.ld (iblk m c 0 t) (Rect.unit ![0, 0, 0] ![1, 256, 512] inb_S1x256x512_S1x256x512_0_0_0) = iblk m c 0 t :=
  View.ld_unit_zero (S := S1x256x512) (by funext a; fin_cases a <;> rfl) _ _

theorem ld_gate (c : Dev nD) (t : Fin cfg0.N) :
    View.ld (iblk m c 1 t) (Rect.unit ![0, 0, 0] ![1, 256, 512] inb_S1x256x512_S1x256x512_0_0_0) = iblk m c 1 t :=
  View.ld_unit_zero (S := S1x256x512) (by funext a; fin_cases a <;> rfl) _ _

/-- What the scratch holds after point `n`: the tile's last rows, and the state after the tile. -/
def Holds (c : Dev nD) (t : Fin cfg0.N) : Prop :=
  (∀ (n : Fin 264) (j : Fin 512), n.val < 8 →
      (outsAt0 m c t.val t.isLt).2.1 (ix2 n j) = ext (m (c.tc.loc main_arg0)) t.val (256 + n.val) (tlt t) j)
    ∧ ∀ j : Fin 512, (outsAt0 m c t.val t.isLt).2.2 (ix2 0 j)
      = stateOf m c ⟨t.val / 16, by have := tlt t; omega⟩ j (256 * (t.val % 16) + 256)

theorem hsA_apply (c : Dev nD) (t : Fin cfg0.N) (h0 : t.val % 16 = 0) (r : Fin 256) (j : Fin 512) :
    hsA m c t (ix2 r j) = stateOf m c ⟨t.val / 16, by have := tlt t; omega⟩ j (256 * (t.val % 16) + (r.val + 1)) := by
  unfold hsA
  refine hs_apply m c t (fun r j => ?_) (fun r j => ?_) (fun r j => ?_) (fun r j => ?_) j ?_ r
  iterate 4
    · rw [cov_row _ _ _ (by omega), ld_x]
      exact ext_A m c t h0 _ _ _ (by dsimp only; omega) _
  · refine (congrFun (View.readCov_unit_zero (S := S1x512) (Val := Elt Ideal) (View.whole cc0_scratch1) (by funext a; fin_cases a <;> rfl) inb_S1x512_S1x512_0_0
      (k0_pay3 (F := Ideal))) (ix2 0 j)).trans ?_
    rw [zero_row, h0]
    rfl

theorem hsB_apply (c : Dev nD) (t : Fin cfg0.N) (h0 : ¬ t.val % 16 = 0)
    (H : Holds m c ⟨t.val - 1, Nat.lt_of_le_of_lt (Nat.sub_le _ _) t.isLt⟩) (r : Fin 256) (j : Fin 512) :
    hsB m c t (ix2 r j) = stateOf m c ⟨t.val / 16, by have := tlt t; omega⟩ j (256 * (t.val % 16) + (r.val + 1)) := by
  have hf : ∀ (n : Fin 264) (j : Fin 512), 5 ≤ n.val → n.val < 8 →
      View.read (Elt Ideal) (View.whole cc0_scratch0) ((Memref.isWhole_whole _ : scM0_0.IsWhole).unread
        (outsAt0 m c (t.val - 1) (Nat.lt_of_le_of_lt (Nat.sub_le _ _) t.isLt)).2.1) (ix2 n j)
        = ext (m (c.tc.loc main_arg0)) t.val n.val (tlt t) j := by
    intro n j h5 h8
    refine (congrFun ((Memref.isWhole_whole _ : scM0_0.IsWhole).read_unread _) _).trans ((H.1 n j h8).trans ?_)
    unfold ext
    dsimp only
    have e1 : (t.val - 1) / 16 = t.val / 16 := by omega
    have e2 : 256 * ((t.val - 1) % 16) + (256 + n.val) - 5 = 256 * (t.val % 16) + n.val - 5 := by omega
    rw [e2]
    simp only [e1]
  unfold hsB
  refine hs_apply m c t (fun r j => ?_) (fun r j => ?_) (fun r j => ?_) (fun r j => ?_) j ?_ r
  iterate 3
    · rw [ld_row _ _ (by omega), ld_x]
      exact ext_B m c t _ _ hf _ (by dsimp only; omega) _
  · rw [cov_row _ _ _ (by omega), ld_x, low_rows _ _ _ _ _ _ (by dsimp only; omega)]
    exact ext_low m c t (8 + r.val) (by omega) (by omega) j
  · rw [View.ld_unit_zero (S := S1x512) (by funext a; fin_cases a <;> rfl)]
    refine (congrFun ((Memref.isWhole_whole _ : scM0_1.IsWhole).read_unread _) _).trans ((H.2 j).trans ?_)
    dsimp only
    have e1 : (t.val - 1) / 16 = t.val / 16 := by omega
    have e2 : 256 * ((t.val - 1) % 16) + 256 = 256 * (t.val % 16) := by omega
    rw [e2]
    simp only [e1]

theorem last_row (T : Tile) (j : Fin 512) :
    shapeCast S1x512 (extractStridedSlice S1x512 ![255, 0] T slices_S256x512_o255_0_S1x512) shapeCasts_S1x512_S1x512 (ix2 0 j)
      = T (ix2 255 j) := by
  pointwise []

/-- Every point leaves the tile's last rows and the state after the tile. -/
theorem holds (c : Dev nD) (n : ℕ) (hn : n < cfg0.N) : Holds m c ⟨n, hn⟩ := by
  induction n with
  | zero => exact holdsA ⟨0, hn⟩ rfl
  | succ n ih =>
    by_cases h0 : (n + 1) % 16 = 0
    · exact holdsA ⟨n + 1, hn⟩ h0
    · exact holdsB ⟨n + 1, hn⟩ h0 (ih (Nat.lt_of_succ_lt hn))
where
  holdsA (t : Fin cfg0.N) (h0 : t.val % 16 = 0) : Holds m c t := by
    refine ⟨fun n j h8 => ?_, fun j => ?_⟩
    · rw [bufA m c t h0, ← View.read_writes_junk_apply_eq_canon (View.whole cc0_scratch0), top_rows _ _ _ _ _ _ h8, copy_last,
        cov_row _ _ _ (by omega), ld_x]
      exact ext_A m c t h0 _ _ _ (by dsimp only; omega) _
    · rw [keptA m c t h0, last_row, hsA_apply m c t h0]
      rfl
  holdsB (t : Fin cfg0.N) (h0 : ¬ t.val % 16 = 0) (H : Holds m c ⟨t.val - 1, Nat.lt_of_le_of_lt (Nat.sub_le _ _) t.isLt⟩) : Holds m c t := by
    refine ⟨fun n j h8 => ?_, fun j => ?_⟩
    · rw [bufB m c t h0, ← View.read_writes_junk_apply_eq_canon (View.whole cc0_scratch0), top_rows _ _ _ _ _ _ h8, copy_last,
        cov_row _ _ _ (by omega), ld_x, low_rows _ _ _ _ _ _ (by dsimp only; omega)]
      exact ext_low m c t (256 + n.val) (by omega) (by omega) j
    · rw [keptB m c t h0, last_row, hsB_apply m c t h0 H]
      rfl

/-- What point `t` writes. -/
theorem point_apply (c : Dev nD) (t : Fin cfg0.N) (r : Fin 256) (j : Fin 512) :
    (outsAt0 m c t.val t.isLt).1 (ix3 0 r j)
      = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8))
        ⟨t.val / 16, by have := tlt t; omega⟩ ⟨t.val % 16 * 256 + r.val, by omega⟩ j := by
  have e : 256 * (t.val % 16) + (r.val + 1) = t.val % 16 * 256 + r.val + 1 := by omega
  by_cases h0 : t.val % 16 = 0
  · rw [outA m c t h0, gated_tile, hsA_apply m c t h0, ld_gate, blk_gate, e]
    rfl
  · rw [outB m c t h0, gated_tile, hsB_apply m c t h0 (holds m c _ _), ld_gate, blk_gate, e]
    rfl

/-- The output array. -/
def result (c : Dev nD) : Vec Ideal S16x4096x512 .bf16 := fun i =>
  out (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (i 0) (i 1) (i 2)

/-- The blocks written back make it up. -/
theorem final (c : Dev nD) : (dats m 0 c).arrAt 9 cfg0.N = result m c := by
  refine (dats m 0 c).arrAt_eq_of_covers 9 _ (by decide +kernel) fun t hf y => ?_
  blk_simp
  rw [after0_9]
  have h0 : (y 0).val < 1 := (y 0).isLt
  have h1 : (y 1).val < 256 := (y 1).isLt
  have h2 : (y 2).val < 512 := (y 2).isLt
  have hy : (y : S1x256x512.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have he : ((win0_9.blk t).view.emb y : S16x4096x512.Idx)
      = ix3 ⟨t.val / 16, by have := tlt t; omega⟩ ⟨t.val % 16 * 256 + (y 1).val, by omega⟩ ⟨(y 2).val, h2⟩ := by
    have hi := (idx_seq t).2
    funext a
    match a with
    | ⟨0, _⟩ =>
      refine Fin.ext ?_
      show win0_9.index t 0 * 1 + 1 * (y 0).val = t.val / 16
      rw [hi]; show t.val / 16 * 1 + 1 * (y 0).val = t.val / 16
      omega
    | ⟨1, _⟩ =>
      refine Fin.ext ?_
      show win0_9.index t 1 * 256 + 1 * (y 1).val = t.val % 16 * 256 + (y 1).val
      rw [hi]; show t.val % 16 * 256 + 1 * (y 1).val = t.val % 16 * 256 + (y 1).val
      omega
    | ⟨2, _⟩ =>
      refine Fin.ext ?_
      show win0_9.index t 2 * 512 + 1 * (y 2).val = (y 2).val
      rw [hi]; show 0 * 512 + 1 * (y 2).val = (y 2).val
      omega
  rw [he]
  refine (congrArg _ hy).trans ?_
  exact point_apply m c t ⟨(y 1).val, h1⟩ ⟨(y 2).val, h2⟩

end Cert.Lru.Ker
-- ==== Proof.Lru.Ref.lean ====
/- What the reference computes before its loop, and what the loop leaves: the plain mathematics of Spec.lean. -/
module

public import proofs.«01_k».proof.Proof.Lru.Spec
public import proofs.«01_k».proof.Proof.Gen.ReferenceIdeal.Step

@[expose] public section

set_option maxRecDepth 16384

noncomputable section

namespace Cert.Lru.Ref

open Idealize.ShloMosaic Cert.ReferenceIdeal Cert.ReferenceIdeal.Step Cert.Lru

variable (x : Seq) (cw : Taps) (cb : Row) (wa : Heads) (ba : Row) (wx : Heads) (bx lam : Row)

/-- The padded sequence. -/
theorem pad_apply (b : Fin 16) (n : Fin 4099) (j : Fin 512) :
    A_main_v7 (F := Ideal) x cw cb wa ba wx bx lam (ix3 b n j) = xpad x b n.val j := by
  pointwise [A_main_v7, K_main_call0_v0, K_main_c]
  unfold xpad
  have e : (FloatOps.sitofp (F := Ideal) FTy.f32 0#32) = (0 : EReal) := by
    show (((0#32 : BitVec 32).toInt : ℝ) : EReal) = 0
    simp
  rw [e]

/-- The convolution. -/
theorem conv_apply (b : Fin 16) (s : Fin 4096) (j : Fin 512) :
    A_main_v39 (F := Ideal) x cw cb wa ba wx bx lam (ix3 b s j) = conv x cw cb b s.val j := by
  pointwise [A_main_v39, A_main_v38, A_main_v37, A_main_v36, A_main_v35, A_main_v34, A_main_v33, A_main_v32, A_main_v31,
    A_main_v30, A_main_v29, A_main_v28, A_main_v27, A_main_v26, A_main_v25, A_main_v24, A_main_v23, A_main_v22,
    A_main_v21, A_main_v20, A_main_v19, A_main_v18, A_main_v17, A_main_v16, A_main_v15, A_main_v13, A_main_v12,
    A_main_v11, A_main_v10, A_main_v9, A_main_v8, A_main_v1, A_main_v0, K_main_v14, K_main_cst, pad_apply]
  rw [Nat.add_comm 1 s.val, Nat.add_comm 2 s.val, Nat.add_comm 3 s.val]
  rfl

/-- The first gate. -/
theorem gateA_apply (b : Fin 16) (s : Fin 4096) (j : Fin 512) :
    A_main_v52 (F := Ideal) x cw cb wa ba wx bx lam (ix3 b s j) = sgm (pre (conv x cw cb b s.val) wa ba j) := by
  pointwise [A_main_v52, A_main_v50, A_main_v48, A_main_v47, A_main_v46, A_main_v45, A_main_v44, A_main_v43, A_main_v42,
    A_main_v41, A_main_v40, A_main_v4, A_main_v3, K_main_v51, K_main_cst_1, K_main_v49, K_main_cst_0, conv_apply]
  rfl

/-- The second gate. -/
theorem gateX_apply (b : Fin 16) (s : Fin 4096) (j : Fin 512) :
    A_main_v64 (F := Ideal) x cw cb wa ba wx bx lam (ix3 b s j) = sgm (pre (conv x cw cb b s.val) wx bx j) := by
  pointwise [A_main_v64, A_main_v62, A_main_v60, A_main_v59, A_main_v58, A_main_v57, A_main_v56, A_main_v55, A_main_v54,
    A_main_v53, A_main_v40, A_main_v6, A_main_v5, K_main_v63, K_main_cst_3, K_main_v61, K_main_cst_2, conv_apply]
  rfl

/-- The softplus. -/
theorem soft_apply (j : Fin 512) :
    A_main_v68 (F := Ideal) x cw cb wa ba wx bx lam (ix1 j) = soft (-(lam (ix2 0 j))) := by
  pointwise [A_main_v68, A_main_call1_v11, A_main_call1_v10, A_main_call1_v9, A_main_call1_v8, A_main_call1_v7,
    A_main_call1_v6, A_main_call1_v4, A_main_call1_v3, A_main_call1_v1, A_main_v67, A_main_v2,
    K_main_call1_v5, K_main_call1_v2, K_main_call1_v0, K_main_call1_cst]
  rw [if_neg (fun h => h rfl)]
  rfl

/-- The logarithm of the decay. -/
theorem logA_apply (b : Fin 16) (s : Fin 4096) (j : Fin 512) :
    A_main_v71 (F := Ideal) x cw cb wa ba wx bx lam (ix3 b s j) = logA (conv x cw cb b s.val) wa ba lam j := by
  pointwise [A_main_v71, A_main_v70, A_main_v69, A_main_v66, K_main_v65, K_main_cst_4, soft_apply, gateA_apply]
  rw [lit_neg_eight]
  rfl

/-- The decay, position first. -/
theorem decay_apply (b : Fin 16) (s : Fin 4096) (j : Fin 512) :
    A_main_v81 (F := Ideal) x cw cb wa ba wx bx lam (ix3 s b j) = decay (conv x cw cb b s.val) wa ba lam j := by
  pointwise [A_main_v81, A_main_v72, logA_apply]
  rfl

/-- The input, position first. -/
theorem inp_apply (b : Fin 16) (s : Fin 4096) (j : Fin 512) :
    A_main_v82 (F := Ideal) x cw cb wa ba wx bx lam (ix3 s b j) = inp (conv x cw cb b s.val) wa ba wx bx lam j := by
  pointwise [A_main_v82, A_main_v79, A_main_v78, A_main_v77, A_main_v76, A_main_v75, A_main_v74, K_main_v73, K_main_cst_5,
    logA_apply, gateX_apply, conv_apply]
  rw [lit_two]
  rfl

/-- The reference's sequence of states. -/
def it : ℕ → State Ideal
  | 0 => init x cw cb wa ba wx bx lam
  | n + 1 => step n (it n)

/-- The start index of a trip, clamped, is the trip's number. -/
theorem start_eq (n : ℕ) (h : n < 4096) : (BitVec.ofNat 32 n).toInt = (n : ℤ) := by
  rw [BitVec.toInt_eq_toNat_of_lt (by rw [BitVec.toNat_ofNat]; omega), BitVec.toNat_ofNat]
  omega

/-- A trip's first start coordinate. -/
theorem clamp0 (n : ℕ) (h : n < 4096) (pf) :
    Host.clampedStart S4096x16x512 S1x16x512 pf (fun k => BitVec.toInt ((![constantI S_ 32 (BitVec.ofNat 32 n), constantI S_ 32 0#32,
      constantI S_ 32 0#32] : Fin 3 → S_.Idx → BitVec 32) k (Shape.Idx.first Gen.h_S_))) 0 = n := by
  show (min (max (BitVec.ofNat 32 n).toInt 0) ((4096 - 1 : Nat) : Int)).toNat = n
  rw [start_eq n h]
  omega

/-- Its second. -/
theorem clamp1 (n : ℕ) (pf) :
    Host.clampedStart S4096x16x512 S1x16x512 pf (fun k => BitVec.toInt ((![constantI S_ 32 (BitVec.ofNat 32 n), constantI S_ 32 0#32,
      constantI S_ 32 0#32] : Fin 3 → S_.Idx → BitVec 32) k (Shape.Idx.first Gen.h_S_))) 1 = 0 := rfl

/-- Its third. -/
theorem clamp2 (n : ℕ) (pf) :
    Host.clampedStart S4096x16x512 S1x16x512 pf (fun k => BitVec.toInt ((![constantI S_ 32 (BitVec.ofNat 32 n), constantI S_ 32 0#32,
      constantI S_ 32 0#32] : Fin 3 → S_.Idx → BitVec 32) k (Shape.Idx.first Gen.h_S_))) 2 = 0 := rfl

/-- What a trip reads and writes: the state after it. -/
theorem b9_apply (n : ℕ) (h : n < 4096) (σ : State Ideal) (b : Fin 16) (j : Fin 512) :
    b9 n σ (ix2 b j) = σ.main_v84_0 (ix3 ⟨n, h⟩ b j) * σ.main_v84_3 (ix2 b j) + σ.main_v84_1 (ix3 ⟨n, h⟩ b j) := by
  pointwise [b9, b8, b7, b6, b5, b4, b3, b2, b1, b0]
  simp only [clamp0 n h, clamp1, clamp2, Nat.zero_add, Fin.eta]

/-- The row a trip writes. -/
theorem b13_apply (n : ℕ) (h : n < 4096) (σ : State Ideal) (k : Fin 4096) (b : Fin 16) (j : Fin 512) :
    b13 n σ (ix3 k b j) = if k.val = n then b9 n σ (ix2 b j) else σ.main_v84_4 (ix3 k b j) := by
  pointwise [b13, b12, b11, b10]
  by_cases e : k.val = n
  · rw [dif_pos (by rw [clamp0 n h, clamp1, clamp2]; omega), if_pos e]
    rfl
  · rw [dif_neg (by rw [clamp0 n h, clamp1, clamp2]; omega), if_neg e]

/-- Every trip leaves the decays and the inputs. -/
theorem it_keeps (n : ℕ) : (it x cw cb wa ba wx bx lam n).main_v84_0 = A_main_v81 x cw cb wa ba wx bx lam
    ∧ (it x cw cb wa ba wx bx lam n).main_v84_1 = A_main_v82 x cw cb wa ba wx bx lam := by
  induction n with
  | zero => exact ⟨rfl, rfl⟩
  | succ n ih => exact ih

/-- The carried row is the state. -/
theorem it_state (n : ℕ) (hn : n ≤ 4096) (b : Fin 16) (j : Fin 512) :
    (it x cw cb wa ba wx bx lam n).main_v84_3 (ix2 b j) = state x cw cb wa ba wx bx lam b j n := by
  induction n with
  | zero =>
    show K_main_v80 (F := Ideal) (ix2 b j) = 0
    pointwise [K_main_v80, K_main_cst_6]
  | succ n ih =>
    show b9 n (it x cw cb wa ba wx bx lam n) (ix2 b j) = _
    rw [b9_apply n (by omega), (it_keeps x cw cb wa ba wx bx lam n).1, (it_keeps x cw cb wa ba wx bx lam n).2,
      ih (by omega), decay_apply, inp_apply]
    unfold state
    show _ = decay (conv x cw cb b (0 + n)) wa ba lam j * _ + inp (conv x cw cb b (0 + n)) wa ba wx bx lam j
    rw [Nat.zero_add]

/-- The rows written so far are the states after their positions. -/
theorem it_rows (n : ℕ) (hn : n ≤ 4096) (k : Fin 4096) (hk : k.val < n) (b : Fin 16) (j : Fin 512) :
    (it x cw cb wa ba wx bx lam n).main_v84_4 (ix3 k b j) = state x cw cb wa ba wx bx lam b j (k.val + 1) := by
  induction n with
  | zero => omega
  | succ n ih =>
    show b13 n (it x cw cb wa ba wx bx lam n) (ix3 k b j) = _
    rw [b13_apply n (by omega)]
    split_ifs with e
    · rw [e]
      exact it_state x cw cb wa ba wx bx lam (n + 1) hn b j
    · exact ih (by omega) (by omega)

/-- What the reference returns. -/
theorem result_apply (gate : Seq) (b : Fin 16) (s : Fin 4096) (j : Fin 512) :
    R_main_v100 (it x cw cb wa ba wx bx lam 4096) gate (ix3 b s j) = out x gate cw cb wa ba wx bx lam b s j := by
  pointwise [R_main_v100]
  rw [it_rows x cw cb wa ba wx bx lam 4096 le_rfl s s.isLt]
  rfl

end Cert.Lru.Ref

end
-- ==== Proof.Lru.Pass.lean ====
module

public import proofs.«01_k».proof.Proof.Gen.ReferenceIdeal.Run
public import proofs.«01_k».proof.Proof.Gen.ReferenceIdeal.Step
public import Idealize.ShloMosaic.Lib.Pointwise

/-! # The reference's loop, as the step iterated

The generated run says that the loop applies `STEP` to the whole memory of the program; the generated step says what one pass does to
the four arrays that matter. Here the first is read as the second. -/

@[expose] public section

noncomputable section

namespace Cert.Lru.Pass

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The memory `V` stands at pass `j` with the arrays of `s`. -/
structure At (V : Valuation τ sig (Elt Ideal)) (s : State Ideal) (j : ℕ) : Prop where
  factors : V (Proc.devRef .tc main_v84_0) = s.main_v84_0
  inputs : V (Proc.devRef .tc main_v84_1) = s.main_v84_1
  count : V (Proc.devRef .tc main_v84_2) = constantI S_ 32 (BitVec.ofNat 32 j)
  carry : V (Proc.devRef .tc main_v84_3) = s.main_v84_3
  rows : V (Proc.devRef .tc main_v84_4) = s.main_v84_4

variable {V : Valuation τ sig (Elt Ideal)} {s : State Ideal} {j : ℕ}

set_option maxRecDepth 8192 in
theorem carry_step (h : At V s j) : res_main_while0b_v104 V = (step j s).main_v84_3 := by
  unfold res_main_while0b_v104
  rw [h.factors, h.inputs, h.count, h.carry]
  rfl

set_option maxRecDepth 8192 in
theorem rows_step (h : At V s j) : step_main_v84_4 V = (step j s).main_v84_4 := by
  unfold step_main_v84_4
  rw [carry_step h, h.count, h.rows]
  rfl

theorem count_step (h : At V s j) : step_main_v84_2 V = constantI S_ 32 (BitVec.ofNat 32 (j + 1)) := by
  unfold step_main_v84_2
  rw [h.count]
  funext i
  show BitVec.ofNat 32 j + 1#32 = BitVec.ofNat 32 (j + 1)
  simp only [BitVec.ofNat_add]

/-- One pass. -/
theorem pass (h : At V s j) : At (STEP V) (step j s) (j + 1) :=
  ⟨(STEP_main_v84_0 V).trans h.factors, (STEP_main_v84_1 V).trans h.inputs, (STEP_main_v84_2 V).trans (count_step h),
    (STEP_main_v84_3 V).trans (carry_step h), (STEP_main_v84_4 V).trans (rows_step h)⟩

variable (m : (ℓ : Loc nD τ sig) → Buf (Elt Ideal) ℓ) (c : Dev nD)

/-- The arrays the loop starts from. -/
abbrev start : State Ideal :=
  init (m (c.tc.loc main_arg0)) (m (c.tc.loc main_arg2)) (m (c.tc.loc main_arg3)) (m (c.tc.loc main_arg4)) (m (c.tc.loc main_arg5))
    (m (c.tc.loc main_arg6)) (m (c.tc.loc main_arg7)) (m (c.tc.loc main_arg8))

set_option maxRecDepth 65536 in
set_option maxHeartbeats 500000 in
theorem entry : At (entryContents preI m c) (start m c) 0 := by
  constructor <;> (simp only [entryContents, afterL_cons, afterL_nil]; after_reads_simp) <;> rfl

theorem passes (it : ℕ → State Ideal) (h0 : it 0 = start m c) (hs : ∀ n, it (n + 1) = step n (it n)) (k : ℕ) :
    At (STEP^[k] (entryContents preI m c)) (it k) k := by
  induction k with
  | zero => rw [h0]; exact entry m c
  | succ k ih => rw [Function.iterate_succ_apply', hs k]; exact pass ih

theorem shown (h : At V s j) {g : Vec Ideal S16x4096x512 .f32} (hg : V (Proc.devRef .tc main_arg1) = g) :
    out_main_v100 V = Cert.ReferenceIdeal.Step.R_main_v100 s g := by
  unfold out_main_v100
  rw [h.rows, hg]
  rfl

end Cert.Lru.Pass
-- ==== Proof.Lru.Equal.lean ====
module

public import proofs.«01_k».proof.Proof.Lru.Fold
public import proofs.«01_k».proof.Proof.Lru.Ref
public import proofs.«01_k».proof.Proof.Lru.Pass

/-! # The recurrence: the kernel's array is the reference's -/

@[expose] public section

noncomputable section

namespace Cert.Lru.Equal

open Idealize.ShloMosaic Idealize.SL.Sem

set_option maxRecDepth 16384

/-- Running the reference leaves its result at the last state. -/
theorem reference_run (m : (ℓ : Loc Cert.ReferenceIdeal.nD Cert.ReferenceIdeal.τ Cert.ReferenceIdeal.sig) → Buf (Elt Ideal) ℓ) (c : Dev Cert.ReferenceIdeal.nD) (b : Fin 16) (s : Fin 4096) (j : Fin 512) :
    Cert.ReferenceIdeal.Value.out_main_v100 (Cert.ReferenceIdeal.Value.STEP^[4096]
        (Idealize.ShloMosaic.StableHlo.entryContents Cert.ReferenceIdeal.Value.preI m c)) (ValueIdx.ix3 b s j)
      = out (m (c.tc.loc Cert.ReferenceIdeal.main_arg0)) (m (c.tc.loc Cert.ReferenceIdeal.main_arg1)) (m (c.tc.loc Cert.ReferenceIdeal.main_arg2))
        (m (c.tc.loc Cert.ReferenceIdeal.main_arg3)) (m (c.tc.loc Cert.ReferenceIdeal.main_arg4)) (m (c.tc.loc Cert.ReferenceIdeal.main_arg5))
        (m (c.tc.loc Cert.ReferenceIdeal.main_arg6)) (m (c.tc.loc Cert.ReferenceIdeal.main_arg7)) (m (c.tc.loc Cert.ReferenceIdeal.main_arg8)) b s j := by
  have h := Pass.passes m c (Ref.it (m (c.tc.loc Cert.ReferenceIdeal.main_arg0)) (m (c.tc.loc Cert.ReferenceIdeal.main_arg2))
    (m (c.tc.loc Cert.ReferenceIdeal.main_arg3)) (m (c.tc.loc Cert.ReferenceIdeal.main_arg4)) (m (c.tc.loc Cert.ReferenceIdeal.main_arg5))
    (m (c.tc.loc Cert.ReferenceIdeal.main_arg6)) (m (c.tc.loc Cert.ReferenceIdeal.main_arg7)) (m (c.tc.loc Cert.ReferenceIdeal.main_arg8)))
    rfl (fun _ => rfl) 4096
  rw [Pass.shown h (Cert.ReferenceIdeal.Value.iter_main_arg1 m c 4096)]
  exact Ref.result_apply _ _ _ _ _ _ _ _ _ _ _ _

/-- On equal arguments the reference's result is what the kernel's blocks make up. -/
theorem equal (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (a0 : m' (c.tc.loc Cert.ReferenceIdeal.main_arg0) = m (c.tc.loc Cert.KernelIdeal.main_arg0))
    (a1 : m' (c.tc.loc Cert.ReferenceIdeal.main_arg1) = m (c.tc.loc Cert.KernelIdeal.main_arg1))
    (a2 : m' (c.tc.loc Cert.ReferenceIdeal.main_arg2) = m (c.tc.loc Cert.KernelIdeal.main_arg2))
    (a3 : m' (c.tc.loc Cert.ReferenceIdeal.main_arg3) = m (c.tc.loc Cert.KernelIdeal.main_arg3))
    (a4 : m' (c.tc.loc Cert.ReferenceIdeal.main_arg4) = m (c.tc.loc Cert.KernelIdeal.main_arg4))
    (a5 : m' (c.tc.loc Cert.ReferenceIdeal.main_arg5) = m (c.tc.loc Cert.KernelIdeal.main_arg5))
    (a6 : m' (c.tc.loc Cert.ReferenceIdeal.main_arg6) = m (c.tc.loc Cert.KernelIdeal.main_arg6))
    (a7 : m' (c.tc.loc Cert.ReferenceIdeal.main_arg7) = m (c.tc.loc Cert.KernelIdeal.main_arg7))
    (a8 : m' (c.tc.loc Cert.ReferenceIdeal.main_arg8) = m (c.tc.loc Cert.KernelIdeal.main_arg8)) :
    Cert.ReferenceIdeal.Value.out_main_v100 (Cert.ReferenceIdeal.Value.STEP^[4096]
        (Idealize.ShloMosaic.StableHlo.entryContents Cert.ReferenceIdeal.Value.preI m' c)) = (Cert.KernelIdeal.Gen.dats m 0 c).arrAt 9 Cert.KernelIdeal.cfg0.N := by
  rw [Ker.final m c]
  funext i
  obtain ⟨b, s, j, rfl⟩ : ∃ b s j, i = ValueIdx.ix3 b s j := ⟨i 0, i 1, i 2, ValueIdx.eq_ix3 i⟩
  refine (reference_run m' c b s j).trans ?_
  rw [a0, a1, a2, a3, a4, a5, a6, a7, a8]
  rfl

end Cert.Lru.Equal
-- ==== Proof.Ssd.Spec.lean ====
/- The selective state space layer as plain mathematics: for each sequence, a convolution of four taps, a step per head,
   and a state that is carried from one chunk of 128 positions to the next. -/
module

public import proofs.«01_k».proof.Proof.Lru.Math
public import Idealize.ShloMosaic.Lib.Pointwise

@[expose] public section

noncomputable section

namespace Cert.Ssd

open Idealize.ShloMosaic Cert.Lru

/-- The array the convolution runs over. -/
abbrev Seq : Type := (⟨3, ![16, 4096, 1536]⟩ : Shape).Idx → EReal
/-- The gate. -/
abbrev Gate : Type := (⟨3, ![16, 4096, 1024]⟩ : Shape).Idx → EReal
/-- The steps before their bias. -/
abbrev Raw : Type := (⟨3, ![16, 4096, 128]⟩ : Shape).Idx → EReal
/-- The four taps. -/
abbrev Taps : Type := (⟨3, ![1, 4, 1536]⟩ : Shape).Idx → EReal
/-- A row of the convolution's channels. -/
abbrev CRow : Type := (⟨2, ![1, 1536]⟩ : Shape).Idx → EReal
/-- A number per head. -/
abbrev HRow : Type := (⟨2, ![1, 16]⟩ : Shape).Idx → EReal
/-- A row of the output's channels. -/
abbrev ORow : Type := (⟨2, ![1, 1024]⟩ : Shape).Idx → EReal

/-- Entry `n` of the sequence with three zeros before it. -/
def xpad (x : Seq) (b : Fin 16) (n : ℕ) (c : Fin 1536) : EReal :=
  if h : 3 ≤ n ∧ n - 3 < 4096 then x (ix3 b ⟨n - 3, h.2⟩ c) else 0

/-- The causal convolution at position `s`. -/
def conv (x : Seq) (cw : Taps) (cb : CRow) (b : Fin 16) (s : ℕ) (c : Fin 1536) : EReal :=
  cw (ix3 0 0 c) * xpad x b s c + cw (ix3 0 1 c) * xpad x b (s + 1) c + cw (ix3 0 2 c) * xpad x b (s + 2) c
    + cw (ix3 0 3 c) * xpad x b (s + 3) c + cb (ix2 0 c)

/-- `x · sgm x`. -/
def silu (x : EReal) : EReal := x * sgm x

/-- Position `l` of chunk `k`. -/
def pos (k : ℕ) (l : Fin 128) : Fin 4096 := ⟨(128 * k + l.val) % 4096, by omega⟩

/-- The convolved rows of chunk `k`. -/
def rowsOf (x : Seq) (cw : Taps) (cb : CRow) (b : Fin 16) (k : ℕ) (l : Fin 128) (c : Fin 1536) : EReal :=
  silu (conv x cw cb b (128 * k + l.val) c)

/-- The steps of chunk `k`. -/
def stepsOf (raw : Raw) (bias : HRow) (b : Fin 16) (k : ℕ) (l : Fin 128) (h : Fin 16) : EReal :=
  soft (raw (ix3 b (pos k l) ⟨h.val, by omega⟩) + bias (ix2 0 h))

/-- The running sum of the log decays inside a chunk. -/
def running (T : Fin 128 → Fin 16 → EReal) (al : HRow) (l : Fin 128) (h : Fin 16) : EReal :=
  ∑ s : Fin 128, if s.val ≤ l.val then T s h * -(Ideal.exp (al (ix2 0 h))) else 0

/-- The head of an output channel. -/
def hd (j : Fin 1024) : Fin 16 := ⟨j.val / 64, by omega⟩
/-- An output channel among the convolved ones. -/
def xch (j : Fin 1024) : Fin 1536 := ⟨j.val, by omega⟩
/-- Entry `n` of the input row of the channel's group. -/
def bch (j : Fin 1024) (n : Fin 128) : Fin 1536 := ⟨1024 + j.val / 512 * 128 + n.val, by omega⟩
/-- Entry `n` of the output row of the channel's group. -/
def cch (j : Fin 1024) (n : Fin 128) : Fin 1536 := ⟨1280 + j.val / 512 * 128 + n.val, by omega⟩

section Chunk

variable (X : Fin 128 → Fin 1536 → EReal) (T A : Fin 128 → Fin 16 → EReal)

/-- The input scaled by its step. -/
def xdt (l : Fin 128) (j : Fin 1024) : EReal := X l (xch j) * T l (hd j)

/-- What a chunk adds to the state. -/
def added (n : Fin 128) (j : Fin 1024) : EReal :=
  ∑ l : Fin 128, X l (bch j n) * (xdt X T l j * Ideal.exp (A 127 (hd j) - A l (hd j)))

/-- The state after a chunk. -/
def next (H : Fin 128 → Fin 1024 → EReal) (n : Fin 128) (j : Fin 1024) : EReal :=
  Ideal.exp (A 127 (hd j)) * H n j + added X T A n j

/-- How much position `l` keeps of position `s`. -/
def kept (l s : Fin 128) (h : Fin 16) : EReal := if s.val ≤ l.val then Ideal.exp (A l h - A s h) else 0

/-- The output row of `l` against the input row of `s`. -/
def pairing (j : Fin 1024) (l s : Fin 128) : EReal := ∑ n : Fin 128, X l (cch j n) * X s (bch j n)

/-- What a chunk's own positions give. -/
def inside (l : Fin 128) (j : Fin 1024) : EReal := ∑ s : Fin 128, pairing X j l s * kept A l s (hd j) * xdt X T s j

/-- What the state before the chunk gives. -/
def across (H : Fin 128 → Fin 1024 → EReal) (l : Fin 128) (j : Fin 1024) : EReal :=
  (∑ n : Fin 128, X l (cch j n) * H n j) * Ideal.exp (A l (hd j))

/-- The chunk's output before its gate. -/
def mixed (D : HRow) (H : Fin 128 → Fin 1024 → EReal) (l : Fin 128) (j : Fin 1024) : EReal :=
  inside X T A l j + across X A H l j + D (ix2 0 (hd j)) * X l (xch j)

end Chunk

/-- The gated row, each half over the root of its mean square, times the gain. -/
def normed (y z : Fin 1024 → EReal) (g : ORow) (j : Fin 1024) : EReal :=
  y j * silu (z j) * Ideal.rsqrt (Ideal.div (∑ i : Fin 512, y ⟨j.val / 512 * 512 + i.val, by omega⟩
      * silu (z ⟨j.val / 512 * 512 + i.val, by omega⟩) * (y ⟨j.val / 512 * 512 + i.val, by omega⟩
      * silu (z ⟨j.val / 512 * 512 + i.val, by omega⟩))) (Ideal.ofBits .f32 0x44000000#32) + Ideal.ofBits .f32 0x358637BD#32)
    * g (ix2 0 j)

/-- The state before chunk `k`. -/
def state (x : Seq) (raw : Raw) (cw : Taps) (cb : CRow) (bias al : HRow) (b : Fin 16) : ℕ → Fin 128 → Fin 1024 → EReal
  | 0 => fun _ _ => 0
  | k + 1 => next (rowsOf x cw cb b k) (stepsOf raw bias b k) (running (stepsOf raw bias b k) al) (state x raw cw cb bias al b k)

/-- The output before its gate at row `l` of chunk `k`. -/
def before (x : Seq) (raw : Raw) (cw : Taps) (cb : CRow) (bias al D : HRow) (b : Fin 16) (k : ℕ) (l : Fin 128) (j : Fin 1024) : EReal :=
  mixed (rowsOf x cw cb b k) (stepsOf raw bias b k) (running (stepsOf raw bias b k) al) D (state x raw cw cb bias al b k) l j

/-- The output. -/
def out (x : Seq) (z : Gate) (raw : Raw) (cw : Taps) (cb : CRow) (bias al D : HRow) (g : ORow) (b : Fin 16) (s : Fin 4096)
    (j : Fin 1024) : EReal :=
  normed (before x raw cw cb bias al D b (s.val / 128) ⟨s.val % 128, by omega⟩) (fun i => z (ix3 b s i)) g j

end Cert.Ssd

end
-- ==== Proof.Ssd.Tile.lean ====
module

public import proofs.«01_k».proof.Proof.Gen.Kernel6Ideal.Skeleton
public import proofs.«01_k».proof.Proof.Ssd.Spec

/-! # The pieces of one chunk, entry by entry -/

@[expose] public section

noncomputable section

namespace Cert.Ssd.Ker

open Idealize Idealize.ShloMosaic Cert.Lru
open Cert.Kernel6Ideal Cert.Kernel6Ideal.Gen

set_option maxRecDepth 100000

/-- Comparing two row numbers. -/
theorem sge_apply : ∀ l s : Fin 128, IntOp.cmpi CmpIPredicate.sge (BitVec.ofNat 32 l.val) (BitVec.ofNat 32 s.val)
    = if s.val ≤ l.val then 1#1 else 0#1 := by decide +kernel

/-- Comparing a lane number with 64. -/
theorem slt_apply : ∀ c : Fin 128, IntOp.cmpi CmpIPredicate.slt (BitVec.ofNat 32 c.val) 64#32
    = if c.val < 64 then 1#1 else 0#1 := by decide +kernel

/-- A choice by a condition's bit. -/
theorem select_if (p : Prop) [Decidable p] (a b : EReal) : Scalar.select (if p then 1#1 else 0#1) a b = if p then a else b := by
  by_cases h : p
  · rw [if_pos h, if_pos h]; rfl
  · rw [if_neg h, if_neg h]; rfl

/-- A choice by the half of the lanes. -/
theorem select_half (n : ℕ) (h : n < 128) (a b : EReal) :
    Scalar.select (IntOp.cmpi CmpIPredicate.slt (BitVec.ofNat 32 n) 64#32) a b = if n < 64 then a else b := by
  rw [slt_apply ⟨n, h⟩, select_if]

/-- The bit of a condition as a number. -/
theorem bit_apply (p : Prop) [Decidable p] :
    FloatOps.sitofp (F := Ideal) .f32 (BitVec.setWidth 32 (if p then 1#1 else 0#1)) = if p then (1 : EReal) else 0 := by
  by_cases h : p
  · rw [if_pos h, if_pos h]
    show (((BitVec.setWidth 32 1#1 : BitVec 32).toInt : ℝ) : EReal) = 1
    simp
  · rw [if_neg h, if_neg h]
    show (((BitVec.setWidth 32 0#1 : BitVec 32).toInt : ℝ) : EReal) = 0
    simp

/-- What a number at most zero leaves after it is taken off adds nothing to it. -/
theorem three_pieces {x : EReal} (h : x ≤ 0) : x + (x - x) + ((x - x) - (x - x)) = x := by
  induction x with
  | bot => simp
  | top => simp at h
  | coe r =>
    rw [← EReal.coe_sub, sub_self]
    simp

/-- The convolved rows. -/
theorem conv_tile (v12 v14 v21 v27 v33 : Vec Ideal S1x1536 .f32) (v16 v23 v29 v35 : Vec Ideal S128x1536 .f32) (r : Fin 128) (c : Fin 1536) :
    k0_pay11 (k0_pay7 v12) (k0_pay8 v14 v16 v21 v23) (k0_pay9 v27) v29 v33 v35 (ix2 r c)
      = silu (v14 (ix2 0 c) * v16 (ix2 r c) + v21 (ix2 0 c) * v23 (ix2 r c) + v27 (ix2 0 c) * v29 (ix2 r c)
        + v33 (ix2 0 c) * v35 (ix2 r c) + v12 (ix2 0 c)) := by
  unfold_payloads
  pointwise []
  unfold silu sgm
  rw [add_comm (v12 (ix2 0 c)), zero_sub]

/-- The convolved rows' first channels. -/
theorem xs_tile (v13 v26 v28 v29 v33 v35) (r : Fin 128) (j : Fin 1024) :
    k0_pay12 (F := Ideal) v13 v26 v28 v29 v33 v35 (ix2 r j) = k0_pay11 v13 v26 v28 v29 v33 v35 (ix2 r (xch j)) := by
  unfold k0_pay12
  generalize k0_pay11 v13 v26 v28 v29 v33 v35 = T
  pointwise []
  rfl

/-- The steps. -/
theorem dt_tile (v7 : Vec Ideal S1x128x128 .f32) (v54 : Vec Ideal S1x128 .f32) (r c : Fin 128) :
    k0_pay13 (k0_pay5 v7) v54 (ix2 r c) = soft (v7 (ix3 0 r c) + v54 (ix2 0 c)) := by
  unfold_payloads
  pointwise []
  unfold soft
  rw [zero_sub]
  rfl

/-- The log decays. -/
theorem da_tile (v7 : Vec Ideal S1x128x128 .f32) (v54 v66 : Vec Ideal S1x128 .f32) (r c : Fin 128) :
    k0_pay14 (k0_pay5 v7) v54 v66 (ix2 r c) = k0_pay13 (k0_pay5 v7) v54 (ix2 r c) * v66 (ix2 0 c) := by
  unfold k0_pay14
  generalize k0_pay13 (k0_pay5 v7) v54 = T
  pointwise []

/-- The mask of the positions up to a row. -/
theorem causal_apply (l s : Fin 128) : k0_pay15 (ix2 l s) = if s.val ≤ l.val then 1#1 else 0#1 := by
  unfold k0_pay15
  pointwise []
  exact sge_apply l s

/-- The mask of the lower half of the lanes. -/
theorem low_apply (l c : Fin 128) : k0_pay18 (ix2 l c) = if c.val < 64 then 1#1 else 0#1 := by
  unfold k0_pay18
  pointwise []
  exact slt_apply c

theorem acs_tile (v69 : FVec Ideal S128x128 .f32) (l c : Fin 128) (h : ∀ s : Fin 128, v69 (ix2 s c) ≤ 0) :
    k0_pay16 v69 (ix2 l c) = ∑ s : Fin 128, if s.val ≤ l.val then v69 (ix2 s c) else 0 := by
  unfold k0_pay16
  pointwise [causal_apply]
  rw [← Finset.sum_add_distrib, ← Finset.sum_add_distrib]
  refine Finset.sum_congr rfl fun s _ => ?_
  rw [bit_apply]
  by_cases e : s.val ≤ l.val
  · rw [if_pos e, if_pos e, one_mul, one_mul, one_mul, three_pieces (h s)]
  · rw [if_neg e, if_neg e, zero_mul, zero_mul, zero_mul, add_zero, add_zero]

theorem acsT_tile (v69 : FVec Ideal S128x128 .f32) (l c : Fin 128) : k0_pay17 v69 (ix2 c l) = k0_pay16 v69 (ix2 l c) := by
  unfold k0_pay17
  generalize k0_pay16 v69 = T
  pointwise []

/-- A column per head, spread over the head's lanes. -/
theorem spread_tile (v : FVec Ideal S128x128 .f32) (r : Fin 128) (j : Fin 1024) :
    k0_pay24 v k0_pay18 (k0_pay19 v) (k0_pay20 v) (k0_pay21 v) (k0_pay22 v) (k0_pay23 v) (ix2 r j) = v (ix2 r ⟨j.val / 64, by omega⟩) := by
  unfold_payloads
  pointwise []
  have hj := j.isLt
  split_ifs <;> (rw [select_half _ (by omega)]; split_ifs) <;>
    exact congrArg (fun q => v (ix2 r q)) (Fin.ext (by simp; omega))

theorem spread_acs (v : FVec Ideal S128x128 .f32) (r : Fin 128) (j : Fin 1024) :
    k0_pay31 v k0_pay18 (k0_pay25 v k0_pay18) (k0_pay26 v k0_pay18) (k0_pay27 v k0_pay18) (k0_pay28 v k0_pay18) (k0_pay29 v) (k0_pay30 v)
      (ix2 r j) = v (ix2 r ⟨j.val / 64, by omega⟩) := by
  unfold_payloads
  pointwise []
  have hj := j.isLt
  split_ifs <;> (rw [select_half _ (by omega)]; split_ifs) <;>
    exact congrArg (fun q => v (ix2 r q)) (Fin.ext (by simp; omega))

/-- The factor of the state before the chunk. -/
theorem din_tile (v : FVec Ideal S128x128 .f32) (r : Fin 128) (j : Fin 1024) :
    k0_pay32 v k0_pay18 (k0_pay25 v k0_pay18) (k0_pay26 v k0_pay18) (k0_pay27 v k0_pay18) (k0_pay28 v k0_pay18) (k0_pay29 v) (k0_pay30 v)
      (ix2 r j) = Ideal.exp (v (ix2 r ⟨j.val / 64, by omega⟩)) := by
  unfold k0_pay32
  rw [← spread_acs v r j]
  rfl

/-- The factor up to the chunk's end. -/
theorem dout_tile (v : FVec Ideal S128x128 .f32) (r : Fin 128) (j : Fin 1024) :
    k0_pay33 v k0_pay18 (k0_pay25 v k0_pay18) (k0_pay26 v k0_pay18) (k0_pay27 v k0_pay18) (k0_pay28 v k0_pay18) (k0_pay29 v) (k0_pay30 v)
      (ix2 r j) = Ideal.exp (v (ix2 127 ⟨j.val / 64, by omega⟩) - v (ix2 r ⟨j.val / 64, by omega⟩)) := by
  unfold k0_pay33
  rw [← spread_acs v r j, ← spread_acs v 127 j]
  generalize k0_pay31 v k0_pay18 (k0_pay25 v k0_pay18) (k0_pay26 v k0_pay18) (k0_pay27 v k0_pay18) (k0_pay28 v k0_pay18) (k0_pay29 v) (k0_pay30 v) = T
  pointwise []

theorem xdt_tile (u v : FVec Ideal S128x1024 .f32) (r : Fin 128) (j : Fin 1024) : k0_pay34 u v (ix2 r j) = u (ix2 r j) * v (ix2 r j) := by
  pointwise [k0_pay34]

theorem cm0_tile (X : FVec Ideal S128x1536 .f32) (l n : Fin 128) : k0_pay35 X (ix2 l n) = X (ix2 l ⟨1280 + n.val, by omega⟩) := by
  pointwise [k0_pay35]

theorem bm0_tile (X : FVec Ideal S128x1536 .f32) (l n : Fin 128) : k0_pay36 X (ix2 n l) = X (ix2 l ⟨1024 + n.val, by omega⟩) := by
  pointwise [k0_pay36]

theorem cb0_tile (X : FVec Ideal S128x1536 .f32) (l s : Fin 128) :
    k0_pay37 X (ix2 l s) = ∑ n : Fin 128, X (ix2 l ⟨1280 + n.val, by omega⟩) * X (ix2 s ⟨1024 + n.val, by omega⟩) := by
  pointwise [k0_pay37, cm0_tile, bm0_tile]

theorem cm1_tile (X : FVec Ideal S128x1536 .f32) (l n : Fin 128) : k0_pay50 X (ix2 l n) = X (ix2 l ⟨1408 + n.val, by omega⟩) := by
  pointwise [k0_pay50]

theorem bm1_tile (X : FVec Ideal S128x1536 .f32) (l n : Fin 128) : k0_pay51 X (ix2 n l) = X (ix2 l ⟨1152 + n.val, by omega⟩) := by
  pointwise [k0_pay51]

theorem cb1_tile (X : FVec Ideal S128x1536 .f32) (l s : Fin 128) :
    k0_pay52 X (ix2 l s) = ∑ n : Fin 128, X (ix2 l ⟨1408 + n.val, by omega⟩) * X (ix2 s ⟨1152 + n.val, by omega⟩) := by
  pointwise [k0_pay52, cm1_tile, bm1_tile]

/-- Two heads' matrices side by side against the two halves of the lanes. -/
theorem pair_tile (P Q : FVec Ideal S128x128 .bf16) (Y : FVec Ideal S128x128 .f32) (l c : Fin 128) :
    matmul dot_S128x256_S256x128_S128x128_1_0_0_1_n_n none
      (concatenate S128x256 1 [⟨S128x128, P⟩, ⟨S128x128, Q⟩] concatenates_S128x128_S128x128_S128x256_d1)
      (truncf .bf16 (concatenate S256x128 0 [⟨S128x128, select k0_pay18 Y (broadcast S128x128 (Scalar.ofBits .f32 0x00000000#32))⟩,
        ⟨S128x128, select k0_pay18 (broadcast S128x128 (Scalar.ofBits .f32 0x00000000#32)) Y⟩] concatenates_S128x128_S128x128_S256x128_d0) bitsLt_bf16_f32)
      (constant S128x128 .f32 0x00000000#32) (ix2 l c)
      = ∑ s : Fin 128, (if c.val < 64 then P (ix2 l s) else Q (ix2 l s)) * Y (ix2 s c) := by
  pointwise [low_apply]
  simp only [select_if]
  split_ifs <;> simp

end Cert.Ssd.Ker
-- ==== Proof.Ssd.Pairs.lean ====
module

public import proofs.«01_k».proof.Proof.Ssd.Tile

/-! # A chunk's own positions, two heads at a time -/

@[expose] public section

noncomputable section

namespace Cert.Ssd.Ker

open Idealize Idealize.ShloMosaic Cert.Lru
open Cert.Kernel6Ideal Cert.Kernel6Ideal.Gen

set_option maxRecDepth 100000

/-- How much a position keeps of another, for the head of column `h`. -/
def keep (A : FVec Ideal S128x128 .f32) (l s h : Fin 128) : EReal :=
  if s.val ≤ l.val then Ideal.exp (A (ix2 l h) - A (ix2 s h)) else 0

theorem select_one (a b : EReal) : Scalar.select 1#1 a b = a := rfl

theorem select_zero (a b : EReal) : Scalar.select 0#1 a b = b := rfl

theorem keep_if (p : Prop) [Decidable p] (x : EReal) :
    (if p then Ideal.exp (if p then x else 0) else 0) = if p then Ideal.exp x else 0 := by
  split_ifs <;> rfl

/-- The two heads of a pair of lane halves. -/
theorem two_heads (A : FVec Ideal S128x128 .f32) (C Y : Fin 128 → EReal) (q : ℕ) (hq : 2 * q + 1 < 128) (l c : Fin 128) :
    (∑ s : Fin 128, (if c.val < 64 then C s * keep A l s ⟨2 * q, by omega⟩ else C s * keep A l s ⟨2 * q + 1, hq⟩) * Y s)
      = ∑ s : Fin 128, C s * keep A l s ⟨2 * q + c.val / 64, by omega⟩ * Y s := by
  refine Finset.sum_congr rfl fun s _ => ?_
  have hc := c.isLt
  split_ifs with h
  · have e : (⟨2 * q, by omega⟩ : Fin 128) = ⟨2 * q + c.val / 64, by omega⟩ := Fin.ext (by show 2 * q = 2 * q + c.val / 64; omega)
    rw [e]
  · have e : (⟨2 * q + 1, by omega⟩ : Fin 128) = ⟨2 * q + c.val / 64, by omega⟩ := Fin.ext (by show 2 * q + 1 = 2 * q + c.val / 64; omega)
    rw [e]

variable (X : FVec Ideal S128x1536 .f32) (A AT : FVec Ideal S128x128 .f32) (Y : FVec Ideal S128x1024 .f32) (C : FVec Ideal S128x128 .f32)
variable (hT : ∀ l h : Fin 128, AT (ix2 h l) = A (ix2 l h))
include hT

/-- Heads 0 and 1. -/
theorem pair0 (l c : Fin 128) :
    k0_pay40 k0_pay15 k0_pay18 Y (k0_pay37 X) (k0_pay38 X k0_pay15 A AT) (k0_pay39 k0_pay15 A AT) (Scalar.ofBits .f32 0x00000000#32) (ix2 l c)
      = ∑ s : Fin 128, (k0_pay37 X) (ix2 l s) * keep A l s ⟨0 + c.val / 64, by omega⟩ * Y (ix2 s ⟨0 + c.val, by omega⟩) := by
  unfold k0_pay40
  refine (pair_tile _ _ _ l c).trans ?_
  refine Eq.trans ?_ (two_heads A (fun s => (k0_pay37 X) (ix2 l s)) (fun s => Y (ix2 s ⟨0 + c.val, by omega⟩)) 0 (by omega) l c)
  refine Finset.sum_congr rfl fun s _ => ?_
  unfold k0_pay38
  generalize k0_pay37 X = C
  pointwise [k0_pay39, causal_apply, hT]
  unfold keep
  by_cases e : s.val ≤ l.val <;> simp [select_one, select_zero, e]

/-- Heads 2 and 3. -/
theorem pair1 (l c : Fin 128) :
    k0_pay41 k0_pay15 A AT k0_pay18 Y C (ix2 l c)
      = ∑ s : Fin 128, (C) (ix2 l s) * keep A l s ⟨2 + c.val / 64, by omega⟩ * Y (ix2 s ⟨128 + c.val, by omega⟩) := by
  unfold k0_pay41
  refine (pair_tile _ _ _ l c).trans ?_
  refine Eq.trans ?_ (two_heads A (fun s => (C) (ix2 l s)) (fun s => Y (ix2 s ⟨128 + c.val, by omega⟩)) 1 (by omega) l c)
  refine Finset.sum_congr rfl fun s _ => ?_
  pointwise [causal_apply, hT]
  unfold keep
  by_cases e : s.val ≤ l.val <;> simp [select_one, select_zero, e]

/-- Heads 4 and 5. -/
theorem pair2 (l c : Fin 128) :
    k0_pay44 k0_pay15 A AT k0_pay18 Y C (k0_pay42 A) (k0_pay43 AT) (ix2 l c)
      = ∑ s : Fin 128, (C) (ix2 l s) * keep A l s ⟨4 + c.val / 64, by omega⟩ * Y (ix2 s ⟨256 + c.val, by omega⟩) := by
  unfold k0_pay44
  refine (pair_tile _ _ _ l c).trans ?_
  refine Eq.trans ?_ (two_heads A (fun s => (C) (ix2 l s)) (fun s => Y (ix2 s ⟨256 + c.val, by omega⟩)) 2 (by omega) l c)
  refine Finset.sum_congr rfl fun s _ => ?_
  pointwise [k0_pay42, k0_pay43, causal_apply, hT]
  unfold keep
  by_cases e : s.val ≤ l.val <;> simp [select_one, select_zero, e]

/-- Heads 8 and 9. -/
theorem pair4 (l c : Fin 128) :
    k0_pay54 k0_pay15 A AT k0_pay18 Y C (k0_pay53 k0_pay15 A AT) (ix2 l c)
      = ∑ s : Fin 128, (C) (ix2 l s) * keep A l s ⟨8 + c.val / 64, by omega⟩ * Y (ix2 s ⟨512 + c.val, by omega⟩) := by
  unfold k0_pay54
  refine (pair_tile _ _ _ l c).trans ?_
  refine Eq.trans ?_ (two_heads A (fun s => (C) (ix2 l s)) (fun s => Y (ix2 s ⟨512 + c.val, by omega⟩)) 4 (by omega) l c)
  refine Finset.sum_congr rfl fun s _ => ?_
  pointwise [k0_pay53, causal_apply, hT]
  unfold keep
  by_cases e : s.val ≤ l.val <;> simp [select_one, select_zero, e]

/-- Heads 10 and 11. -/
theorem pair5 (l c : Fin 128) :
    k0_pay57 k0_pay18 Y (k0_pay55 k0_pay15 A AT C) (k0_pay56 k0_pay15 A AT C) (ix2 l c)
      = ∑ s : Fin 128, (C) (ix2 l s) * keep A l s ⟨10 + c.val / 64, by omega⟩ * Y (ix2 s ⟨640 + c.val, by omega⟩) := by
  unfold k0_pay57
  refine (pair_tile _ _ _ l c).trans ?_
  refine Eq.trans ?_ (two_heads A (fun s => (C) (ix2 l s)) (fun s => Y (ix2 s ⟨640 + c.val, by omega⟩)) 5 (by omega) l c)
  refine Finset.sum_congr rfl fun s _ => ?_
  pointwise [k0_pay55, k0_pay56, causal_apply, hT]
  unfold keep
  by_cases e : s.val ≤ l.val <;> simp [select_one, select_zero, e]

/-- Heads 12 and 13. -/
theorem pair6 (l c : Fin 128) :
    k0_pay58 k0_pay15 A AT k0_pay18 Y C (ix2 l c)
      = ∑ s : Fin 128, (C) (ix2 l s) * keep A l s ⟨12 + c.val / 64, by omega⟩ * Y (ix2 s ⟨768 + c.val, by omega⟩) := by
  unfold k0_pay58
  refine (pair_tile _ _ _ l c).trans ?_
  refine Eq.trans ?_ (two_heads A (fun s => (C) (ix2 l s)) (fun s => Y (ix2 s ⟨768 + c.val, by omega⟩)) 6 (by omega) l c)
  refine Finset.sum_congr rfl fun s _ => ?_
  pointwise [causal_apply, hT]
  unfold keep
  by_cases e : s.val ≤ l.val <;> simp [select_one, select_zero, e]

/-- Group 0: the four pairs side by side, and what the state gives. -/
theorem group0 (D : FVec Ideal S128x1024 .f32) (cm : FVec Ideal S128x128 .bf16) (P0 P1 P2 : FVec Ideal S128x128 .f32)
    (S : Vec Ideal S1x128x512 .f32)
    (h0 : ∀ l c : Fin 128, P0 (ix2 l c) = ∑ s : Fin 128, C (ix2 l s) * keep A l s ⟨0 + c.val / 64, by omega⟩ * Y (ix2 s ⟨0 + c.val, by omega⟩))
    (h1 : ∀ l c : Fin 128, P1 (ix2 l c) = ∑ s : Fin 128, C (ix2 l s) * keep A l s ⟨2 + c.val / 64, by omega⟩ * Y (ix2 s ⟨128 + c.val, by omega⟩))
    (h2 : ∀ l c : Fin 128, P2 (ix2 l c) = ∑ s : Fin 128, C (ix2 l s) * keep A l s ⟨4 + c.val / 64, by omega⟩ * Y (ix2 s ⟨256 + c.val, by omega⟩))
    (l : Fin 128) (c : Fin 512) :
    k0_pay49 k0_pay15 k0_pay18 D Y cm C P0 P1 P2 (k0_pay45 k0_pay15 A AT C) (k0_pay46 k0_pay15 A AT) (Scalar.ofBits .f32 0x00000000#32) S (ix2 l c)
      = ∑ s : Fin 128, C (ix2 l s) * keep A l s ⟨c.val / 64, by omega⟩ * Y (ix2 s ⟨c.val, by omega⟩)
        + (∑ n : Fin 128, cm (ix2 l n) * S (ix3 0 n c)) * D (ix2 l ⟨c.val, by omega⟩) := by
  pointwise [k0_pay49, k0_pay47, k0_pay45, k0_pay46, causal_apply, low_apply, hT]
  congr 1
  have hc := c.isLt
  by_cases a0 : c.val < 128
  · rw [dif_pos a0, h0]
    refine Finset.sum_congr rfl fun s _ => ?_
    have e1 : (⟨0 + c.val / 64, by omega⟩ : Fin 128) = ⟨c.val / 64, by omega⟩ := Fin.ext (by show 0 + c.val / 64 = c.val / 64; omega)
    have e2 : (⟨0 + c.val, by omega⟩ : Fin 1024) = ⟨c.val, by omega⟩ := Fin.ext (by show 0 + c.val = c.val; omega)
    rw [← e1, ← e2]
  · rw [dif_neg a0]
    by_cases a1 : c.val - 128 < 128
    · rw [dif_pos a1, h1]
      refine Finset.sum_congr rfl fun s _ => ?_
      have e1 : (⟨2 + (c.val - 128) / 64, by omega⟩ : Fin 128) = ⟨c.val / 64, by omega⟩ := Fin.ext (by show 2 + (c.val - 128) / 64 = c.val / 64; omega)
      have e2 : (⟨128 + (c.val - 128), by omega⟩ : Fin 1024) = ⟨c.val, by omega⟩ := Fin.ext (by show 128 + (c.val - 128) = c.val; omega)
      rw [← e1, ← e2]
    · rw [dif_neg a1]
      by_cases a2 : c.val - 128 - 128 < 128
      · rw [dif_pos a2, h2]
        refine Finset.sum_congr rfl fun s _ => ?_
        have e1 : (⟨4 + (c.val - 128 - 128) / 64, by omega⟩ : Fin 128) = ⟨c.val / 64, by omega⟩ := Fin.ext (by show 4 + (c.val - 128 - 128) / 64 = c.val / 64; omega)
        have e2 : (⟨256 + (c.val - 128 - 128), by omega⟩ : Fin 1024) = ⟨c.val, by omega⟩ := Fin.ext (by show 256 + (c.val - 128 - 128) = c.val; omega)
        rw [← e1, ← e2]
      · rw [dif_neg a2, ← Finset.sum_add_distrib]
        refine Finset.sum_congr rfl fun s _ => ?_
        have e2 : (⟨384 + (c.val - 128 - 128 - 128), by omega⟩ : Fin 1024) = ⟨c.val, by omega⟩ := Fin.ext (by show 384 + (c.val - 128 - 128 - 128) = c.val; omega)
        rw [e2]
        unfold keep
        by_cases b : c.val - 128 - 128 - 128 < 64
        · have e1 : (⟨c.val / 64, by omega⟩ : Fin 128) = 6 := Fin.ext (by show c.val / 64 = 6; omega)
          rw [e1]
          by_cases e : s.val ≤ l.val <;> simp [select_one, select_zero, e, b]
        · have e1 : (⟨c.val / 64, by omega⟩ : Fin 128) = 7 := Fin.ext (by show c.val / 64 = 7; omega)
          rw [e1]
          by_cases e : s.val ≤ l.val <;> simp [select_one, select_zero, e, b]

/-- Group 1: the four pairs side by side. -/
theorem group1 (P0 P1 P2 : FVec Ideal S128x128 .f32)
    (h0 : ∀ l c : Fin 128, P0 (ix2 l c) = ∑ s : Fin 128, C (ix2 l s) * keep A l s ⟨8 + c.val / 64, by omega⟩ * Y (ix2 s ⟨512 + c.val, by omega⟩))
    (h1 : ∀ l c : Fin 128, P1 (ix2 l c) = ∑ s : Fin 128, C (ix2 l s) * keep A l s ⟨10 + c.val / 64, by omega⟩ * Y (ix2 s ⟨640 + c.val, by omega⟩))
    (h2 : ∀ l c : Fin 128, P2 (ix2 l c) = ∑ s : Fin 128, C (ix2 l s) * keep A l s ⟨12 + c.val / 64, by omega⟩ * Y (ix2 s ⟨768 + c.val, by omega⟩))
    (l : Fin 128) (c : Fin 512) :
    k0_pay60 k0_pay15 A AT k0_pay18 Y C P0 P1 P2 (k0_pay59 k0_pay15 A AT) (ix2 l c)
      = ∑ s : Fin 128, C (ix2 l s) * keep A l s ⟨8 + c.val / 64, by omega⟩ * Y (ix2 s ⟨512 + c.val, by omega⟩) := by
  pointwise [k0_pay60, k0_pay59, causal_apply, low_apply, hT]
  have hc := c.isLt
  by_cases a0 : c.val < 128
  · rw [dif_pos a0, h0]
  · rw [dif_neg a0]
    by_cases a1 : c.val - 128 < 128
    · rw [dif_pos a1, h1]
      refine Finset.sum_congr rfl fun s _ => ?_
      have e1 : (⟨10 + (c.val - 128) / 64, by omega⟩ : Fin 128) = ⟨8 + c.val / 64, by omega⟩ := Fin.ext (by show 10 + (c.val - 128) / 64 = 8 + c.val / 64; omega)
      have e2 : (⟨640 + (c.val - 128), by omega⟩ : Fin 1024) = ⟨512 + c.val, by omega⟩ := Fin.ext (by show 640 + (c.val - 128) = 512 + c.val; omega)
      rw [← e1, ← e2]
    · rw [dif_neg a1]
      by_cases a2 : c.val - 128 - 128 < 128
      · rw [dif_pos a2, h2]
        refine Finset.sum_congr rfl fun s _ => ?_
        have e1 : (⟨12 + (c.val - 128 - 128) / 64, by omega⟩ : Fin 128) = ⟨8 + c.val / 64, by omega⟩ := Fin.ext (by show 12 + (c.val - 128 - 128) / 64 = 8 + c.val / 64; omega)
        have e2 : (⟨768 + (c.val - 128 - 128), by omega⟩ : Fin 1024) = ⟨512 + c.val, by omega⟩ := Fin.ext (by show 768 + (c.val - 128 - 128) = 512 + c.val; omega)
        rw [← e1, ← e2]
      · rw [dif_neg a2, ← Finset.sum_add_distrib]
        refine Finset.sum_congr rfl fun s _ => ?_
        have e2 : (⟨896 + (c.val - 128 - 128 - 128), by omega⟩ : Fin 1024) = ⟨512 + c.val, by omega⟩ := Fin.ext (by show 896 + (c.val - 128 - 128 - 128) = 512 + c.val; omega)
        rw [e2]
        unfold keep
        by_cases b : c.val - 128 - 128 - 128 < 64
        · have e1 : (⟨8 + c.val / 64, by omega⟩ : Fin 128) = 14 := Fin.ext (by show 8 + c.val / 64 = 14; omega)
          rw [e1]
          by_cases e : s.val ≤ l.val <;> simp [select_one, select_zero, e, b]
        · have e1 : (⟨8 + c.val / 64, by omega⟩ : Fin 128) = 15 := Fin.ext (by show 8 + c.val / 64 = 15; omega)
          rw [e1]
          by_cases e : s.val ≤ l.val <;> simp [select_one, select_zero, e, b]

omit hT

/-- What the state gives in group 1. -/
theorem off1 (D : FVec Ideal S128x1024 .f32) (cm : FVec Ideal S128x128 .bf16) (S : Vec Ideal S1x128x512 .f32) (l : Fin 128) (c : Fin 512) :
    k0_pay62 D cm S (ix2 l c) = (∑ n : Fin 128, cm (ix2 l n) * S (ix3 0 n c)) * D (ix2 l ⟨512 + c.val, by omega⟩) := by
  pointwise [k0_pay62, k0_pay61]

/-- The state after the chunk, group 0. -/
theorem kept0 (D E Y : FVec Ideal S128x1024 .f32) (bm : FVec Ideal S128x128 .bf16) (S : Vec Ideal S1x128x512 .f32) (n : Fin 128) (c : Fin 512) :
    k0_pay48 D E Y bm S (ix3 0 n c) = D (ix2 127 ⟨c.val, by omega⟩) * S (ix3 0 n c)
      + ∑ l : Fin 128, bm (ix2 n l) * (Y (ix2 l ⟨c.val, by omega⟩) * E (ix2 l ⟨c.val, by omega⟩)) := by
  pointwise [k0_pay48, k0_pay47]

/-- The state after the chunk, group 1. -/
theorem kept1 (D E Y : FVec Ideal S128x1024 .f32) (bm : FVec Ideal S128x128 .bf16) (S : Vec Ideal S1x128x512 .f32) (n : Fin 128) (c : Fin 512) :
    k0_pay63 D E Y bm S (ix3 0 n c) = D (ix2 127 ⟨512 + c.val, by omega⟩) * S (ix3 0 n c)
      + ∑ l : Fin 128, bm (ix2 n l) * (Y (ix2 l ⟨512 + c.val, by omega⟩) * E (ix2 l ⟨512 + c.val, by omega⟩)) := by
  pointwise [k0_pay63, k0_pay61]

/-- The output: both groups and the skipped input, gated, each half over its root mean square, times the gain. -/
theorem out_tile (v5 : Vec Ideal S1x128x1024 .f32) (xs : FVec Ideal S128x1024 .f32) (G0 G1 O1 : FVec Ideal S128x512 .f32) (d g : Vec Ideal S1x1024 .f32)
    (y : Fin 128 → Fin 1024 → EReal)
    (hy0 : ∀ (l : Fin 128) (c : Fin 512), G0 (ix2 l c) + d (ix2 0 ⟨c.val, by omega⟩) * xs (ix2 l ⟨c.val, by omega⟩) = y l ⟨c.val, by omega⟩)
    (hy1 : ∀ (l : Fin 128) (c : Fin 512), G1 (ix2 l c) + O1 (ix2 l c) + d (ix2 0 ⟨512 + c.val, by omega⟩) * xs (ix2 l ⟨512 + c.val, by omega⟩)
      = y l ⟨512 + c.val, by omega⟩) (l : Fin 128) (j : Fin 1024) :
    k0_pay1 (k0_pay64 (k0_pay4 v5) xs G0 G1 O1 d g) (ix3 0 l j) = normed (y l) (fun i => v5 (ix3 0 l i)) g j := by
  pointwise [k0_pay1, k0_pay64, k0_pay4]
  unfold normed silu sgm
  have hj := j.isLt
  simp only [zero_sub]
  by_cases h : j.val < 512
  · have e2 : ∀ i : Fin 512, (⟨j.val / 512 * 512 + i.val, by omega⟩ : Fin 1024) = ⟨i.val, by omega⟩ :=
      fun i => Fin.ext (by show j.val / 512 * 512 + i.val = i.val; omega)
    rw [dif_pos h, dif_pos h]
    simp only [e2, hy0]
  · have e2 : ∀ i : Fin 512, (⟨j.val / 512 * 512 + i.val, by omega⟩ : Fin 1024) = ⟨512 + i.val, by omega⟩ :=
      fun i => Fin.ext (by show j.val / 512 * 512 + i.val = 512 + i.val; omega)
    have ej : (⟨512 + (j.val - 512), by omega⟩ : Fin 1024) = j := Fin.ext (by show 512 + (j.val - 512) = j.val; omega)
    have e1 := hy1 l ⟨j.val - 512, by omega⟩
    simp only [ej] at e1
    rw [dif_neg h]
    simp only [e2, hy1, ej, e1]

end Cert.Ssd.Ker
-- ==== Proof.Ssd.Chunk.lean ====
module

public import proofs.«01_k».proof.Proof.Ssd.Pairs

/-! # One chunk of the kernel -/

@[expose] public section

noncomputable section

namespace Cert.Ssd.Ker

open Idealize Idealize.ShloMosaic Cert.Lru
open Cert.Kernel6Ideal Cert.Kernel6Ideal.Gen

set_option maxRecDepth 100000

theorem low_lt (c : Fin 512) : c.val < 1024 := by omega
theorem high_lt (c : Fin 512) : 512 + c.val < 1024 := by omega
theorem lane_lt (h : Fin 16) : h.val < 128 := by omega

/-- The running sums, spread over the heads' lanes and exponentiated. -/
def dinOf (A : FVec Ideal S128x128 .f32) : FVec Ideal S128x1024 .f32 :=
  k0_pay32 A k0_pay18 (k0_pay25 A k0_pay18) (k0_pay26 A k0_pay18) (k0_pay27 A k0_pay18) (k0_pay28 A k0_pay18) (k0_pay29 A) (k0_pay30 A)

/-- What is left of each position at the chunk's end. -/
def doutOf (A : FVec Ideal S128x128 .f32) : FVec Ideal S128x1024 .f32 :=
  k0_pay33 A k0_pay18 (k0_pay25 A k0_pay18) (k0_pay26 A k0_pay18) (k0_pay27 A k0_pay18) (k0_pay28 A k0_pay18) (k0_pay29 A) (k0_pay30 A)

/-- The input times its steps. -/
def xdtOf (xs : FVec Ideal S128x1024 .f32) (dt : FVec Ideal S128x128 .f32) : FVec Ideal S128x1024 .f32 :=
  k0_pay34 xs (k0_pay24 dt k0_pay18 (k0_pay19 dt) (k0_pay20 dt) (k0_pay21 dt) (k0_pay22 dt) (k0_pay23 dt))

/-- The rows of the first group. -/
def y0Of (X : FVec Ideal S128x1536 .f32) (A AT : FVec Ideal S128x128 .f32) (Y : FVec Ideal S128x1024 .f32) (S : Vec Ideal S1x128x512 .f32) :
    FVec Ideal S128x512 .f32 :=
  k0_pay49 k0_pay15 k0_pay18 (dinOf A) Y (k0_pay35 X) (k0_pay37 X)
    (k0_pay40 k0_pay15 k0_pay18 Y (k0_pay37 X) (k0_pay38 X k0_pay15 A AT) (k0_pay39 k0_pay15 A AT) (Scalar.ofBits .f32 0x00000000#32))
    (k0_pay41 k0_pay15 A AT k0_pay18 Y (k0_pay37 X)) (k0_pay44 k0_pay15 A AT k0_pay18 Y (k0_pay37 X) (k0_pay42 A) (k0_pay43 AT))
    (k0_pay45 k0_pay15 A AT (k0_pay37 X)) (k0_pay46 k0_pay15 A AT) (Scalar.ofBits .f32 0x00000000#32) S

/-- The rows of the second group, without what the state gives. -/
def y1Of (X : FVec Ideal S128x1536 .f32) (A AT : FVec Ideal S128x128 .f32) (Y : FVec Ideal S128x1024 .f32) : FVec Ideal S128x512 .f32 :=
  k0_pay60 k0_pay15 A AT k0_pay18 Y (k0_pay52 X) (k0_pay54 k0_pay15 A AT k0_pay18 Y (k0_pay52 X) (k0_pay53 k0_pay15 A AT))
    (k0_pay57 k0_pay18 Y (k0_pay55 k0_pay15 A AT (k0_pay52 X)) (k0_pay56 k0_pay15 A AT (k0_pay52 X)))
    (k0_pay58 k0_pay15 A AT k0_pay18 Y (k0_pay52 X)) (k0_pay59 k0_pay15 A AT)

/-- What the chunk stores. -/
def outOf (X : FVec Ideal S128x1536 .f32) (xs : FVec Ideal S128x1024 .f32) (dt da : FVec Ideal S128x128 .f32) (v5 : Vec Ideal S1x128x1024 .f32)
    (S0 S1 : Vec Ideal S1x128x512 .f32) (d g : Vec Ideal S1x1024 .f32) : FVec Ideal S1x128x1024 .bf16 :=
  k0_pay1 (k0_pay64 (k0_pay4 v5) xs (y0Of X (k0_pay16 da) (k0_pay17 da) (xdtOf xs dt) S0) (y1Of X (k0_pay16 da) (k0_pay17 da) (xdtOf xs dt))
    (k0_pay62 (dinOf (k0_pay16 da)) (k0_pay50 X) S1) d g)

/-- The first group's state after it. -/
def st0Of (X : FVec Ideal S128x1536 .f32) (xs : FVec Ideal S128x1024 .f32) (dt da : FVec Ideal S128x128 .f32) (S0 : Vec Ideal S1x128x512 .f32) :
    FVec Ideal S1x128x512 .f32 :=
  k0_pay48 (dinOf (k0_pay16 da)) (doutOf (k0_pay16 da)) (xdtOf xs dt) (k0_pay36 X) S0

/-- The second group's. -/
def st1Of (X : FVec Ideal S128x1536 .f32) (xs : FVec Ideal S128x1024 .f32) (dt da : FVec Ideal S128x128 .f32) (S1 : Vec Ideal S1x128x512 .f32) :
    FVec Ideal S1x128x512 .f32 :=
  k0_pay63 (dinOf (k0_pay16 da)) (doutOf (k0_pay16 da)) (xdtOf xs dt) (k0_pay51 X) S1

section

variable {X : FVec Ideal S128x1536 .f32} {xs : FVec Ideal S128x1024 .f32} {dt da : FVec Ideal S128x128 .f32}
variable {Xf : Fin 128 → Fin 1536 → EReal} {Tf Af : Fin 128 → Fin 16 → EReal} {H : Fin 128 → Fin 1024 → EReal}
variable {S0 S1 : Vec Ideal S1x128x512 .f32}

theorem cch0 (c : Fin 512) (n : Fin 128) : cch ⟨c.val, low_lt c⟩ n = ⟨1280 + n.val, by omega⟩ :=
  Fin.ext (by show 1280 + c.val / 512 * 128 + n.val = 1280 + n.val; omega)
theorem bch0 (c : Fin 512) (n : Fin 128) : bch ⟨c.val, low_lt c⟩ n = ⟨1024 + n.val, by omega⟩ :=
  Fin.ext (by show 1024 + c.val / 512 * 128 + n.val = 1024 + n.val; omega)
theorem cch1 (c : Fin 512) (n : Fin 128) : cch ⟨512 + c.val, high_lt c⟩ n = ⟨1408 + n.val, by omega⟩ :=
  Fin.ext (by show 1280 + (512 + c.val) / 512 * 128 + n.val = 1408 + n.val; omega)
theorem bch1 (c : Fin 512) (n : Fin 128) : bch ⟨512 + c.val, high_lt c⟩ n = ⟨1152 + n.val, by omega⟩ :=
  Fin.ext (by show 1024 + (512 + c.val) / 512 * 128 + n.val = 1152 + n.val; omega)

variable (hX : ∀ (l : Fin 128) (c : Fin 1536), X (ix2 l c) = Xf l c)
variable (hxs : ∀ (l : Fin 128) (j : Fin 1024), xs (ix2 l j) = Xf l (xch j))
variable (hdt : ∀ (l : Fin 128) (h : Fin 16), dt (ix2 l ⟨h.val, lane_lt h⟩) = Tf l h)
variable (hA : ∀ (l : Fin 128) (h : Fin 16), k0_pay16 da (ix2 l ⟨h.val, lane_lt h⟩) = Af l h)

include hX in
theorem pairing0 (c : Fin 512) (l s : Fin 128) : k0_pay37 X (ix2 l s) = pairing Xf ⟨c.val, low_lt c⟩ l s := by
  rw [cb0_tile]
  unfold pairing
  refine Finset.sum_congr rfl fun n _ => ?_
  rw [hX, hX, cch0, bch0]

include hX in
theorem pairing1 (c : Fin 512) (l s : Fin 128) : k0_pay52 X (ix2 l s) = pairing Xf ⟨512 + c.val, high_lt c⟩ l s := by
  rw [cb1_tile]
  unfold pairing
  refine Finset.sum_congr rfl fun n _ => ?_
  rw [hX, hX, cch1, bch1]

include hA in
theorem keep_eq (l s : Fin 128) (j : Fin 1024) (hq : j.val / 64 < 128) : keep (k0_pay16 da) l s ⟨j.val / 64, hq⟩ = kept Af l s (hd j) := by
  unfold keep kept
  rw [← hA l (hd j), ← hA s (hd j)]
  rfl

include hA in
theorem din_eq (l : Fin 128) (j : Fin 1024) : dinOf (k0_pay16 da) (ix2 l j) = Ideal.exp (Af l (hd j)) := by
  unfold dinOf
  rw [din_tile, ← hA l (hd j)]
  rfl

include hA in
theorem dout_eq (l : Fin 128) (j : Fin 1024) : doutOf (k0_pay16 da) (ix2 l j) = Ideal.exp (Af 127 (hd j) - Af l (hd j)) := by
  unfold doutOf
  rw [dout_tile, ← hA l (hd j), ← hA 127 (hd j)]
  rfl

include hxs hdt in
theorem xdt_eq (l : Fin 128) (j : Fin 1024) : xdtOf xs dt (ix2 l j) = xdt Xf Tf l j := by
  unfold xdtOf xdt
  rw [xdt_tile, spread_tile, hxs, ← hdt l (hd j)]
  rfl

include hX hxs hdt hA in
theorem y0_eq (hS0 : ∀ (n : Fin 128) (c : Fin 512), S0 (ix3 0 n c) = H n ⟨c.val, low_lt c⟩) (l : Fin 128) (c : Fin 512) :
    y0Of X (k0_pay16 da) (k0_pay17 da) (xdtOf xs dt) S0 (ix2 l c)
      = inside Xf Tf Af l ⟨c.val, low_lt c⟩ + across Xf Af H l ⟨c.val, low_lt c⟩ := by
  have hT : ∀ l h : Fin 128, k0_pay17 da (ix2 h l) = k0_pay16 da (ix2 l h) := fun l h => acsT_tile da l h
  unfold y0Of
  rw [group0 _ _ _ _ hT _ _ _ _ _ _ (pair0 X _ _ _ hT) (pair1 _ _ _ _ hT) (pair2 _ _ _ _ hT)]
  unfold inside across
  congr 1
  · refine Finset.sum_congr rfl fun s _ => ?_
    rw [pairing0 hX c, xdt_eq hxs hdt]
    exact congrArg (fun q => _ * q * _) (keep_eq hA l s ⟨c.val, low_lt c⟩ _)
  · rw [din_eq hA]
    refine congrArg (fun q => q * _) (Finset.sum_congr rfl fun n _ => ?_)
    rw [cm0_tile, hX, cch0, hS0]

include hX hxs hdt hA in
theorem y1_eq (l : Fin 128) (c : Fin 512) :
    y1Of X (k0_pay16 da) (k0_pay17 da) (xdtOf xs dt) (ix2 l c) = inside Xf Tf Af l ⟨512 + c.val, high_lt c⟩ := by
  have hT : ∀ l h : Fin 128, k0_pay17 da (ix2 h l) = k0_pay16 da (ix2 l h) := fun l h => acsT_tile da l h
  unfold y1Of
  rw [group1 _ _ _ _ hT _ _ _ (pair4 _ _ _ _ hT) (pair5 _ _ _ _ hT) (pair6 _ _ _ _ hT)]
  unfold inside
  refine Finset.sum_congr rfl fun s _ => ?_
  rw [pairing1 hX c, xdt_eq hxs hdt]
  refine congrArg (fun q => _ * q * _) (Eq.trans ?_ (keep_eq hA l s ⟨512 + c.val, high_lt c⟩ (by show (512 + c.val) / 64 < 128; omega)))
  exact congrArg (keep (k0_pay16 da) l s) (Fin.ext (by show 8 + c.val / 64 = (512 + c.val) / 64; omega))

include hX hA in
theorem off1_eq (hS1 : ∀ (n : Fin 128) (c : Fin 512), S1 (ix3 0 n c) = H n ⟨512 + c.val, high_lt c⟩) (l : Fin 128) (c : Fin 512) :
    k0_pay62 (dinOf (k0_pay16 da)) (k0_pay50 X) S1 (ix2 l c) = across Xf Af H l ⟨512 + c.val, high_lt c⟩ := by
  rw [off1, din_eq hA]
  unfold across
  refine congrArg (fun q => q * _) (Finset.sum_congr rfl fun n _ => ?_)
  rw [cm1_tile, hX, cch1, hS1]

include hX hxs hdt hA in
/-- What the chunk stores, entry by entry. -/
theorem out_eq (v5 : Vec Ideal S1x128x1024 .f32) (d g : Vec Ideal S1x1024 .f32) (D : HRow) (hd' : ∀ j : Fin 1024, d (ix2 0 j) = D (ix2 0 (hd j)))
    (hS0 : ∀ (n : Fin 128) (c : Fin 512), S0 (ix3 0 n c) = H n ⟨c.val, low_lt c⟩)
    (hS1 : ∀ (n : Fin 128) (c : Fin 512), S1 (ix3 0 n c) = H n ⟨512 + c.val, high_lt c⟩) (l : Fin 128) (j : Fin 1024) :
    outOf X xs dt da v5 S0 S1 d g (ix3 0 l j) = normed (mixed Xf Tf Af D H l) (fun i => v5 (ix3 0 l i)) g j := by
  unfold outOf
  refine out_tile v5 xs _ _ _ d g (mixed Xf Tf Af D H) (fun l c => ?_) (fun l c => ?_) l j
  · rw [y0_eq hX hxs hdt hA hS0, hd', hxs]
    rfl
  · rw [y1_eq hX hxs hdt hA, off1_eq hX hA hS1, hd', hxs]
    rfl

include hX hxs hdt hA in
theorem st0_eq (hS0 : ∀ (n : Fin 128) (c : Fin 512), S0 (ix3 0 n c) = H n ⟨c.val, low_lt c⟩) (n : Fin 128) (c : Fin 512) :
    st0Of X xs dt da S0 (ix3 0 n c) = next Xf Tf Af H n ⟨c.val, low_lt c⟩ := by
  unfold st0Of next added
  rw [kept0, din_eq hA, hS0]
  refine congrArg (fun q => _ + q) (Finset.sum_congr rfl fun l _ => ?_)
  rw [bm0_tile, hX, bch0, xdt_eq hxs hdt, dout_eq hA]

include hX hxs hdt hA in
theorem st1_eq (hS1 : ∀ (n : Fin 128) (c : Fin 512), S1 (ix3 0 n c) = H n ⟨512 + c.val, high_lt c⟩) (n : Fin 128) (c : Fin 512) :
    st1Of X xs dt da S1 (ix3 0 n c) = next Xf Tf Af H n ⟨512 + c.val, high_lt c⟩ := by
  unfold st1Of next added
  rw [kept1, din_eq hA, hS1]
  refine congrArg (fun q => _ + q) (Finset.sum_congr rfl fun l _ => ?_)
  rw [bm1_tile, hX, bch1, xdt_eq hxs hdt, dout_eq hA]

end

end Cert.Ssd.Ker
-- ==== Proof.Ssd.Blocks.lean ====
module

public import proofs.«01_k».proof.Proof.Gen.Kernel6Ideal.Value
public import proofs.«01_k».proof.Proof.Ssd.Chunk
public import Idealize.ShloMosaic.Lib.Pointwise
public import Idealize.ShloMosaic.Lib.Claim
public import Idealize.ShloMosaic.Lib.Pipeline.Value
public import Idealize.ShloMosaic.Lib.Pipeline.ValueKit.Point

/-! # The blocks the kernel reads, as entries of the launched arrays -/

@[expose] public section

noncomputable section

namespace Cert.Ssd.Ker

open Idealize Idealize.ShloMosaic
open Cert.Kernel6Ideal Cert.Kernel6Ideal.Gen

set_option maxRecDepth 100000

variable (m : (ℓ : Loc nD τ sig) → Buf (Elt Ideal) ℓ)

/-- Where the sequence windows stand: the sequence `t / 32`, the chunk `t % 32`. -/
theorem idx_seq : ∀ t : Fin cfg0.N, (win0_0.index t = ![t.val / 32, t.val % 32, 0] ∧ win0_1.index t = ![t.val / 32, t.val % 32, 0])
    ∧ win0_2.index t = ![t.val / 32, t.val % 32, 0] ∧ win0_9.index t = ![t.val / 32, t.val % 32, 0] := by decide +kernel

/-- The weight windows stand at the origin. -/
theorem idx_w : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] := by decide +kernel

theorem tlt (t : Fin cfg0.N) : t.val < 512 := lt_of_lt_of_eq t.isLt N_0

/-- A chunk of the sequence. -/
theorem blk_x (c : Dev nD) (t : Fin cfg0.N) (r : Fin 128) (j : Fin 1536) :
    iblk m c 0 t (ix3 0 r j) = m (c.tc.loc main_arg0) (ix3 ⟨t.val / 32, by have := tlt t; omega⟩ ⟨t.val % 32 * 128 + r.val, by omega⟩ j) := by
  blk_ext [iblk, V_main_arg0, (idx_seq t).1.1]

theorem blk_z (c : Dev nD) (t : Fin cfg0.N) (r : Fin 128) (j : Fin 1024) :
    iblk m c 1 t (ix3 0 r j) = m (c.tc.loc main_arg1) (ix3 ⟨t.val / 32, by have := tlt t; omega⟩ ⟨t.val % 32 * 128 + r.val, by omega⟩ j) := by
  blk_ext [iblk, V_main_arg1, (idx_seq t).1.2]

theorem blk_raw (c : Dev nD) (t : Fin cfg0.N) (r : Fin 128) (j : Fin 128) :
    iblk m c 2 t (ix3 0 r j) = m (c.tc.loc main_arg2) (ix3 ⟨t.val / 32, by have := tlt t; omega⟩ ⟨t.val % 32 * 128 + r.val, by omega⟩ j) := by
  blk_ext [iblk, V_main_arg2, (idx_seq t).2.1]

theorem blk_cw (c : Dev nD) (t : Fin cfg0.N) (k : Fin 4) (j : Fin 1536) :
    iblk m c 3 t (ix2 k j) = m (c.tc.loc main_arg3) (ix3 0 k j) := by
  rw [show iblk m c 3 t (ix2 k j) = V m c main_v0 (ix2 k j) from by blk_ext [iblk, (idx_w t).1]]
  unfold V
  simp only [hostOps0, hostOps0_1, hostOps0_2, hostOps0_3, hostOps0_4, List.flatten_cons, List.flatten_nil, List.append_nil, List.cons_append, List.nil_append]
  after_results
  pointwise []

theorem blk_cb (c : Dev nD) (t : Fin cfg0.N) (j : Fin 1536) :
    iblk m c 4 t (ix2 0 j) = m (c.tc.loc main_arg4) (ix2 0 j) := by
  rw [show iblk m c 4 t (ix2 0 j) = V m c main_v6 (ix2 0 j) from by blk_ext [iblk, (idx_w t).2.1]]
  unfold V
  simp only [hostOps0, hostOps0_1, hostOps0_2, hostOps0_3, hostOps0_4, List.flatten_cons, List.flatten_nil, List.append_nil, List.cons_append, List.nil_append]
  after_results
  pointwise []

/-- The first 16 lanes of the padded bias. -/
theorem blk_bias (c : Dev nD) (t : Fin cfg0.N) (h : Fin 16) :
    iblk m c 5 t (ix2 0 ⟨h.val, by omega⟩) = m (c.tc.loc main_arg5) (ix2 0 h) := by
  rw [show iblk m c 5 t (ix2 0 ⟨h.val, by omega⟩) = V m c main_v8 (ix2 0 ⟨h.val, by omega⟩) from by blk_ext [iblk, (idx_w t).2.2.1]]
  unfold V
  simp only [hostOps0, hostOps0_1, hostOps0_2, hostOps0_3, hostOps0_4, List.flatten_cons, List.flatten_nil, List.append_nil, List.cons_append, List.nil_append]
  after_results
  simp only [StableHlo.TRef.toBuf, StableHlo.TRef.ofBuf, cast_cast, cast_eq]
  pointwise []

/-- The first 16 lanes of the padded rates. -/
theorem blk_rate (c : Dev nD) (t : Fin cfg0.N) (h : Fin 16) :
    iblk m c 6 t (ix2 0 ⟨h.val, by omega⟩) = -Ideal.exp (m (c.tc.loc main_arg6) (ix2 0 h)) := by
  rw [show iblk m c 6 t (ix2 0 ⟨h.val, by omega⟩) = V m c main_v12 (ix2 0 ⟨h.val, by omega⟩) from by blk_ext [iblk, (idx_w t).2.2.2.1]]
  unfold V
  simp only [hostOps0, hostOps0_1, hostOps0_2, hostOps0_3, hostOps0_4, List.flatten_cons, List.flatten_nil, List.append_nil, List.cons_append, List.nil_append]
  after_results
  simp only [StableHlo.TRef.toBuf, StableHlo.TRef.ofBuf, cast_cast, cast_eq]
  pointwise []

/-- A head's skip weight, at each of its channels. -/
theorem blk_skip (c : Dev nD) (t : Fin cfg0.N) (j : Fin 1024) :
    iblk m c 7 t (ix2 0 j) = m (c.tc.loc main_arg7) (ix2 0 (hd j)) := by
  rw [show iblk m c 7 t (ix2 0 j) = V m c main_v15 (ix2 0 j) from by blk_ext [iblk, (idx_w t).2.2.2.2.1]]
  unfold V
  simp only [hostOps0, hostOps0_1, hostOps0_2, hostOps0_3, hostOps0_4, List.flatten_cons, List.flatten_nil, List.append_nil, List.cons_append, List.nil_append]
  after_results
  pointwise []
  rfl

theorem blk_gain (c : Dev nD) (t : Fin cfg0.N) (j : Fin 1024) :
    iblk m c 8 t (ix2 0 j) = m (c.tc.loc main_arg8) (ix2 0 j) := by
  rw [show iblk m c 8 t (ix2 0 j) = V m c main_v16 (ix2 0 j) from by blk_ext [iblk, (idx_w t).2.2.2.2.2]]
  unfold V
  simp only [hostOps0, hostOps0_1, hostOps0_2, hostOps0_3, hostOps0_4, List.flatten_cons, List.flatten_nil, List.append_nil, List.cons_append, List.nil_append]
  after_results
  pointwise []

end Cert.Ssd.Ker
-- ==== Proof.Ssd.Carry.lean ====
module

public import proofs.«01_k».proof.Proof.Ssd.Blocks

/-! # What one point of the grid loads and stores -/

@[expose] public section

noncomputable section

namespace Cert.Ssd.Ker

open Idealize Idealize.ShloMosaic
open Cert.Kernel6Ideal Cert.Kernel6Ideal.Gen

set_option maxRecDepth 100000

variable (m : (ℓ : Loc nD τ sig) → Buf (Elt Ideal) ℓ)

/-- The convolved rows of a chunk, from the loads of the row buffer. -/
def convd (c : Dev nD) (t : Fin cfg0.N) (r5 r6 r7 r8 : Vec Ideal S128x1536 .f32) : FVec Ideal S128x1536 .f32 :=
  k0_pay11 (k0_pay7 (View.ld (iblk m c 4 t) (Rect.unit ![0, 0] ![1, 1536] inb_S1x1536_S1x1536_0_0))) (k0_pay8 (View.ld (iblk m c 3 t) (Rect.unit ![0, 0] ![1, 1536] inb_S4x1536_S1x1536_0_0)) r5 (View.ld (iblk m c 3 t) (Rect.unit ![1, 0] ![1, 1536] inb_S4x1536_S1x1536_1_0)) r6)
    (k0_pay9 (View.ld (iblk m c 3 t) (Rect.unit ![2, 0] ![1, 1536] inb_S4x1536_S1x1536_2_0))) r7 (View.ld (iblk m c 3 t) (Rect.unit ![3, 0] ![1, 1536] inb_S4x1536_S1x1536_3_0)) r8

/-- Their first 1024 columns. -/
def convdx (c : Dev nD) (t : Fin cfg0.N) (r5 r6 r7 r8 : Vec Ideal S128x1536 .f32) : FVec Ideal S128x1024 .f32 :=
  k0_pay12 (k0_pay7 (View.ld (iblk m c 4 t) (Rect.unit ![0, 0] ![1, 1536] inb_S1x1536_S1x1536_0_0))) (k0_pay8 (View.ld (iblk m c 3 t) (Rect.unit ![0, 0] ![1, 1536] inb_S4x1536_S1x1536_0_0)) r5 (View.ld (iblk m c 3 t) (Rect.unit ![1, 0] ![1, 1536] inb_S4x1536_S1x1536_1_0)) r6)
    (k0_pay9 (View.ld (iblk m c 3 t) (Rect.unit ![2, 0] ![1, 1536] inb_S4x1536_S1x1536_2_0))) r7 (View.ld (iblk m c 3 t) (Rect.unit ![3, 0] ![1, 1536] inb_S4x1536_S1x1536_3_0)) r8

/-- The chunk's steps. -/
def steps (c : Dev nD) (t : Fin cfg0.N) : FVec Ideal S128x128 .f32 :=
  k0_pay13 (k0_pay5 (View.ld (iblk m c 2 t) (Rect.unit ![0, 0, 0] ![1, 128, 128] inb_S1x128x128_S1x128x128_0_0_0))) (View.ld (iblk m c 5 t) (Rect.unit ![0, 0] ![1, 128] inb_S1x128_S1x128_0_0))

/-- The steps times the rates. -/
def rates (c : Dev nD) (t : Fin cfg0.N) : FVec Ideal S128x128 .f32 :=
  k0_pay14 (k0_pay5 (View.ld (iblk m c 2 t) (Rect.unit ![0, 0, 0] ![1, 128, 128] inb_S1x128x128_S1x128x128_0_0_0))) (View.ld (iblk m c 5 t) (Rect.unit ![0, 0] ![1, 128] inb_S1x128_S1x128_0_0)) (View.ld (iblk m c 6 t) (Rect.unit ![0, 0] ![1, 128] inb_S1x128_S1x128_0_0))

/-- What a chunk stores, from the loads of the row buffer and of the two groups' states. -/
def onePoint (c : Dev nD) (t : Fin cfg0.N) (r5 r6 r7 r8 : Vec Ideal S128x1536 .f32) (S0 S1 : Vec Ideal S1x128x512 .f32) : FVec Ideal S1x128x1024 .bf16 :=
  outOf (convd m c t r5 r6 r7 r8) (convdx m c t r5 r6 r7 r8) (steps m c t) (rates m c t) (View.ld (iblk m c 1 t) (Rect.unit ![0, 0, 0] ![1, 128, 1024] inb_S1x128x1024_S1x128x1024_0_0_0)) S0 S1 (View.ld (iblk m c 7 t) (Rect.unit ![0, 0] ![1, 1024] inb_S1x1024_S1x1024_0_0)) (View.ld (iblk m c 8 t) (Rect.unit ![0, 0] ![1, 1024] inb_S1x1024_S1x1024_0_0))

/-- The first group's new state. -/
def new0 (c : Dev nD) (t : Fin cfg0.N) (r5 r6 r7 r8 : Vec Ideal S128x1536 .f32) (S0 : Vec Ideal S1x128x512 .f32) : FVec Ideal S1x128x512 .f32 :=
  st0Of (convd m c t r5 r6 r7 r8) (convdx m c t r5 r6 r7 r8) (steps m c t) (rates m c t) S0

/-- The second group's new state. -/
def new1 (c : Dev nD) (t : Fin cfg0.N) (r5 r6 r7 r8 : Vec Ideal S128x1536 .f32) (S1 : Vec Ideal S1x128x512 .f32) : FVec Ideal S1x128x512 .f32 :=
  st1Of (convd m c t r5 r6 r7 r8) (convdx m c t r5 r6 r7 r8) (steps m c t) (rates m c t) S1

/-- The load from row 5 of the buffer, at a sequence's first chunk. -/
def rowA5 (c : Dev nD) (t : Fin cfg0.N) : Vec Ideal S128x1536 .f32 :=
  ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] (Rect.unit ![5, 0] ![128, 1536] inb_S136x1536_S128x1536_5_0).toLoadRect : Vec Ideal S128x1536 .f32)

/-- The load from row 6 of the buffer, at a sequence's first chunk. -/
def rowA6 (c : Dev nD) (t : Fin cfg0.N) : Vec Ideal S128x1536 .f32 :=
  ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] (Rect.unit ![6, 0] ![128, 1536] inb_S136x1536_S128x1536_6_0).toLoadRect : Vec Ideal S128x1536 .f32)

/-- The load from row 7 of the buffer, at a sequence's first chunk. -/
def rowA7 (c : Dev nD) (t : Fin cfg0.N) : Vec Ideal S128x1536 .f32 :=
  ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] (Rect.unit ![7, 0] ![128, 1536] inb_S136x1536_S128x1536_7_0).toLoadRect : Vec Ideal S128x1536 .f32)

/-- The load from row 8 of the buffer, at a sequence's first chunk. -/
def rowA8 (c : Dev nD) (t : Fin cfg0.N) : Vec Ideal S128x1536 .f32 :=
  ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] (Rect.unit ![8, 0] ![128, 1536] inb_S136x1536_S128x1536_8_0).toLoadRect : Vec Ideal S128x1536 .f32)

/-- The load from row 5 of the buffer, at a later chunk. -/
def rowB5 (c : Dev nD) (t : Fin cfg0.N) : Vec Ideal S128x1536 .f32 :=
  (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![128, 1536] inb_S136x1536_S128x1536_8_0, k0_pay6 (View.ld (iblk m c 0 t) (Rect.unit ![0, 0, 0] ![1, 128, 1536] inb_S1x128x1536_S1x128x1536_0_0_0))⟩])) (Rect.unit ![5, 0] ![128, 1536] inb_S136x1536_S128x1536_5_0))

/-- The load from row 6 of the buffer, at a later chunk. -/
def rowB6 (c : Dev nD) (t : Fin cfg0.N) : Vec Ideal S128x1536 .f32 :=
  (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![128, 1536] inb_S136x1536_S128x1536_8_0, k0_pay6 (View.ld (iblk m c 0 t) (Rect.unit ![0, 0, 0] ![1, 128, 1536] inb_S1x128x1536_S1x128x1536_0_0_0))⟩])) (Rect.unit ![6, 0] ![128, 1536] inb_S136x1536_S128x1536_6_0))

/-- The load from row 7 of the buffer, at a later chunk. -/
def rowB7 (c : Dev nD) (t : Fin cfg0.N) : Vec Ideal S128x1536 .f32 :=
  (View.ld (View.read (Elt Ideal) (View.whole cc0_scratch0) ((View.whole cc0_scratch0).writes (Elt Ideal) ((Memref.isWhole_whole _ : scM0_0.IsWhole).unread (outsAt0 m c (t.val - 1) (Nat.lt_of_le_of_lt (Nat.sub_le _ _) t.isLt)).2.1) [⟨Rect.unit ![8, 0] ![128, 1536] inb_S136x1536_S128x1536_8_0, k0_pay6 (View.ld (iblk m c 0 t) (Rect.unit ![0, 0, 0] ![1, 128, 1536] inb_S1x128x1536_S1x128x1536_0_0_0))⟩])) (Rect.unit ![7, 0] ![128, 1536] inb_S136x1536_S128x1536_7_0))

/-- The load from row 8 of the buffer, at a later chunk. -/
def rowB8 (c : Dev nD) (t : Fin cfg0.N) : Vec Ideal S128x1536 .f32 :=
  ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩] (Rect.unit ![8, 0] ![128, 1536] inb_S136x1536_S128x1536_8_0).toLoadRect)

/-- The first group's state as a first chunk loads it. -/
def oldA0 : Vec Ideal S1x128x512 .f32 :=
  (View.whole cc0_scratch1).readCov (Val := Elt Ideal) [⟨Rect.unit ![0, 0, 0] ![2, 128, 512] inb_S2x128x512_S2x128x512_0_0_0, k0_pay3 (F := Ideal)⟩] (Rect.unit (s := S2x128x512) ![0, 0, 0] ![1, 128, 512] inb_S2x128x512_S1x128x512_0_0_0).toLoadRect

/-- The first group's state after a first chunk. -/
def newA0 (c : Dev nD) (t : Fin cfg0.N) : FVec Ideal S1x128x512 .f32 := new0 m c t (rowA5 m c t) (rowA6 m c t) (rowA7 m c t) (rowA8 m c t) oldA0

/-- The second group's state as a first chunk loads it. -/
def oldA1 (c : Dev nD) (t : Fin cfg0.N) : Vec Ideal S1x128x512 .f32 :=
  (View.whole cc0_scratch1).readCov (Val := Elt Ideal) [⟨Rect.unit (s := S2x128x512) ![0, 0, 0] ![1, 128, 512] inb_S2x128x512_S1x128x512_0_0_0, newA0 m c t⟩,
    ⟨Rect.unit ![0, 0, 0] ![2, 128, 512] inb_S2x128x512_S2x128x512_0_0_0, k0_pay3 (F := Ideal)⟩] (Rect.unit (s := S2x128x512) ![1, 0, 0] ![1, 128, 512] inb_S2x128x512_S1x128x512_1_0_0).toLoadRect

/-- The first group's state as a later chunk loads it. -/
def oldB0 (c : Dev nD) (t : Fin cfg0.N) : Vec Ideal S1x128x512 .f32 :=
  View.ld (View.read (Elt Ideal) (View.whole cc0_scratch1) ((Memref.isWhole_whole _ : scM0_1.IsWhole).unread (outsAt0 m c (t.val - 1) (Nat.lt_of_le_of_lt (Nat.sub_le _ _) t.isLt)).2.2)) (Rect.unit (s := S2x128x512) ![0, 0, 0] ![1, 128, 512] inb_S2x128x512_S1x128x512_0_0_0)

/-- The first group's state after a later chunk. -/
def newB0 (c : Dev nD) (t : Fin cfg0.N) : FVec Ideal S1x128x512 .f32 := new0 m c t (rowB5 m c t) (rowB6 m c t) (rowB7 m c t) (rowB8 m c t) (oldB0 m c t)

/-- The second group's state as a later chunk loads it. -/
def oldB1 (c : Dev nD) (t : Fin cfg0.N) : Vec Ideal S1x128x512 .f32 :=
  View.ld (View.read (Elt Ideal) (View.whole cc0_scratch1) ((Memref.isWhole_whole _ : scM0_1.IsWhole).unread (outsAt0 m c (t.val - 1) (Nat.lt_of_le_of_lt (Nat.sub_le _ _) t.isLt)).2.2)) (Rect.unit (s := S2x128x512) ![1, 0, 0] ![1, 128, 512] inb_S2x128x512_S1x128x512_1_0_0)

/-- What a first chunk stores. -/
theorem outA (c : Dev nD) (t : Fin cfg0.N) (h0 : t.val % 32 = 0) :
    (outsAt0 m c t.val t.isLt).1 = onePoint m c t (rowA5 m c t) (rowA6 m c t) (rowA7 m c t) (rowA8 m c t) oldA0 (oldA1 m c t) := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S1x128x1024) (by funext a; fin_cases a <;> rfl)]
  rfl

/-- The states a first chunk leaves. -/
theorem keptA (c : Dev nD) (t : Fin cfg0.N) (h0 : t.val % 32 = 0) :
    (outsAt0 m c t.val t.isLt).2.2 = View.canon [⟨(Rect.unit (s := S2x128x512) ![1, 0, 0] ![1, 128, 512] inb_S2x128x512_S1x128x512_1_0_0), new1 m c t (rowA5 m c t) (rowA6 m c t) (rowA7 m c t) (rowA8 m c t) (oldA1 m c t)⟩,
      ⟨(Rect.unit (s := S2x128x512) ![0, 0, 0] ![1, 128, 512] inb_S2x128x512_S1x128x512_0_0_0), newA0 m c t⟩, ⟨Rect.unit ![0, 0, 0] ![2, 128, 512] inb_S2x128x512_S2x128x512_0_0_0, k0_pay3 (F := Ideal)⟩] := by
  rw [outsAt0_A m c t h0]
  dsimp only
  unfold sout0_A_1
  rw [View.read_writes_eq_canon _ _ _ (scover0_A_1 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- The row buffer a first chunk leaves. -/
theorem bufA (c : Dev nD) (t : Fin cfg0.N) (h0 : t.val % 32 = 0) :
    (outsAt0 m c t.val t.isLt).2.1 = View.canon [⟨Rect.unit ![0, 0] ![8, 1536] inb_S136x1536_S8x1536_0_0, k0_pay10 (F := Ideal) ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] (Rect.unit ![128, 0] ![8, 1536] inb_S136x1536_S8x1536_128_0).toLoadRect)⟩,
      ⟨Rect.unit ![8, 0] ![128, 1536] inb_S136x1536_S128x1536_8_0, k0_pay6 (View.ld (iblk m c 0 t) (Rect.unit ![0, 0, 0] ![1, 128, 1536] inb_S1x128x1536_S1x128x1536_0_0_0))⟩, ⟨Rect.unit ![0, 0] ![8, 1536] inb_S136x1536_S8x1536_0_0, k0_pay2 (F := Ideal)⟩] := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- What a later chunk stores. -/
theorem outB (c : Dev nD) (t : Fin cfg0.N) (h0 : ¬ t.val % 32 = 0) :
    (outsAt0 m c t.val t.isLt).1 = onePoint m c t (rowB5 m c t) (rowB6 m c t) (rowB7 m c t) (rowB8 m c t) (oldB0 m c t) (oldB1 m c t) := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S1x128x1024) (by funext a; fin_cases a <;> rfl)]
  rfl

/-- The states a later chunk leaves. -/
theorem keptB (c : Dev nD) (t : Fin cfg0.N) (h0 : ¬ t.val % 32 = 0) :
    (outsAt0 m c t.val t.isLt).2.2 = View.canon [⟨(Rect.unit (s := S2x128x512) ![1, 0, 0] ![1, 128, 512] inb_S2x128x512_S1x128x512_1_0_0), new1 m c t (rowB5 m c t) (rowB6 m c t) (rowB7 m c t) (rowB8 m c t) (oldB1 m c t)⟩,
      ⟨(Rect.unit (s := S2x128x512) ![0, 0, 0] ![1, 128, 512] inb_S2x128x512_S1x128x512_0_0_0), newB0 m c t⟩] := by
  rw [outsAt0_B m c t h0]
  dsimp only
  unfold sout0_B_1
  rw [View.read_writes_eq_canon _ _ _ (scover0_B_1 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- The row buffer a later chunk leaves. -/
theorem bufB (c : Dev nD) (t : Fin cfg0.N) (h0 : ¬ t.val % 32 = 0) :
    (outsAt0 m c t.val t.isLt).2.1 = View.canon [⟨Rect.unit ![0, 0] ![8, 1536] inb_S136x1536_S8x1536_0_0, k0_pay10 (F := Ideal) ((View.whole cc0_scratch0).readCov [⟨Rect.unit ![8, 0] ![128, 1536] inb_S136x1536_S128x1536_8_0, k0_pay6 (View.ld (iblk m c 0 t) (Rect.unit ![0, 0, 0] ![1, 128, 1536] inb_S1x128x1536_S1x128x1536_0_0_0))⟩] (Rect.unit ![128, 0] ![8, 1536] inb_S136x1536_S8x1536_128_0).toLoadRect)⟩,
      ⟨Rect.unit ![8, 0] ![128, 1536] inb_S136x1536_S128x1536_8_0, k0_pay6 (View.ld (iblk m c 0 t) (Rect.unit ![0, 0, 0] ![1, 128, 1536] inb_S1x128x1536_S1x128x1536_0_0_0))⟩] := by
  rw [outsAt0_B m c t h0]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

end Cert.Ssd.Ker
-- ==== Proof.Ssd.Point.lean ====
module

public import proofs.«01_k».proof.Proof.Ssd.Carry
public import Idealize.ShloMosaic.Lib.WritesUnit

/-! # The row buffer and the states, entry by entry

The buffer of 136 rows holds the last eight rows of the chunk before, then the chunk. -/

@[expose] public section

noncomputable section

namespace Cert.Ssd.Ker

open Idealize Idealize.ShloMosaic Cert.Lru
open Cert.Kernel6Ideal Cert.Kernel6Ideal.Gen

set_option maxRecDepth 100000

variable (m : (ℓ : Loc nD τ sig) → Buf (Elt Ideal) ℓ)

theorem copy_rows (v : Vec Ideal S1x128x1536 .f32) (r : Fin 128) (j : Fin 1536) : k0_pay6 v (ix2 r j) = v (ix3 0 r j) := by
  pointwise [k0_pay6]

theorem copy_last (v : Vec Ideal S8x1536 .f32) (r : Fin 8) (j : Fin 1536) : k0_pay10 v (ix2 r j) = v (ix2 r j) := by
  pointwise [k0_pay10]

theorem zero_rows (r : Fin 8) (j : Fin 1536) : (k0_pay2 : FVec Ideal S8x1536 .f32) (ix2 r j) = 0 := by
  pointwise [k0_pay2]

theorem zero_state (q : Fin 2) (n : Fin 128) (j : Fin 512) : (k0_pay3 : FVec Ideal S2x128x512 .f32) (ix3 q n j) = 0 := by
  pointwise [k0_pay3]

section Rows

variable (v : View sig .tc .vmem S136x1536 .f32) (f : v.ty.Contents (Elt Ideal)) (L : List (View.Piece (Elt Ideal) S136x1536 .f32))

/-- After the chunk is stored, rows 8 and below it are the chunk. -/
theorem low_rows (w : S128x1536.Idx → EReal) (n : Fin 136) (j : Fin 1536) (h : 8 ≤ n.val) :
    v.read (Elt Ideal) (v.writes (Elt Ideal) f (⟨Rect.unit ![8, 0] ![128, 1536] inb_S136x1536_S128x1536_8_0, w⟩ :: L)) (ix2 n j)
      = w (ix2 ⟨n.val - 8, by omega⟩ j) :=
  View.read_writes_cons_rows_of_mem (d := ![136, 1536]) v f inb_S136x1536_S128x1536_8_0 w L (ix2 n j) (ix2 ⟨n.val - 8, by omega⟩ j) rfl
    (by show n.val = 8 + (n.val - 8); omega) rfl

/-- The rows above are as they were. -/
theorem low_rows' (w : S128x1536.Idx → EReal) (n : Fin 136) (j : Fin 1536) (h : n.val < 8) :
    v.read (Elt Ideal) (v.writes (Elt Ideal) f (⟨Rect.unit ![8, 0] ![128, 1536] inb_S136x1536_S128x1536_8_0, w⟩ :: L)) (ix2 n j)
      = v.read (Elt Ideal) (v.writes (Elt Ideal) f L) (ix2 n j) :=
  View.read_writes_cons_rows_of_not_mem (d := ![136, 1536]) v f inb_S136x1536_S128x1536_8_0 w L (ix2 n j) rfl rfl (Or.inl h)

/-- A store to the first eight rows. -/
theorem top_rows (w : S8x1536.Idx → EReal) (n : Fin 136) (j : Fin 1536) (h : n.val < 8) :
    v.read (Elt Ideal) (v.writes (Elt Ideal) f (⟨Rect.unit ![0, 0] ![8, 1536] inb_S136x1536_S8x1536_0_0, w⟩ :: L)) (ix2 n j)
      = w (ix2 ⟨n.val, h⟩ j) :=
  View.read_writes_cons_rows_of_mem (d := ![136, 1536]) v f inb_S136x1536_S8x1536_0_0 w L (ix2 n j) (ix2 ⟨n.val, h⟩ j) rfl
    (by show n.val = 0 + n.val; omega) rfl

end Rows

/-- Row `n` of the buffer while point `t` runs. -/
def ext (x : Seq) (t n : ℕ) (ht : t < 512) (j : Fin 1536) : EReal := xpad x ⟨t / 32, by omega⟩ (128 * (t % 32) + n - 5) j

theorem ext_low (c : Dev nD) (t : Fin cfg0.N) (n : ℕ) (h : 8 ≤ n) (hn : n < 136) (j : Fin 1536) :
    k0_pay6 (iblk m c 0 t) (ix2 ⟨n - 8, by omega⟩ j) = ext (m (c.tc.loc main_arg0)) t.val n (tlt t) j := by
  rw [copy_rows, blk_x]
  unfold ext xpad
  rw [dif_pos (by omega)]
  congr 2
  exact Fin.ext (by show t.val % 32 * 128 + (n - 8) = 128 * (t.val % 32) + n - 5 - 3; omega)

/-- At a sequence's first chunk the eight rows above are zeros. -/
theorem ext_A (c : Dev nD) (t : Fin cfg0.N) (h0 : t.val % 32 = 0) (v : View sig .tc .vmem S136x1536 .f32) (f : v.ty.Contents (Elt Ideal))
    (n : Fin 136) (h : 5 ≤ n.val) (j : Fin 1536) :
    v.read (Elt Ideal) (v.writes (Elt Ideal) f [⟨Rect.unit ![8, 0] ![128, 1536] inb_S136x1536_S128x1536_8_0, k0_pay6 (iblk m c 0 t)⟩,
      ⟨Rect.unit ![0, 0] ![8, 1536] inb_S136x1536_S8x1536_0_0, k0_pay2 (F := Ideal)⟩]) (ix2 n j) = ext (m (c.tc.loc main_arg0)) t.val n.val (tlt t) j := by
  by_cases h8 : 8 ≤ n.val
  · rw [low_rows _ _ _ _ _ _ h8, ext_low m c t n.val h8 n.isLt]
  · rw [low_rows' _ _ _ _ _ _ (by omega), top_rows _ _ _ _ _ _ (by omega), zero_rows]
    unfold ext xpad
    rw [dif_neg (by omega)]

/-- At a later chunk they are the last rows of the chunk before. -/
theorem ext_B (c : Dev nD) (t : Fin cfg0.N) (v : View sig .tc .vmem S136x1536 .f32) (f : v.ty.Contents (Elt Ideal))
    (hf : ∀ (n : Fin 136) (j : Fin 1536), 5 ≤ n.val → n.val < 8 →
      v.read (Elt Ideal) f (ix2 n j) = ext (m (c.tc.loc main_arg0)) t.val n.val (tlt t) j)
    (n : Fin 136) (h : 5 ≤ n.val) (j : Fin 1536) :
    v.read (Elt Ideal) (v.writes (Elt Ideal) f [⟨Rect.unit ![8, 0] ![128, 1536] inb_S136x1536_S128x1536_8_0, k0_pay6 (iblk m c 0 t)⟩]) (ix2 n j)
      = ext (m (c.tc.loc main_arg0)) t.val n.val (tlt t) j := by
  by_cases h8 : 8 ≤ n.val
  · rw [low_rows _ _ _ _ _ _ h8, ext_low m c t n.val h8 n.isLt]
  · rw [low_rows' _ _ _ _ _ _ (by omega)]
    exact hf n j h (by omega)

/-- A covered load of rows reads the buffer's rows. -/
theorem cov_row {k n : ℕ} (v : View sig .tc .vmem S136x1536 .f32) (L : List (View.Piece (Elt Ideal) S136x1536 .f32))
    (inb : ∀ a : Fin 2, (![k, 0] : Fin 2 → ℕ) a + (![n, 1536] : Fin 2 → ℕ) a ≤ S136x1536.size a) (hk : k + n ≤ 136) (r : Fin n) (j : Fin 1536) :
    v.readCov L (Rect.unit (s := S136x1536) ![k, 0] ![n, 1536] inb).toLoadRect (ix2 r j)
      = v.read (Elt Ideal) (v.writes (Elt Ideal) v.junk L) (ix2 ⟨k + r.val, by omega⟩ j) := by
  rw [View.readCov_eq_canon', View.read_writes_junk_apply_eq_canon]
  refine congrArg (View.canon L) ?_
  funext a
  match a with
  | ⟨0, _⟩ => exact Fin.ext (by show k + 1 * r.val = k + r.val; omega)
  | ⟨1, _⟩ => exact Fin.ext (by show 0 + 1 * j.val = j.val; omega)

theorem ld_row {k : ℕ} (X : Vec Ideal S136x1536 .f32)
    (inb : ∀ a : Fin 2, (![k, 0] : Fin 2 → ℕ) a + (![128, 1536] : Fin 2 → ℕ) a ≤ S136x1536.size a) (hk : k + 128 ≤ 136) (r : Fin 128) (j : Fin 1536) :
    View.ld (Val := Elt Ideal) X (Rect.unit (s := S136x1536) ![k, 0] ![128, 1536] inb) (ix2 r j) = X (ix2 ⟨k + r.val, by omega⟩ j) := by
  refine congrArg X ?_
  funext a
  match a with
  | ⟨0, _⟩ => exact Fin.ext (by show k + 1 * r.val = k + r.val; omega)
  | ⟨1, _⟩ => exact Fin.ext (by show 0 + 1 * j.val = j.val; omega)

/-- Group `q` of the states. -/
theorem emb_group {q : ℕ} (hq : q < 2) (inb : ∀ a : Fin 3, (![q, 0, 0] : Fin 3 → ℕ) a + (![1, 128, 512] : Fin 3 → ℕ) a ≤ S2x128x512.size a)
    (n : Fin 128) (j : Fin 512) :
    (Rect.unit (s := S2x128x512) ![q, 0, 0] ![1, 128, 512] inb).emb (ix3 (0 : Fin 1) n j) = ix3 ⟨q, hq⟩ n j := by
  funext a
  match a with
  | ⟨0, _⟩ => exact Fin.ext (by show q + 1 * 0 = q; omega)
  | ⟨1, _⟩ => exact Fin.ext (by show 0 + 1 * n.val = n.val; omega)
  | ⟨2, _⟩ => exact Fin.ext (by show 0 + 1 * j.val = j.val; omega)

/-- Another group's entry is not in it. -/
theorem other_group {q p : ℕ} (hp : p < 2) (hpq : p ≠ q)
    (inb : ∀ a : Fin 3, (![q, 0, 0] : Fin 3 → ℕ) a + (![1, 128, 512] : Fin 3 → ℕ) a ≤ S2x128x512.size a) (n : Fin 128) (j : Fin 512) :
    (ix3 ⟨p, hp⟩ n j : S2x128x512.Idx) ∉ (Rect.unit (s := S2x128x512) ![q, 0, 0] ![1, 128, 512] inb).set := by
  intro h
  obtain ⟨x, hx⟩ := LoadRect.exists_idx_of_mem _ h
  have e : q + 1 * (x 0).val = p := congrArg Fin.val (congrFun hx 0)
  have l : (x 0).val < 1 := (x 0).isLt
  omega

/-- A store to group `q`, read there. -/
theorem canon_same {q : ℕ} (hq : q < 2) (inb : ∀ a : Fin 3, (![q, 0, 0] : Fin 3 → ℕ) a + (![1, 128, 512] : Fin 3 → ℕ) a ≤ S2x128x512.size a)
    (w : S1x128x512.Idx → EReal) (L : List (View.Piece (Elt Ideal) S2x128x512 .f32)) (n : Fin 128) (j : Fin 512) :
    View.canon (Val := Elt Ideal) (e := .f32) (⟨Rect.unit (s := S2x128x512) ![q, 0, 0] ![1, 128, 512] inb, w⟩ :: L) (ix3 ⟨q, hq⟩ n j) = w (ix3 0 n j) := by
  rw [← emb_group hq inb n j]
  exact View.canon_cons_emb (Val := Elt Ideal) (e := .f32) _ _ _ _

/-- A store to group `q`, read elsewhere. -/
theorem canon_other {q p : ℕ} (hp : p < 2) (hpq : p ≠ q)
    (inb : ∀ a : Fin 3, (![q, 0, 0] : Fin 3 → ℕ) a + (![1, 128, 512] : Fin 3 → ℕ) a ≤ S2x128x512.size a)
    (w : S1x128x512.Idx → EReal) (L : List (View.Piece (Elt Ideal) S2x128x512 .f32)) (n : Fin 128) (j : Fin 512) :
    View.canon (Val := Elt Ideal) (e := .f32) (⟨Rect.unit (s := S2x128x512) ![q, 0, 0] ![1, 128, 512] inb, w⟩ :: L) (ix3 ⟨p, hp⟩ n j)
      = View.canon L (ix3 ⟨p, hp⟩ n j) :=
  View.canon_cons_of_not_mem (Val := Elt Ideal) (e := .f32) _ _ (other_group hp hpq inb n j)

/-- A load of group `q`. -/
theorem ld_group {q : ℕ} (hq : q < 2) (X : Vec Ideal S2x128x512 .f32)
    (inb : ∀ a : Fin 3, (![q, 0, 0] : Fin 3 → ℕ) a + (![1, 128, 512] : Fin 3 → ℕ) a ≤ S2x128x512.size a) (n : Fin 128) (j : Fin 512) :
    View.ld (Val := Elt Ideal) X (Rect.unit (s := S2x128x512) ![q, 0, 0] ![1, 128, 512] inb) (ix3 0 n j) = X (ix3 ⟨q, hq⟩ n j) :=
  congrArg X (emb_group hq inb n j)

/-- A covered load of group `q`. -/
theorem cov_group {q : ℕ} (hq : q < 2) (v : View sig .tc .vmem S2x128x512 .f32) (L : List (View.Piece (Elt Ideal) S2x128x512 .f32))
    (inb : ∀ a : Fin 3, (![q, 0, 0] : Fin 3 → ℕ) a + (![1, 128, 512] : Fin 3 → ℕ) a ≤ S2x128x512.size a) (n : Fin 128) (j : Fin 512) :
    v.readCov L (Rect.unit (s := S2x128x512) ![q, 0, 0] ![1, 128, 512] inb).toLoadRect (ix3 0 n j) = View.canon L (ix3 ⟨q, hq⟩ n j) := by
  rw [View.readCov_eq_canon']
  exact congrArg (View.canon L) (emb_group hq inb n j)

theorem oldA0_apply (n : Fin 128) (j : Fin 512) : oldA0 (ix3 0 n j) = 0 := by
  unfold oldA0
  rw [cov_group (q := 0) (by omega), View.canon_unit_zero (S := S2x128x512) (by funext a; fin_cases a <;> rfl)]
  exact zero_state _ n j

theorem oldA1_apply (c : Dev nD) (t : Fin cfg0.N) (n : Fin 128) (j : Fin 512) : oldA1 m c t (ix3 0 n j) = 0 := by
  unfold oldA1
  rw [cov_group (q := 1) (by omega), canon_other (q := 0) (p := 1) (by omega) (by omega),
    View.canon_unit_zero (S := S2x128x512) (by funext a; fin_cases a <;> rfl)]
  exact zero_state _ n j

theorem oldB0_apply (c : Dev nD) (t : Fin cfg0.N) (n : Fin 128) (j : Fin 512) :
    oldB0 m c t (ix3 0 n j) = (outsAt0 m c (t.val - 1) (Nat.lt_of_le_of_lt (Nat.sub_le _ _) t.isLt)).2.2 (ix3 0 n j) := by
  unfold oldB0
  rw [ld_group (q := 0) (by omega)]
  exact congrFun ((Memref.isWhole_whole _ : scM0_1.IsWhole).read_unread _) _

theorem oldB1_apply (c : Dev nD) (t : Fin cfg0.N) (n : Fin 128) (j : Fin 512) :
    oldB1 m c t (ix3 0 n j) = (outsAt0 m c (t.val - 1) (Nat.lt_of_le_of_lt (Nat.sub_le _ _) t.isLt)).2.2 (ix3 1 n j) := by
  unfold oldB1
  rw [ld_group (q := 1) (by omega)]
  exact congrFun ((Memref.isWhole_whole _ : scM0_1.IsWhole).read_unread _) _

/-- The sequence of a point. -/
abbrev sq (t : Fin cfg0.N) : Fin 16 := ⟨t.val / 32, by have := tlt t; omega⟩

/-- The convolved rows of a point's chunk. -/
abbrev rowsAt (c : Dev nD) (b : Fin 16) (k : ℕ) : Fin 128 → Fin 1536 → EReal :=
  rowsOf (m (c.tc.loc main_arg0)) (m (c.tc.loc main_arg3)) (m (c.tc.loc main_arg4)) b k

/-- Its steps. -/
abbrev stepsAt (c : Dev nD) (b : Fin 16) (k : ℕ) : Fin 128 → Fin 16 → EReal :=
  stepsOf (m (c.tc.loc main_arg2)) (m (c.tc.loc main_arg5)) b k

/-- Its running sums. -/
abbrev sumsAt (c : Dev nD) (b : Fin 16) (k : ℕ) : Fin 128 → Fin 16 → EReal := running (stepsAt m c b k) (m (c.tc.loc main_arg6))

/-- The state before it. -/
abbrev stateAt (c : Dev nD) (b : Fin 16) (k : ℕ) : Fin 128 → Fin 1024 → EReal :=
  state (m (c.tc.loc main_arg0)) (m (c.tc.loc main_arg2)) (m (c.tc.loc main_arg3)) (m (c.tc.loc main_arg4)) (m (c.tc.loc main_arg5))
    (m (c.tc.loc main_arg6)) b k

/-- Row `k` of the taps. -/
theorem ld_tap {k : ℕ} (hk : k < 4) (c : Dev nD) (t : Fin cfg0.N)
    (inb : ∀ a : Fin 2, (![k, 0] : Fin 2 → ℕ) a + (![1, 1536] : Fin 2 → ℕ) a ≤ S4x1536.size a) (j : Fin 1536) :
    View.ld (Val := Elt Ideal) (iblk m c 3 t : Vec Ideal S4x1536 .f32) (Rect.unit (s := S4x1536) ![k, 0] ![1, 1536] inb) (ix2 0 j)
      = m (c.tc.loc main_arg3) (ix3 0 ⟨k, hk⟩ j) := by
  refine Eq.trans (congrArg (iblk m c 3 t : Vec Ideal S4x1536 .f32) ?_) (blk_cw m c t ⟨k, hk⟩ j)
  funext a
  match a with
  | ⟨0, _⟩ => exact Fin.ext (by show k + 1 * 0 = k; omega)
  | ⟨1, _⟩ => exact Fin.ext (by show 0 + 1 * j.val = j.val; omega)

/-- From the right rows, the convolved rows. -/
theorem convd_apply (c : Dev nD) (t : Fin cfg0.N) {r5 r6 r7 r8 : Vec Ideal S128x1536 .f32}
    (e5 : ∀ (r : Fin 128) (j : Fin 1536), r5 (ix2 r j) = ext (m (c.tc.loc main_arg0)) t.val (5 + r.val) (tlt t) j)
    (e6 : ∀ (r : Fin 128) (j : Fin 1536), r6 (ix2 r j) = ext (m (c.tc.loc main_arg0)) t.val (6 + r.val) (tlt t) j)
    (e7 : ∀ (r : Fin 128) (j : Fin 1536), r7 (ix2 r j) = ext (m (c.tc.loc main_arg0)) t.val (7 + r.val) (tlt t) j)
    (e8 : ∀ (r : Fin 128) (j : Fin 1536), r8 (ix2 r j) = ext (m (c.tc.loc main_arg0)) t.val (8 + r.val) (tlt t) j)
    (l : Fin 128) (j : Fin 1536) : convd m c t r5 r6 r7 r8 (ix2 l j) = rowsAt m c (sq t) (t.val % 32) l j := by
  unfold convd
  rw [conv_tile, e5, e6, e7, e8, ld_tap m (k := 0) (by omega), ld_tap m (k := 1) (by omega), ld_tap m (k := 2) (by omega),
    ld_tap m (k := 3) (by omega), View.ld_unit_zero (S := S1x1536) (by funext a; fin_cases a <;> rfl), blk_cb]
  unfold rowsAt rowsOf conv ext
  rw [show 128 * (t.val % 32) + (5 + l.val) - 5 = 128 * (t.val % 32) + l.val by omega,
    show 128 * (t.val % 32) + (6 + l.val) - 5 = 128 * (t.val % 32) + l.val + 1 by omega,
    show 128 * (t.val % 32) + (7 + l.val) - 5 = 128 * (t.val % 32) + l.val + 2 by omega,
    show 128 * (t.val % 32) + (8 + l.val) - 5 = 128 * (t.val % 32) + l.val + 3 by omega]
  rfl

theorem convdx_apply (c : Dev nD) (t : Fin cfg0.N) (r5 r6 r7 r8 : Vec Ideal S128x1536 .f32) (l : Fin 128) (j : Fin 1024) :
    convdx m c t r5 r6 r7 r8 (ix2 l j) = convd m c t r5 r6 r7 r8 (ix2 l (xch j)) := by
  unfold convdx convd
  exact xs_tile _ _ _ _ _ _ l j

theorem steps_apply (c : Dev nD) (t : Fin cfg0.N) (l : Fin 128) (h : Fin 16) :
    steps m c t (ix2 l ⟨h.val, by omega⟩) = stepsAt m c (sq t) (t.val % 32) l h := by
  unfold steps
  rw [dt_tile, View.ld_unit_zero (S := S1x128x128) (by funext a; fin_cases a <;> rfl),
    View.ld_unit_zero (S := S1x128) (by funext a; fin_cases a <;> rfl), blk_raw, blk_bias]
  unfold stepsAt stepsOf
  congr 3
  exact congrArg (fun p => ix3 (sq t) p _) (Fin.ext (by
    show t.val % 32 * 128 + l.val = (128 * (t.val % 32) + l.val) % 4096; omega))

theorem rates_apply (c : Dev nD) (t : Fin cfg0.N) (l : Fin 128) (h : Fin 16) :
    rates m c t (ix2 l ⟨h.val, by omega⟩) = stepsAt m c (sq t) (t.val % 32) l h * -(Ideal.exp (m (c.tc.loc main_arg6) (ix2 0 h))) := by
  have e := da_tile (View.ld (iblk m c 2 t) (Rect.unit ![0, 0, 0] ![1, 128, 128] inb_S1x128x128_S1x128x128_0_0_0))
    (View.ld (iblk m c 5 t) (Rect.unit ![0, 0] ![1, 128] inb_S1x128_S1x128_0_0))
    (View.ld (iblk m c 6 t) (Rect.unit ![0, 0] ![1, 128] inb_S1x128_S1x128_0_0)) l ⟨h.val, by omega⟩
  refine e.trans (congrArg₂ (fun p q => p * q) (steps_apply m c t l h) ?_)
  rw [View.ld_unit_zero (S := S1x128) (by funext a; fin_cases a <;> rfl)]
  exact blk_rate m c t h

theorem sums_apply (c : Dev nD) (t : Fin cfg0.N) (l : Fin 128) (h : Fin 16) :
    k0_pay16 (rates m c t) (ix2 l ⟨h.val, by omega⟩) = sumsAt m c (sq t) (t.val % 32) l h := by
  rw [acs_tile _ _ _ fun s => ?_]
  · exact Finset.sum_congr rfl fun s _ => by rw [rates_apply]
  · rw [rates_apply, mul_neg, EReal.neg_le_zero]
    exact EReal.mul_nonneg (soft_nonneg _) (exp_nonneg _)

end Cert.Ssd.Ker
-- ==== Proof.Ssd.Fold.lean ====
module

public import proofs.«01_k».proof.Proof.Ssd.Point

/-! # The kernel's output, entry by entry -/

@[expose] public section

noncomputable section

namespace Cert.Ssd.Ker

open Idealize Idealize.ShloMosaic Cert.Lru
open Cert.Kernel6Ideal Cert.Kernel6Ideal.Gen

set_option maxRecDepth 100000

variable (m : (ℓ : Loc nD τ sig) → Buf (Elt Ideal) ℓ)

theorem ld_x (c : Dev nD) (t : Fin cfg0.N) :
    View.ld (iblk m c 0 t) (Rect.unit ![0, 0, 0] ![1, 128, 1536] inb_S1x128x1536_S1x128x1536_0_0_0) = iblk m c 0 t :=
  View.ld_unit_zero (S := S1x128x1536) (by funext a; fin_cases a <;> rfl) _ _

/-- The four loads of the buffer are the padded rows. -/
structure Rows (c : Dev nD) (t : Fin cfg0.N) (r5 r6 r7 r8 : Vec Ideal S128x1536 .f32) : Prop where
  e5 : ∀ (r : Fin 128) (j : Fin 1536), r5 (ix2 r j) = ext (m (c.tc.loc main_arg0)) t.val (5 + r.val) (tlt t) j
  e6 : ∀ (r : Fin 128) (j : Fin 1536), r6 (ix2 r j) = ext (m (c.tc.loc main_arg0)) t.val (6 + r.val) (tlt t) j
  e7 : ∀ (r : Fin 128) (j : Fin 1536), r7 (ix2 r j) = ext (m (c.tc.loc main_arg0)) t.val (7 + r.val) (tlt t) j
  e8 : ∀ (r : Fin 128) (j : Fin 1536), r8 (ix2 r j) = ext (m (c.tc.loc main_arg0)) t.val (8 + r.val) (tlt t) j

section Point

variable {m} {c : Dev nD} {t : Fin cfg0.N} {r5 r6 r7 r8 : Vec Ideal S128x1536 .f32} (H : Rows m c t r5 r6 r7 r8)
include H

theorem hX (l : Fin 128) (j : Fin 1536) : convd m c t r5 r6 r7 r8 (ix2 l j) = rowsAt m c (sq t) (t.val % 32) l j :=
  convd_apply m c t H.e5 H.e6 H.e7 H.e8 l j

theorem hxs (l : Fin 128) (j : Fin 1024) : convdx m c t r5 r6 r7 r8 (ix2 l j) = rowsAt m c (sq t) (t.val % 32) l (xch j) :=
  (convdx_apply m c t r5 r6 r7 r8 l j).trans (hX H l (xch j))

/-- The first group's state after a point. -/
theorem new0_apply {S0 : Vec Ideal S1x128x512 .f32}
    (hS0 : ∀ (n : Fin 128) (j : Fin 512), S0 (ix3 0 n j) = stateAt m c (sq t) (t.val % 32) n ⟨j.val, by omega⟩) (n : Fin 128) (j : Fin 512) :
    new0 m c t r5 r6 r7 r8 S0 (ix3 0 n j) = stateAt m c (sq t) (t.val % 32 + 1) n ⟨j.val, by omega⟩ :=
  st0_eq (hX H) (hxs H) (steps_apply m c t) (sums_apply m c t) hS0 n j

/-- The second group's state after a point. -/
theorem new1_apply {S1 : Vec Ideal S1x128x512 .f32}
    (hS1 : ∀ (n : Fin 128) (j : Fin 512), S1 (ix3 0 n j) = stateAt m c (sq t) (t.val % 32) n ⟨512 + j.val, by omega⟩) (n : Fin 128) (j : Fin 512) :
    new1 m c t r5 r6 r7 r8 S1 (ix3 0 n j) = stateAt m c (sq t) (t.val % 32 + 1) n ⟨512 + j.val, by omega⟩ :=
  st1_eq (hX H) (hxs H) (steps_apply m c t) (sums_apply m c t) hS1 n j

/-- What a point stores. -/
theorem onePoint_apply {S0 S1 : Vec Ideal S1x128x512 .f32}
    (hS0 : ∀ (n : Fin 128) (j : Fin 512), S0 (ix3 0 n j) = stateAt m c (sq t) (t.val % 32) n ⟨j.val, by omega⟩)
    (hS1 : ∀ (n : Fin 128) (j : Fin 512), S1 (ix3 0 n j) = stateAt m c (sq t) (t.val % 32) n ⟨512 + j.val, by omega⟩)
    (l : Fin 128) (j : Fin 1024) :
    onePoint m c t r5 r6 r7 r8 S0 S1 (ix3 0 l j)
      = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8))
        (sq t) ⟨t.val % 32 * 128 + l.val, by omega⟩ j := by
  unfold onePoint
  refine (out_eq (hX H) (hxs H) (steps_apply m c t) (sums_apply m c t) _ _ _ (m (c.tc.loc main_arg7)) (fun j => ?_) hS0 hS1 l j).trans ?_
  · rw [View.ld_unit_zero (S := S1x1024) (by funext a; fin_cases a <;> rfl)]
    exact blk_skip m c t j
  · rw [View.ld_unit_zero (S := S1x1024) (by funext a; fin_cases a <;> rfl),
      View.ld_unit_zero (S := S1x128x1024) (by funext a; fin_cases a <;> rfl)]
    have ez : (fun i : Fin 1024 => (iblk m c 1 t : Vec Ideal S1x128x1024 .f32) (ix3 0 l i))
        = fun i => m (c.tc.loc main_arg1) (ix3 (sq t) ⟨t.val % 32 * 128 + l.val, by omega⟩ i) := funext fun i => blk_z m c t l i
    rw [ez]
    unfold out normed before
    rw [blk_gain]
    have e1 : (t.val % 32 * 128 + l.val) / 128 = t.val % 32 := by omega
    have e2 : (⟨(t.val % 32 * 128 + l.val) % 128, by omega⟩ : Fin 128) = l := Fin.ext (by show (t.val % 32 * 128 + l.val) % 128 = l.val; omega)
    simp only [e1, e2]

end Point

/-- What the scratch holds after point `n`: the chunk's last rows, and the two groups' states after the chunk. -/
structure Holds (c : Dev nD) (t : Fin cfg0.N) : Prop where
  rows : ∀ (n : Fin 136) (j : Fin 1536), n.val < 8 →
    (outsAt0 m c t.val t.isLt).2.1 (ix2 n j) = ext (m (c.tc.loc main_arg0)) t.val (128 + n.val) (tlt t) j
  low : ∀ (n : Fin 128) (j : Fin 512), (outsAt0 m c t.val t.isLt).2.2 (ix3 0 n j) = stateAt m c (sq t) (t.val % 32 + 1) n ⟨j.val, by omega⟩
  high : ∀ (n : Fin 128) (j : Fin 512), (outsAt0 m c t.val t.isLt).2.2 (ix3 1 n j) = stateAt m c (sq t) (t.val % 32 + 1) n ⟨512 + j.val, by omega⟩

theorem rowsA (c : Dev nD) (t : Fin cfg0.N) (h0 : t.val % 32 = 0) : Rows m c t (rowA5 m c t) (rowA6 m c t) (rowA7 m c t) (rowA8 m c t) := by
  refine ⟨fun r j => ?_, fun r j => ?_, fun r j => ?_, fun r j => ?_⟩
  · unfold rowA5
    rw [cov_row _ _ _ (by omega), ld_x]
    exact ext_A m c t h0 _ _ _ (by dsimp only; omega) _
  · unfold rowA6
    rw [cov_row _ _ _ (by omega), ld_x]
    exact ext_A m c t h0 _ _ _ (by dsimp only; omega) _
  · unfold rowA7
    rw [cov_row _ _ _ (by omega), ld_x]
    exact ext_A m c t h0 _ _ _ (by dsimp only; omega) _
  · unfold rowA8
    rw [cov_row _ _ _ (by omega), ld_x]
    exact ext_A m c t h0 _ _ _ (by dsimp only; omega) _

theorem rowsB (c : Dev nD) (t : Fin cfg0.N) (h0 : ¬ t.val % 32 = 0) (H : Holds m c ⟨t.val - 1, Nat.lt_of_le_of_lt (Nat.sub_le _ _) t.isLt⟩) :
    Rows m c t (rowB5 m c t) (rowB6 m c t) (rowB7 m c t) (rowB8 m c t) := by
  have hf : ∀ (n : Fin 136) (j : Fin 1536), 5 ≤ n.val → n.val < 8 →
      View.read (Elt Ideal) (View.whole cc0_scratch0) ((Memref.isWhole_whole _ : scM0_0.IsWhole).unread
        (outsAt0 m c (t.val - 1) (Nat.lt_of_le_of_lt (Nat.sub_le _ _) t.isLt)).2.1) (ix2 n j)
        = ext (m (c.tc.loc main_arg0)) t.val n.val (tlt t) j := by
    intro n j h5 h8
    refine (congrFun ((Memref.isWhole_whole _ : scM0_0.IsWhole).read_unread _) _).trans ((H.rows n j h8).trans ?_)
    unfold ext
    dsimp only
    have e1 : (t.val - 1) / 32 = t.val / 32 := by omega
    have e2 : 128 * ((t.val - 1) % 32) + (128 + n.val) - 5 = 128 * (t.val % 32) + n.val - 5 := by omega
    rw [e2]
    simp only [e1]
  refine ⟨fun r j => ?_, fun r j => ?_, fun r j => ?_, fun r j => ?_⟩
  · unfold rowB5
    rw [ld_row _ _ (by omega), ld_x]
    exact ext_B m c t _ _ hf _ (by dsimp only; omega) _
  · unfold rowB6
    rw [ld_row _ _ (by omega), ld_x]
    exact ext_B m c t _ _ hf _ (by dsimp only; omega) _
  · unfold rowB7
    rw [ld_row _ _ (by omega), ld_x]
    exact ext_B m c t _ _ hf _ (by dsimp only; omega) _
  · unfold rowB8
    rw [cov_row _ _ _ (by omega), ld_x, low_rows _ _ _ _ _ _ (by dsimp only; omega)]
    exact ext_low m c t (8 + r.val) (by omega) (by omega) j

theorem startA0 (c : Dev nD) (t : Fin cfg0.N) (h0 : t.val % 32 = 0) (n : Fin 128) (j : Fin 512) :
    oldA0 (ix3 0 n j) = stateAt m c (sq t) (t.val % 32) n ⟨j.val, by omega⟩ := by
  rw [oldA0_apply, h0]
  rfl

theorem startA1 (c : Dev nD) (t : Fin cfg0.N) (h0 : t.val % 32 = 0) (n : Fin 128) (j : Fin 512) :
    oldA1 m c t (ix3 0 n j) = stateAt m c (sq t) (t.val % 32) n ⟨512 + j.val, by omega⟩ := by
  rw [oldA1_apply, h0]
  rfl

theorem sq_pred (t : Fin cfg0.N) (h0 : ¬ t.val % 32 = 0) : sq ⟨t.val - 1, Nat.lt_of_le_of_lt (Nat.sub_le _ _) t.isLt⟩ = sq t :=
  Fin.ext (by show (t.val - 1) / 32 = t.val / 32; omega)

theorem startB0 (c : Dev nD) (t : Fin cfg0.N) (h0 : ¬ t.val % 32 = 0) (H : Holds m c ⟨t.val - 1, Nat.lt_of_le_of_lt (Nat.sub_le _ _) t.isLt⟩)
    (n : Fin 128) (j : Fin 512) : oldB0 m c t (ix3 0 n j) = stateAt m c (sq t) (t.val % 32) n ⟨j.val, by omega⟩ := by
  refine (oldB0_apply m c t n j).trans ((H.low n j).trans ?_)
  rw [sq_pred t h0]
  have e : (t.val - 1) % 32 + 1 = t.val % 32 := by omega
  dsimp only
  rw [e]

theorem startB1 (c : Dev nD) (t : Fin cfg0.N) (h0 : ¬ t.val % 32 = 0) (H : Holds m c ⟨t.val - 1, Nat.lt_of_le_of_lt (Nat.sub_le _ _) t.isLt⟩)
    (n : Fin 128) (j : Fin 512) : oldB1 m c t (ix3 0 n j) = stateAt m c (sq t) (t.val % 32) n ⟨512 + j.val, by omega⟩ := by
  refine (oldB1_apply m c t n j).trans ((H.high n j).trans ?_)
  rw [sq_pred t h0]
  have e : (t.val - 1) % 32 + 1 = t.val % 32 := by omega
  dsimp only
  rw [e]

/-- Every point leaves the chunk's last rows and the states after the chunk. -/
theorem holds (c : Dev nD) (n : ℕ) (hn : n < cfg0.N) : Holds m c ⟨n, hn⟩ := by
  induction n with
  | zero => exact holdsA ⟨0, hn⟩ rfl
  | succ n ih =>
    by_cases h0 : (n + 1) % 32 = 0
    · exact holdsA ⟨n + 1, hn⟩ h0
    · exact holdsB ⟨n + 1, hn⟩ h0 (ih (Nat.lt_of_succ_lt hn))
where
  holdsA (t : Fin cfg0.N) (h0 : t.val % 32 = 0) : Holds m c t := by
    refine ⟨fun n j h8 => ?_, fun n j => ?_, fun n j => ?_⟩
    · rw [bufA m c t h0, ← View.read_writes_junk_apply_eq_canon (View.whole cc0_scratch0), top_rows _ _ _ _ _ _ h8, copy_last,
        cov_row _ _ _ (by omega), ld_x]
      exact ext_A m c t h0 _ _ _ (by dsimp only; omega) _
    · rw [keptA m c t h0]
      refine (canon_other (q := 1) (p := 0) (by omega) (by omega) _ _ _ n j).trans ((canon_same (q := 0) (by omega) _ _ _ n j).trans ?_)
      exact new0_apply (rowsA m c t h0) (startA0 m c t h0) n j
    · rw [keptA m c t h0]
      refine (canon_same (q := 1) (by omega) _ _ _ n j).trans ?_
      exact new1_apply (rowsA m c t h0) (startA1 m c t h0) n j
  holdsB (t : Fin cfg0.N) (h0 : ¬ t.val % 32 = 0) (H : Holds m c ⟨t.val - 1, Nat.lt_of_le_of_lt (Nat.sub_le _ _) t.isLt⟩) : Holds m c t := by
    refine ⟨fun n j h8 => ?_, fun n j => ?_, fun n j => ?_⟩
    · rw [bufB m c t h0, ← View.read_writes_junk_apply_eq_canon (View.whole cc0_scratch0), top_rows _ _ _ _ _ _ h8, copy_last,
        cov_row _ _ _ (by omega), ld_x, low_rows _ _ _ _ _ _ (by dsimp only; omega)]
      exact ext_low m c t (128 + n.val) (by omega) (by omega) j
    · rw [keptB m c t h0]
      refine (canon_other (q := 1) (p := 0) (by omega) (by omega) _ _ _ n j).trans ((canon_same (q := 0) (by omega) _ _ _ n j).trans ?_)
      exact new0_apply (rowsB m c t h0 H) (startB0 m c t h0 H) n j
    · rw [keptB m c t h0]
      refine (canon_same (q := 1) (by omega) _ _ _ n j).trans ?_
      exact new1_apply (rowsB m c t h0 H) (startB1 m c t h0 H) n j

/-- What point `t` writes. -/
theorem point_apply (c : Dev nD) (t : Fin cfg0.N) (r : Fin 128) (j : Fin 1024) :
    (outsAt0 m c t.val t.isLt).1 (ix3 0 r j)
      = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8))
        (sq t) ⟨t.val % 32 * 128 + r.val, by omega⟩ j := by
  by_cases h0 : t.val % 32 = 0
  · rw [outA m c t h0]
    exact onePoint_apply (rowsA m c t h0) (startA0 m c t h0) (startA1 m c t h0) r j
  · have H := holds m c (t.val - 1) (Nat.lt_of_le_of_lt (Nat.sub_le _ _) t.isLt)
    rw [outB m c t h0]
    exact onePoint_apply (rowsB m c t h0 H) (startB0 m c t h0 H) (startB1 m c t h0 H) r j

/-- The output array. -/
def result (c : Dev nD) : Vec Ideal S16x4096x1024 .bf16 := fun i =>
  out (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (i 0) (i 1) (i 2)

/-- The blocks written back make it up. -/
theorem final (c : Dev nD) : (dats m 0 c).arrAt 9 cfg0.N = result m c := by
  refine (dats m 0 c).arrAt_eq_of_covers 9 _ (by decide +kernel) fun t hf y => ?_
  blk_simp
  rw [after0_9]
  have h0 : (y 0).val < 1 := (y 0).isLt
  have h1 : (y 1).val < 128 := (y 1).isLt
  have h2 : (y 2).val < 1024 := (y 2).isLt
  have hy : (y : S1x128x1024.Idx) = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have he : ((win0_9.blk t).view.emb y : S16x4096x1024.Idx)
      = ix3 (sq t) ⟨t.val % 32 * 128 + (y 1).val, by omega⟩ ⟨(y 2).val, h2⟩ := by
    have hi := (idx_seq t).2.2
    funext a
    match a with
    | ⟨0, _⟩ =>
      refine Fin.ext ?_
      show win0_9.index t 0 * 1 + 1 * (y 0).val = t.val / 32
      rw [hi]; show t.val / 32 * 1 + 1 * (y 0).val = t.val / 32
      omega
    | ⟨1, _⟩ =>
      refine Fin.ext ?_
      show win0_9.index t 1 * 128 + 1 * (y 1).val = t.val % 32 * 128 + (y 1).val
      rw [hi]; show t.val % 32 * 128 + 1 * (y 1).val = t.val % 32 * 128 + (y 1).val
      omega
    | ⟨2, _⟩ =>
      refine Fin.ext ?_
      show win0_9.index t 2 * 1024 + 1 * (y 2).val = (y 2).val
      rw [hi]; show 0 * 1024 + 1 * (y 2).val = (y 2).val
      omega
  rw [he]
  refine (congrArg _ hy).trans ?_
  exact point_apply m c t ⟨(y 1).val, h1⟩ ⟨(y 2).val, h2⟩

end Cert.Ssd.Ker
-- ==== Proof.Ssd.Ref.lean ====
/- What the reference computes before its loop, and what the loop leaves: the plain mathematics of Spec.lean. -/
module

public import proofs.«01_k».proof.Proof.Ssd.Spec
public import proofs.«01_k».proof.Proof.Gen.Reference6Ideal.Step

@[expose] public section

set_option maxRecDepth 16384

noncomputable section

namespace Cert.Ssd.Ref

open Idealize.ShloMosaic Cert.Reference6Ideal Cert.Reference6Ideal.Gen Cert.Reference6Ideal.Step Cert.Lru Cert.Ssd

/-- Channel `p` of head `h`. -/
def chan (h : Fin 16) (p : Fin 64) : Fin 1024 := ⟨h.val * 64 + p.val, by omega⟩

/-- The position of row `l` of chunk `k`. -/
def at' (k : Fin 32) (l : Fin 128) : Fin 4096 := ⟨k.val * 128 + l.val, by omega⟩

/-- The group of a head. -/
def grp (h : Fin 16) : Fin 2 := ⟨h.val / 8, by omega⟩

theorem hd_chan (h : Fin 16) (p : Fin 64) : hd (chan h p) = h := Fin.ext (by show (h.val * 64 + p.val) / 64 = h.val; omega)

theorem pos_at (k : Fin 32) (l : Fin 128) : pos k.val l = at' k l :=
  Fin.ext (by show (128 * k.val + l.val) % 4096 = k.val * 128 + l.val; omega)

section Reshapes

/-- Positions by chunks. -/
theorem chunk5 (T : Vec Ideal S16x4096x16x64 .f32) (pf) (b : Fin 16) (k : Fin 32) (l : Fin 128) (h : Fin 16) (p : Fin 64) :
    shapeCast S16x32x128x16x64 T pf (ix5 b k l h p) = T (ix4 b (at' k l) h p) := by
  pointwise [at']

theorem chunk5' (T : Vec Ideal S16x4096x16x128 .f32) (pf) (b : Fin 16) (k : Fin 32) (l : Fin 128) (h : Fin 16) (n : Fin 128) :
    shapeCast S16x32x128x16x128 T pf (ix5 b k l h n) = T (ix4 b (at' k l) h n) := by
  pointwise [at']

theorem chunk4 (T : Vec Ideal S16x4096x16 .f32) (pf) (b : Fin 16) (k : Fin 32) (l : Fin 128) (h : Fin 16) :
    shapeCast S16x32x128x16 T pf (ix4 b k l h) = T (ix3 b (at' k l) h) := by
  pointwise [at']

/-- Channels by heads. -/
theorem heads4 (T : Vec Ideal S16x4096x1024 .f32) (pf) (b : Fin 16) (s : Fin 4096) (h : Fin 16) (p : Fin 64) :
    shapeCast S16x4096x16x64 T pf (ix4 b s h p) = T (ix3 b s (chan h p)) := by
  pointwise [chan]

/-- The two groups' rows. -/
theorem groups4 (T : Vec Ideal S16x4096x256 .f32) (pf) (b : Fin 16) (s : Fin 4096) (q : Fin 2) (n : Fin 128) :
    shapeCast S16x4096x2x128 T pf (ix4 b s q n) = T (ix3 b s ⟨q.val * 128 + n.val, by omega⟩) := by
  pointwise []

/-- Eight heads to a group. -/
theorem spread4 (T : Vec Ideal S16x4096x2x8x128 .f32) (pf) (b : Fin 16) (s : Fin 4096) (h : Fin 16) (n : Fin 128) :
    shapeCast S16x4096x16x128 T pf (ix4 b s h n) = T (ix5 b s (grp h) ⟨h.val % 8, by omega⟩ n) := by
  pointwise [grp]

/-- The loop's rows, as rows of channels. -/
theorem back3 (T : Vec Ideal S16x32x128x16x64 .f32) (pf) (b : Fin 16) (s : Fin 4096) (j : Fin 1024) :
    shapeCast S16x4096x1024 T pf (ix3 b s j)
      = T (ix5 b ⟨s.val / 128, by omega⟩ ⟨s.val % 128, by omega⟩ (hd j) ⟨j.val % 64, by omega⟩) := by
  pointwise [hd]

end Reshapes

variable (x : Seq) (raw : Raw) (cw : Taps) (cb : CRow) (bias al D : HRow)

/-- The padded sequence. -/
theorem pad_apply (b : Fin 16) (n : Fin 4099) (j : Fin 1536) :
    A_main_v5 (F := Ideal) x raw cw cb bias al D (ix3 b n j) = xpad x b n.val j := by
  pointwise [A_main_v5, K_main_call0_v0, K_main_c]
  unfold xpad
  have e : (FloatOps.sitofp (F := Ideal) FTy.f32 0#32) = (0 : EReal) := by
    show (((0#32 : BitVec 32).toInt : ℝ) : EReal) = 0
    simp
  rw [e]

/-- The convolution. -/
theorem conv_apply (b : Fin 16) (s : Fin 4096) (j : Fin 1536) :
    A_main_v37 (F := Ideal) x raw cw cb bias al D (ix3 b s j) = conv x cw cb b s.val j := by
  pointwise [A_main_v37, A_main_v36, A_main_v35, A_main_v34, A_main_v33, A_main_v32, A_main_v31, A_main_v30, A_main_v29,
    A_main_v28, A_main_v27, A_main_v26, A_main_v25, A_main_v24, A_main_v23, A_main_v22, A_main_v21, A_main_v20,
    A_main_v19, A_main_v18, A_main_v17, A_main_v16, A_main_v15, A_main_v14, A_main_v13, A_main_v11, A_main_v10,
    A_main_v9, A_main_v8, A_main_v7, A_main_v6, A_main_v1, A_main_v0, K_main_v12, K_main_cst, pad_apply]
  rw [Nat.add_comm 1 s.val, Nat.add_comm 2 s.val, Nat.add_comm 3 s.val]
  rfl

/-- The convolved rows. -/
theorem act_apply (b : Fin 16) (s : Fin 4096) (j : Fin 1536) :
    A_main_v38 (F := Ideal) x raw cw cb bias al D (ix3 b s j) = silu (conv x cw cb b s.val j) := by
  pointwise [A_main_v38, A_main_call1_v5, A_main_call1_v3, A_main_call1_v1, A_main_call1_v0, K_main_call1_v4, K_main_call1_cst_0,
    K_main_call1_v2, K_main_call1_cst, conv_apply]
  rfl

/-- The steps. -/
theorem dt_apply (b : Fin 16) (s : Fin 4096) (h : Fin 16) :
    A_main_v47 (F := Ideal) x raw cw cb bias al D (ix3 b s h) = soft (raw (ix3 b s ⟨h.val, by omega⟩) + bias (ix2 0 h)) := by
  pointwise [A_main_v47, A_main_call2_v11, A_main_call2_v10, A_main_call2_v9, A_main_call2_v8, A_main_call2_v7,
    A_main_call2_v6, A_main_call2_v4, A_main_call2_v3, A_main_call2_v1, A_main_v46, A_main_v45, A_main_v44, A_main_v43, A_main_v2,
    K_main_call2_v5, K_main_call2_v2, K_main_call2_v0, K_main_call2_cst]
  rw [if_neg (fun h => h rfl)]
  rfl

theorem rows_at (b : Fin 16) (k : Fin 32) (l : Fin 128) (j : Fin 1536) :
    silu (conv x cw cb b (at' k l).val j) = rowsOf x cw cb b k.val l j := by
  show silu (conv x cw cb b (k.val * 128 + l.val) j) = silu (conv x cw cb b (128 * k.val + l.val) j)
  rw [Nat.mul_comm]

theorem steps_at (b : Fin 16) (k : Fin 32) (l : Fin 128) (h : Fin 16) :
    A_main_v47 (F := Ideal) x raw cw cb bias al D (ix3 b (at' k l) h) = stepsOf raw bias b k.val l h := by
  rw [dt_apply]
  unfold stepsOf
  rw [pos_at]

/-- The input of a head's channel. -/
theorem xs_apply (b : Fin 16) (s : Fin 4096) (h : Fin 16) (p : Fin 64) :
    A_main_v42 (F := Ideal) x raw cw cb bias al D (ix4 b s h p) = silu (conv x cw cb b s.val (xch (chan h p))) := by
  unfold A_main_v42
  rw [heads4]
  pointwise [A_main_v39, act_apply]
  rfl

/-- The scaled input. -/
theorem xdt_apply (b : Fin 16) (k : Fin 32) (l : Fin 128) (h : Fin 16) (p : Fin 64) :
    A_main_v61 (F := Ideal) x raw cw cb bias al D (ix5 b k l h p) = xdt (rowsOf x cw cb b k.val) (stepsOf raw bias b k.val) l (chan h p) := by
  unfold A_main_v61
  rw [chunk5]
  pointwise [A_main_v60, A_main_v59, A_main_v58, xs_apply, steps_at]
  unfold xdt
  rw [rows_at, hd_chan]

/-- The input rows, by head. -/
theorem b_apply (b : Fin 16) (k : Fin 32) (l : Fin 128) (h : Fin 16) (n : Fin 128) (p : Fin 64) :
    A_main_v53 (F := Ideal) x raw cw cb bias al D (ix5 b k l h n) = rowsOf x cw cb b k.val l (bch (chan h p) n) := by
  unfold A_main_v53 A_main_v52
  rw [chunk5', spread4]
  pointwise [A_main_v51]
  unfold A_main_v50
  rw [groups4]
  pointwise [A_main_v40, act_apply]
  refine Eq.trans ?_ (rows_at x cw cb b k l _)
  refine congrArg (fun q => silu (conv x cw cb b (at' k l).val q)) (Fin.ext ?_)
  show _ = 1024 + (h.val * 64 + p.val) / 512 * 128 + n.val
  have e : (h.val * 64 + p.val) / 512 = h.val / 8 := by omega
  rw [e]
  show 1024 + (h.val / 8 * 128 + n.val) = _
  omega

/-- The output rows, by head. -/
theorem c_apply (b : Fin 16) (k : Fin 32) (l : Fin 128) (h : Fin 16) (n : Fin 128) (p : Fin 64) :
    A_main_v57 (F := Ideal) x raw cw cb bias al D (ix5 b k l h n) = rowsOf x cw cb b k.val l (cch (chan h p) n) := by
  unfold A_main_v57 A_main_v56
  rw [chunk5', spread4]
  pointwise [A_main_v55]
  unfold A_main_v54
  rw [groups4]
  pointwise [A_main_v41, act_apply]
  refine Eq.trans ?_ (rows_at x cw cb b k l _)
  refine congrArg (fun q => silu (conv x cw cb b (at' k l).val q)) (Fin.ext ?_)
  show _ = 1280 + (h.val * 64 + p.val) / 512 * 128 + n.val
  have e : (h.val * 64 + p.val) / 512 = h.val / 8 := by omega
  rw [e]
  show 1280 + (h.val / 8 * 128 + n.val) = _
  omega

/-- The log decays. -/
theorem da_apply (b : Fin 16) (k : Fin 32) (l : Fin 128) (h : Fin 16) :
    A_main_v65 (F := Ideal) x raw cw cb bias al D (ix4 b k l h) = stepsOf raw bias b k.val l h * -(Ideal.exp (al (ix2 0 h))) := by
  unfold A_main_v65
  rw [chunk4]
  pointwise [A_main_v64, A_main_v63, A_main_v62, A_main_v49, A_main_v48, A_main_v3, steps_at]

/-- The mask of the causal pairs. -/
theorem mask_apply (l s : Fin 128) : K_main_v72 (F := Ideal) (ix2 l s) = if s.val ≤ l.val then 1#1 else 0#1 := by
  pointwise [K_main_v72, K_main_v71, K_main_v70, K_main_v69, K_main_v68, K_main_v67, K_main_v66]
  exact sge_mask l s
where
  sge_mask : ∀ l s : Fin 128, IntOp.cmpi CmpIPredicate.sge (BitVec.ofNat 32 l.val) (BitVec.ofNat 32 s.val)
      = if s.val ≤ l.val then 1#1 else 0#1 := by decide +kernel

/-- A value where the mask is set, and zero elsewhere. -/
theorem masked (l s : ℕ) (a b : EReal) :
    Scalar.select (if s ≤ l then 1#1 else 0#1) a b = if s ≤ l then a else b := by
  by_cases h : s ≤ l
  · rw [if_pos h, if_pos h]
    rfl
  · rw [if_neg h, if_neg h]
    rfl

theorem lit_zero : Ideal.ofBits .f32 0#32 = 0 := by simp

/-- The running sums. -/
theorem sums_apply (b : Fin 16) (k : Fin 32) (l : Fin 128) (h : Fin 16) :
    A_main_v76 (F := Ideal) x raw cw cb bias al D (ix4 b k l h) = running (stepsOf raw bias b k.val) al l h := by
  pointwise [A_main_v76, A_main_v75, A_main_v74, A_main_call3_v2, K_main_call3_v1, K_main_call3_v3, K_main_call3_v0, K_main_cst_0,
    K_main_cst_1, K_main_v73, mask_apply, da_apply]
  refine Finset.sum_congr rfl fun s _ => (masked _ _ _ _).trans ?_
  exact if_congr Iff.rfl rfl lit_zero

/-- What position `l` keeps of position `s`. -/
theorem kept_apply (b : Fin 16) (k : Fin 32) (h : Fin 16) (l s : Fin 128) :
    A_main_v85 (F := Ideal) x raw cw cb bias al D (ix5 b k h l s) = kept (running (stepsOf raw bias b k.val) al) l s h := by
  pointwise [A_main_v85, A_main_v84, A_main_v83, A_main_v82, A_main_v81, A_main_v80, A_main_v79, A_main_v78, A_main_v77,
    K_main_call5_v2, K_main_call5_v1, K_main_call5_v0, K_main_cst_3, K_main_call4_v2, K_main_call4_v1, K_main_call4_v0, K_main_cst_2,
    mask_apply, sums_apply]
  rw [masked, masked]
  unfold kept
  by_cases e : s.val ≤ l.val
  · rw [if_pos e, if_pos e, if_pos e]
  · rw [if_neg e, if_neg e]
    exact lit_zero

/-- The pairings. -/
theorem pairing_apply (b : Fin 16) (k : Fin 32) (h : Fin 16) (l s : Fin 128) (p : Fin 64) :
    A_main_v86 (F := Ideal) x raw cw cb bias al D (ix5 b k h l s) = pairing (rowsOf x cw cb b k.val) (chan h p) l s := by
  pointwise [A_main_v86]
  refine Finset.sum_congr rfl fun n _ => ?_
  rw [c_apply x raw cw cb bias al D b k l h n p, b_apply x raw cw cb bias al D b k s h n p]

/-- What a chunk's own positions give. -/
theorem inside_apply (b : Fin 16) (k : Fin 32) (l : Fin 128) (h : Fin 16) (p : Fin 64) :
    A_main_v89 (F := Ideal) x raw cw cb bias al D (ix5 b k l h p)
      = inside (rowsOf x cw cb b k.val) (stepsOf raw bias b k.val) (running (stepsOf raw bias b k.val) al) l (chan h p) := by
  pointwise [A_main_v89, A_main_v88, A_main_v87, xdt_apply, kept_apply]
  refine Finset.sum_congr rfl fun s _ => ?_
  rw [pairing_apply x raw cw cb bias al D b k h l s p, hd_chan, mul_comm]

/-- What a chunk adds to the state. -/
theorem added_apply (k : Fin 32) (b : Fin 16) (h : Fin 16) (n : Fin 128) (p : Fin 64) :
    A_main_v107 (F := Ideal) x raw cw cb bias al D (ix5 k b h n p)
      = added (rowsOf x cw cb b k.val) (stepsOf raw bias b k.val) (running (stepsOf raw bias b k.val) al) n (chan h p) := by
  pointwise [A_main_v107, A_main_v97, A_main_v96, A_main_v95, A_main_v94, A_main_v93, A_main_v92, A_main_v91, A_main_v90, xdt_apply, sums_apply]
  refine Finset.sum_congr rfl fun l _ => ?_
  rw [b_apply x raw cw cb bias al D b k l h n p, hd_chan]

/-- The decay over a chunk. -/
theorem decay_apply (k : Fin 32) (b : Fin 16) (h : Fin 16) :
    A_main_v108 (F := Ideal) x raw cw cb bias al D (ix3 k b h) = Ideal.exp (running (stepsOf raw bias b k.val) al 127 h) := by
  pointwise [A_main_v108, A_main_v100, A_main_v99, A_main_v98, sums_apply]

/-- The output rows, chunk first. -/
theorem outs_apply (k : Fin 32) (b : Fin 16) (l : Fin 128) (h : Fin 16) (n : Fin 128) (p : Fin 64) :
    A_main_v109 (F := Ideal) x raw cw cb bias al D (ix5 k b l h n) = rowsOf x cw cb b k.val l (cch (chan h p) n) := by
  pointwise [A_main_v109]
  exact c_apply x raw cw cb bias al D b k l h n p

/-- The decay from a chunk's start. -/
theorem reach_apply (k : Fin 32) (b : Fin 16) (l : Fin 128) (h : Fin 16) :
    A_main_v111 (F := Ideal) x raw cw cb bias al D (ix4 k b l h) = Ideal.exp (running (stepsOf raw bias b k.val) al l h) := by
  pointwise [A_main_v111, A_main_v110, sums_apply]

/-- The skip. -/
theorem skip_apply (b : Fin 16) (k : Fin 32) (l : Fin 128) (h : Fin 16) (p : Fin 64) :
    A_main_v105 (F := Ideal) x raw cw cb bias al D (ix5 b k l h p) = D (ix2 0 h) * rowsOf x cw cb b k.val l (xch (chan h p)) := by
  unfold A_main_v105
  rw [chunk5]
  pointwise [A_main_v104, A_main_v103, A_main_v102, A_main_v101, A_main_v4, xs_apply]
  rw [rows_at]

/-- The part of the output that does not depend on the carried state. -/
theorem own_apply (k : Fin 32) (b : Fin 16) (l : Fin 128) (h : Fin 16) (p : Fin 64) :
    A_main_v113 (F := Ideal) x raw cw cb bias al D (ix5 k b l h p)
      = inside (rowsOf x cw cb b k.val) (stepsOf raw bias b k.val) (running (stepsOf raw bias b k.val) al) l (chan h p)
        + D (ix2 0 h) * rowsOf x cw cb b k.val l (xch (chan h p)) := by
  pointwise [A_main_v113, A_main_v112, inside_apply, skip_apply]

end Cert.Ssd.Ref
-- ==== Proof.Ssd.Loop.lean ====
module

public import proofs.«01_k».proof.Proof.Ssd.Ref

/-! # The reference's loop over the chunks -/

@[expose] public section

set_option maxRecDepth 16384

noncomputable section

namespace Cert.Ssd.Ref

open Idealize.ShloMosaic Cert.Reference6Ideal Cert.Reference6Ideal.Gen Cert.Reference6Ideal.Step Cert.Lru Cert.Ssd

/-- The start index of a trip, clamped, is the trip's number. -/
theorem first_start (n : ℕ) (h : n < 32) : (min (max (BitVec.ofNat 32 n).toInt 0) ((32 - 1 : Nat) : Int)).toNat = n := by
  rw [BitVec.toInt_eq_toNat_of_lt (by rw [BitVec.toNat_ofNat]; omega), BitVec.toNat_ofNat]
  omega

theorem startA (n : ℕ) (h : n < 32) (pf) :
    Host.clampedStart S32x16x16x128x64 S1x16x16x128x64 pf (fun k => BitVec.toInt ((![constantI S_ 32 (BitVec.ofNat 32 n), constantI S_ 32 0#32, constantI S_ 32 0#32, constantI S_ 32 0#32, constantI S_ 32 0#32]
      : Fin 5 → S_.Idx → BitVec 32) k (Shape.Idx.first Gen.h_S_))) = ![n, 0, 0, 0, 0] := by
  funext a
  match a with
  | ⟨0, _⟩ => exact first_start n h
  | ⟨1, _⟩ => rfl
  | ⟨2, _⟩ => rfl
  | ⟨3, _⟩ => rfl
  | ⟨4, _⟩ => rfl

theorem startB (n : ℕ) (h : n < 32) (pf) :
    Host.clampedStart S32x16x16 S1x16x16 pf (fun k => BitVec.toInt ((![constantI S_ 32 (BitVec.ofNat 32 n), constantI S_ 32 0#32, constantI S_ 32 0#32]
      : Fin 3 → S_.Idx → BitVec 32) k (Shape.Idx.first Gen.h_S_))) = ![n, 0, 0] := by
  funext a
  match a with
  | ⟨0, _⟩ => exact first_start n h
  | ⟨1, _⟩ => rfl
  | ⟨2, _⟩ => rfl

theorem startC (n : ℕ) (h : n < 32) (pf) :
    Host.clampedStart S32x16x128x16x128 S1x16x128x16x128 pf (fun k => BitVec.toInt ((![constantI S_ 32 (BitVec.ofNat 32 n), constantI S_ 32 0#32, constantI S_ 32 0#32, constantI S_ 32 0#32, constantI S_ 32 0#32]
      : Fin 5 → S_.Idx → BitVec 32) k (Shape.Idx.first Gen.h_S_))) = ![n, 0, 0, 0, 0] := by
  funext a
  match a with
  | ⟨0, _⟩ => exact first_start n h
  | ⟨1, _⟩ => rfl
  | ⟨2, _⟩ => rfl
  | ⟨3, _⟩ => rfl
  | ⟨4, _⟩ => rfl

theorem startD (n : ℕ) (h : n < 32) (pf) :
    Host.clampedStart S32x16x128x16 S1x16x128x16 pf (fun k => BitVec.toInt ((![constantI S_ 32 (BitVec.ofNat 32 n), constantI S_ 32 0#32, constantI S_ 32 0#32, constantI S_ 32 0#32]
      : Fin 4 → S_.Idx → BitVec 32) k (Shape.Idx.first Gen.h_S_))) = ![n, 0, 0, 0] := by
  funext a
  match a with
  | ⟨0, _⟩ => exact first_start n h
  | ⟨1, _⟩ => rfl
  | ⟨2, _⟩ => rfl
  | ⟨3, _⟩ => rfl

theorem startE (n : ℕ) (h : n < 32) (pf) :
    Host.clampedStart S32x16x128x16x64 S1x16x128x16x64 pf (fun k => BitVec.toInt ((![constantI S_ 32 (BitVec.ofNat 32 n), constantI S_ 32 0#32, constantI S_ 32 0#32, constantI S_ 32 0#32, constantI S_ 32 0#32]
      : Fin 5 → S_.Idx → BitVec 32) k (Shape.Idx.first Gen.h_S_))) = ![n, 0, 0, 0, 0] := by
  funext a
  match a with
  | ⟨0, _⟩ => exact first_start n h
  | ⟨1, _⟩ => rfl
  | ⟨2, _⟩ => rfl
  | ⟨3, _⟩ => rfl
  | ⟨4, _⟩ => rfl

/-- The state after a trip. -/
theorem b35_apply (n : ℕ) (hn : n < 32) (σ : State Ideal) (b : Fin 16) (h : Fin 16) (s : Fin 128) (p : Fin 64) :
    b35 n σ (ix4 b h s p) = σ.main_v115_1 (ix3 ⟨n, hn⟩ b h) * σ.main_v115_6 (ix4 b h s p) + σ.main_v115_0 (ix5 ⟨n, hn⟩ b h s p) := by
  pointwise [b35, b34, b33, b32, b9, b8, b7, b6, b5, b4, b3, b2, b1, b0]
  simp only [startA n hn, startB n hn, Matrix.cons_val, Nat.zero_add, Fin.eta]

/-- The rows a trip computes. -/
theorem b36_apply (n : ℕ) (hn : n < 32) (σ : State Ideal) (b : Fin 16) (l : Fin 128) (h : Fin 16) (p : Fin 64) :
    b36 n σ (ix4 b l h p) = σ.main_v115_4 (ix5 ⟨n, hn⟩ b l h p)
      + (∑ s : Fin 128, σ.main_v115_6 (ix4 b h s p) * σ.main_v115_2 (ix5 ⟨n, hn⟩ b l h s)) * σ.main_v115_3 (ix4 ⟨n, hn⟩ b l h) := by
  pointwise [b36, b31, b30, b29, b28, b27, b26, b25, b24, b23, b22, b21, b20, b19, b18, b17, b16, b15, b14, b13, b12, b11, b10]
  simp only [startC n hn, startD n hn, startE n hn, Matrix.cons_val, Nat.zero_add, Fin.eta]

/-- The rows a trip writes. -/
theorem b42_apply (n : ℕ) (hn : n < 32) (σ : State Ideal) (k : Fin 32) (b : Fin 16) (l : Fin 128) (h : Fin 16) (p : Fin 64) :
    b42 n σ (ix5 k b l h p) = if k.val = n then b36 n σ (ix4 b l h p) else σ.main_v115_7 (ix5 k b l h p) := by
  pointwise [b42, b41, b40, b39, b38, b37]
  by_cases e : k.val = n
  · rw [dif_pos (by simp only [startE n hn, Matrix.cons_val]; omega), if_pos e]
    rfl
  · rw [dif_neg (by simp only [startE n hn, Matrix.cons_val]; omega), if_neg e]

variable (x : Seq) (raw : Raw) (cw : Taps) (cb : CRow) (bias al D : HRow)

/-- The reference's sequence of states. -/
def it : ℕ → State Ideal
  | 0 => init x raw cw cb bias al D
  | n + 1 => step n (it n)

/-- Every trip leaves the arrays it reads. -/
theorem it_keeps (n : ℕ) : (it x raw cw cb bias al D n).main_v115_0 = A_main_v107 x raw cw cb bias al D
    ∧ (it x raw cw cb bias al D n).main_v115_1 = A_main_v108 x raw cw cb bias al D
    ∧ (it x raw cw cb bias al D n).main_v115_2 = A_main_v109 x raw cw cb bias al D
    ∧ (it x raw cw cb bias al D n).main_v115_3 = A_main_v111 x raw cw cb bias al D
    ∧ (it x raw cw cb bias al D n).main_v115_4 = A_main_v113 x raw cw cb bias al D := by
  induction n with
  | zero => exact ⟨rfl, rfl, rfl, rfl, rfl⟩
  | succ n ih => exact ih

/-- The carried array is the state before the chunk. -/
theorem it_state (n : ℕ) (hn : n ≤ 32) (b : Fin 16) (h : Fin 16) (s : Fin 128) (p : Fin 64) :
    (it x raw cw cb bias al D n).main_v115_6 (ix4 b h s p) = state x raw cw cb bias al b n s (chan h p) := by
  induction n with
  | zero =>
    show K_main_v106 (F := Ideal) (ix4 b h s p) = 0
    pointwise [K_main_v106, K_main_cst_4]
  | succ n ih =>
    show b35 n (it x raw cw cb bias al D n) (ix4 b h s p) = _
    obtain ⟨k0, k1, -⟩ := it_keeps x raw cw cb bias al D n
    rw [b35_apply n (by omega), k0, k1, ih (by omega), decay_apply, added_apply]
    show _ = Ideal.exp (running (stepsOf raw bias b n) al 127 (hd (chan h p))) * state x raw cw cb bias al b n s (chan h p)
      + added (rowsOf x cw cb b n) (stepsOf raw bias b n) (running (stepsOf raw bias b n) al) s (chan h p)
    rw [hd_chan]

/-- The rows a chunk gives. -/
theorem rows_of (n : ℕ) (hn : n < 32) (b : Fin 16) (l : Fin 128) (h : Fin 16) (p : Fin 64) :
    b36 n (it x raw cw cb bias al D n) (ix4 b l h p) = before x raw cw cb bias al D b n l (chan h p) := by
  obtain ⟨-, -, k2, k3, k4⟩ := it_keeps x raw cw cb bias al D n
  rw [b36_apply n hn, k2, k3, k4, own_apply, reach_apply]
  unfold before mixed across
  rw [hd_chan, add_right_comm]
  refine congrArg (fun q => _ + q * _ + _) (Finset.sum_congr rfl fun s _ => ?_)
  rw [outs_apply x raw cw cb bias al D ⟨n, hn⟩ b l h s p, it_state x raw cw cb bias al D n (by omega), mul_comm]

/-- The rows written so far are the chunks'. -/
theorem it_rows (n : ℕ) (hn : n ≤ 32) (k : Fin 32) (hk : k.val < n) (b : Fin 16) (l : Fin 128) (h : Fin 16) (p : Fin 64) :
    (it x raw cw cb bias al D n).main_v115_7 (ix5 k b l h p) = before x raw cw cb bias al D b k.val l (chan h p) := by
  induction n with
  | zero => omega
  | succ n ih =>
    show b42 n (it x raw cw cb bias al D n) (ix5 k b l h p) = _
    rw [b42_apply n (by omega)]
    by_cases e : k.val = n
    · rw [if_pos e, e]
      exact rows_of x raw cw cb bias al D n (by omega) b l h p
    · rw [if_neg e]
      exact ih (by omega) (by omega)

/-- The rows that the loop leaves, gated and normed. -/
theorem last_apply (σ : State Ideal) (z : Gate) (g : ORow) (b : Fin 16) (s : Fin 4096) (j : Fin 1024) :
    R_main_v136 σ z g (ix3 b s j)
      = normed (fun i => σ.main_v115_7 (ix5 ⟨s.val / 128, by omega⟩ b ⟨s.val % 128, by omega⟩ ⟨i.val / 64, by omega⟩ ⟨i.val % 64, by omega⟩))
        (fun i => z (ix3 b s i)) g j := by
  pointwise [R_main_v136]
  rfl

theorem chan_hd (i : Fin 1024) : chan ⟨i.val / 64, by omega⟩ ⟨i.val % 64, by omega⟩ = i :=
  Fin.ext (by show i.val / 64 * 64 + i.val % 64 = i.val; omega)

/-- What the reference returns. -/
theorem result_apply (σ : State Ideal) (hσ : σ = it x raw cw cb bias al D 32) (z : Gate) (g : ORow) (b : Fin 16) (s : Fin 4096) (j : Fin 1024) :
    R_main_v136 σ z g (ix3 b s j) = out x z raw cw cb bias al D g b s j := by
  rw [last_apply]
  unfold out
  refine congrArg (fun y => normed y (fun i => z (ix3 b s i)) g j) (funext fun i => ?_)
  rw [hσ, it_rows x raw cw cb bias al D 32 le_rfl _ (by show s.val / 128 < 32; omega), chan_hd]

end Cert.Ssd.Ref
-- ==== Proof.Ssd.Pass.lean ====
module

public import proofs.«01_k».proof.Proof.Gen.Reference6Ideal.Run
public import proofs.«01_k».proof.Proof.Gen.Reference6Ideal.Step
public import Idealize.ShloMosaic.Lib.Pointwise

/-! # The reference's loop, as the step iterated

The generated run says that the loop applies `STEP` to the whole memory of the program; the generated step says what one pass does to
the arrays that matter. Here the first is read as the second. -/

@[expose] public section

noncomputable section

namespace Cert.Ssd.Pass

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init)

/-- The memory `V` stands at pass `j` with the arrays of `s`. -/
structure At (V : Valuation τ sig (Elt Ideal)) (s : State Ideal) (j : ℕ) : Prop where
  added : V (Proc.devRef .tc main_v115_0) = s.main_v115_0
  decay : V (Proc.devRef .tc main_v115_1) = s.main_v115_1
  outs : V (Proc.devRef .tc main_v115_2) = s.main_v115_2
  reach : V (Proc.devRef .tc main_v115_3) = s.main_v115_3
  local' : V (Proc.devRef .tc main_v115_4) = s.main_v115_4
  count : V (Proc.devRef .tc main_v115_5) = constantI S_ 32 (BitVec.ofNat 32 j)
  carry : V (Proc.devRef .tc main_v115_6) = s.main_v115_6
  rows : V (Proc.devRef .tc main_v115_7) = s.main_v115_7

variable {V : Valuation τ sig (Elt Ideal)} {s : State Ideal} {j : ℕ}

set_option maxRecDepth 8192 in
theorem carry_step (h : At V s j) : step_main_v115_6 V = (step j s).main_v115_6 := by
  unfold step_main_v115_6
  rw [h.added, h.decay, h.count, h.carry]
  rfl

set_option maxRecDepth 8192 in
theorem rows_step (h : At V s j) : step_main_v115_7 V = (step j s).main_v115_7 := by
  unfold step_main_v115_7
  rw [h.outs, h.reach, h.local', h.count, h.carry, h.rows]
  rfl

theorem count_step (h : At V s j) : step_main_v115_5 V = constantI S_ 32 (BitVec.ofNat 32 (j + 1)) := by
  unfold step_main_v115_5
  rw [h.count]
  funext i
  show BitVec.ofNat 32 j + 1#32 = BitVec.ofNat 32 (j + 1)
  simp only [BitVec.ofNat_add]

/-- One pass. -/
theorem pass (h : At V s j) : At (STEP V) (step j s) (j + 1) :=
  ⟨(STEP_main_v115_0 V).trans h.added, (STEP_main_v115_1 V).trans h.decay, (STEP_main_v115_2 V).trans h.outs,
    (STEP_main_v115_3 V).trans h.reach, (STEP_main_v115_4 V).trans h.local', (STEP_main_v115_5 V).trans (count_step h),
    (STEP_main_v115_6 V).trans (carry_step h), (STEP_main_v115_7 V).trans (rows_step h)⟩

variable (m : (ℓ : Loc nD τ sig) → Buf (Elt Ideal) ℓ) (c : Dev nD)

/-- The arrays the loop starts from. -/
abbrev start : State Ideal :=
  init (m (c.tc.loc main_arg0)) (m (c.tc.loc main_arg2)) (m (c.tc.loc main_arg3)) (m (c.tc.loc main_arg4)) (m (c.tc.loc main_arg5))
    (m (c.tc.loc main_arg6)) (m (c.tc.loc main_arg7))

set_option maxRecDepth 65536 in
set_option maxHeartbeats 2000000 in
theorem entry : At (entryContents preI m c) (start m c) 0 := by
  constructor <;> (simp only [entryContents, afterL_cons, afterL_nil]; after_reads_simp) <;> rfl

theorem passes (it : ℕ → State Ideal) (h0 : it 0 = start m c) (hs : ∀ n, it (n + 1) = step n (it n)) (k : ℕ) :
    At (STEP^[k] (entryContents preI m c)) (it k) k := by
  induction k with
  | zero => rw [h0]; exact entry m c
  | succ k ih => rw [Function.iterate_succ_apply', hs k]; exact pass ih

theorem shown (h : At V s j) {z : Vec Ideal S16x4096x1024 .f32} {g : Vec Ideal S1x1024 .f32} (hz : V (Proc.devRef .tc main_arg1) = z)
    (hg : V (Proc.devRef .tc main_arg8) = g) : out_main_v136 V = Cert.Reference6Ideal.Step.R_main_v136 s z g := by
  unfold out_main_v136
  rw [h.rows, hz, hg]
  rfl

end Cert.Ssd.Pass
-- ==== Proof.Ssd.Equal.lean ====
module

public import proofs.«01_k».proof.Proof.Ssd.Fold
public import proofs.«01_k».proof.Proof.Ssd.Loop
public import proofs.«01_k».proof.Proof.Ssd.Pass

/-! # The selective state space layer: the kernel's array is the reference's -/

@[expose] public section

noncomputable section

namespace Cert.Ssd.Equal

open Idealize.ShloMosaic Idealize.SL.Sem

set_option maxRecDepth 16384

/-- Running the reference leaves its result at the last state. -/
theorem reference_run (m : (ℓ : Loc Cert.Reference6Ideal.nD Cert.Reference6Ideal.τ Cert.Reference6Ideal.sig) → Buf (Elt Ideal) ℓ) (c : Dev Cert.Reference6Ideal.nD) (b : Fin 16) (s : Fin 4096) (j : Fin 1024) :
    Cert.Reference6Ideal.Value.out_main_v136 (Cert.Reference6Ideal.Value.STEP^[32]
        (Idealize.ShloMosaic.StableHlo.entryContents Cert.Reference6Ideal.Value.preI m c)) (ValueIdx.ix3 b s j)
      = out (m (c.tc.loc Cert.Reference6Ideal.main_arg0)) (m (c.tc.loc Cert.Reference6Ideal.main_arg1)) (m (c.tc.loc Cert.Reference6Ideal.main_arg2))
        (m (c.tc.loc Cert.Reference6Ideal.main_arg3)) (m (c.tc.loc Cert.Reference6Ideal.main_arg4)) (m (c.tc.loc Cert.Reference6Ideal.main_arg5))
        (m (c.tc.loc Cert.Reference6Ideal.main_arg6)) (m (c.tc.loc Cert.Reference6Ideal.main_arg7)) (m (c.tc.loc Cert.Reference6Ideal.main_arg8)) b s j := by
  have h := Pass.passes m c (Ref.it (m (c.tc.loc Cert.Reference6Ideal.main_arg0)) (m (c.tc.loc Cert.Reference6Ideal.main_arg2)) (m (c.tc.loc Cert.Reference6Ideal.main_arg3)) (m (c.tc.loc Cert.Reference6Ideal.main_arg4)) (m (c.tc.loc Cert.Reference6Ideal.main_arg5)) (m (c.tc.loc Cert.Reference6Ideal.main_arg6)) (m (c.tc.loc Cert.Reference6Ideal.main_arg7)))
    rfl (fun _ => rfl) 32
  rw [Pass.shown h (Cert.Reference6Ideal.Value.iter_main_arg1 m c 32) (Cert.Reference6Ideal.Value.iter_main_arg8 m c 32)]
  exact Ref.result_apply _ _ _ _ _ _ _ _ rfl _ _ _ _ _

/-- On equal arguments the reference's result is what the kernel's blocks make up. -/
theorem equal (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ)
    (c : Dev Cert.Kernel6Ideal.nD)
    (a0 : m' (c.tc.loc Cert.Reference6Ideal.main_arg0) = m (c.tc.loc Cert.Kernel6Ideal.main_arg0))
    (a1 : m' (c.tc.loc Cert.Reference6Ideal.main_arg1) = m (c.tc.loc Cert.Kernel6Ideal.main_arg1))
    (a2 : m' (c.tc.loc Cert.Reference6Ideal.main_arg2) = m (c.tc.loc Cert.Kernel6Ideal.main_arg2))
    (a3 : m' (c.tc.loc Cert.Reference6Ideal.main_arg3) = m (c.tc.loc Cert.Kernel6Ideal.main_arg3))
    (a4 : m' (c.tc.loc Cert.Reference6Ideal.main_arg4) = m (c.tc.loc Cert.Kernel6Ideal.main_arg4))
    (a5 : m' (c.tc.loc Cert.Reference6Ideal.main_arg5) = m (c.tc.loc Cert.Kernel6Ideal.main_arg5))
    (a6 : m' (c.tc.loc Cert.Reference6Ideal.main_arg6) = m (c.tc.loc Cert.Kernel6Ideal.main_arg6))
    (a7 : m' (c.tc.loc Cert.Reference6Ideal.main_arg7) = m (c.tc.loc Cert.Kernel6Ideal.main_arg7))
    (a8 : m' (c.tc.loc Cert.Reference6Ideal.main_arg8) = m (c.tc.loc Cert.Kernel6Ideal.main_arg8)) :
    Cert.Reference6Ideal.Value.out_main_v136 (Cert.Reference6Ideal.Value.STEP^[32]
        (Idealize.ShloMosaic.StableHlo.entryContents Cert.Reference6Ideal.Value.preI m' c)) = (Cert.Kernel6Ideal.Gen.dats m 0 c).arrAt 9 Cert.Kernel6Ideal.cfg0.N := by
  rw [Ker.final m c]
  funext i
  obtain ⟨b, s, j, rfl⟩ : ∃ b s j, i = ValueIdx.ix3 b s j := ⟨i 0, i 1, i 2, ValueIdx.eq_ix3 i⟩
  refine (reference_run m' c b s j).trans ?_
  rw [a0, a1, a2, a3, a4, a5, a6, a7, a8]
  rfl

end Cert.Ssd.Equal
-- ==== Proof.Layer.Spec.lean ====
/- The rest of a layer as plain mathematics, one row at a time: the root-mean-square norm, the feed-forward part with squared
   positive parts, the gated embedding, and the three residual sums. -/
module

public import proofs.«01_k».proof.Proof.Lru.Math
public import Idealize.ShloMosaic.Lib.Pointwise

@[expose] public section

noncomputable section

namespace Cert.Layer

open Idealize.ShloMosaic

/-- The square norm's mean plus the small constant, under the reciprocal root. -/
def scale (v : Fin 1024 → EReal) : EReal :=
  Ideal.rsqrt (Ideal.div (∑ k, v k * v k) (Ideal.ofBits .f32 0x44800000#32) + Ideal.ofBits .f32 0x358637BD#32)

/-- The norm of a row, with a gain. -/
def norm (v g : Fin 1024 → EReal) (j : Fin 1024) : EReal := v j * scale v * g j

/-- A row times a matrix. -/
def lin {n p : ℕ} (v : Fin n → EReal) (w : Fin n → Fin p → EReal) (j : Fin p) : EReal := ∑ k, v k * w k j

/-- The squared positive part. -/
def relu2 (x : EReal) : EReal := max x 0 * max x 0

/-- The feed-forward part. -/
def ffn (v : Fin 1024 → EReal) (w1 : Fin 1024 → Fin 4096 → EReal) (w2 : Fin 4096 → Fin 1024 → EReal) : Fin 1024 → EReal :=
  lin (fun k => relu2 (lin v w1 k)) w2

/-- After the mixers. -/
def h1 (h mix gpost : Fin 1024 → EReal) (j : Fin 1024) : EReal := h j + norm mix gpost j

/-- After the feed-forward part. -/
def h2 (h : Fin 1024 → EReal) (gpre : Fin 1024 → EReal) (w1 : Fin 1024 → Fin 4096 → EReal) (w2 : Fin 4096 → Fin 1024 → EReal)
    (gmlp : Fin 1024 → EReal) (j : Fin 1024) : EReal :=
  h j + norm (ffn (norm h gpre) w1 w2) gmlp j

/-- The gated embedding. -/
def emb (h : Fin 1024 → EReal) (p : Fin 256 → EReal) (wg : Fin 1024 → Fin 1024 → EReal) (wp : Fin 256 → Fin 1024 → EReal)
    (j : Fin 1024) : EReal :=
  Lru.sgm (lin h wg j) * lin p wp j

/-- After the embedding. -/
def h3 (h : Fin 1024 → EReal) (p : Fin 256 → EReal) (wg : Fin 1024 → Fin 1024 → EReal) (wp : Fin 256 → Fin 1024 → EReal)
    (gple : Fin 1024 → EReal) (j : Fin 1024) : EReal :=
  h j + norm (emb h p wg wp) gple j

/-- A layer from the mixers' outputs on. -/
def out (h mix gpost gpre : Fin 1024 → EReal) (w1 : Fin 1024 → Fin 4096 → EReal) (w2 : Fin 4096 → Fin 1024 → EReal)
    (gmlp : Fin 1024 → EReal) (p : Fin 256 → EReal) (wg : Fin 1024 → Fin 1024 → EReal) (wp : Fin 256 → Fin 1024 → EReal)
    (gple : Fin 1024 → EReal) : Fin 1024 → EReal :=
  h3 (h2 (h1 h mix gpost) gpre w1 w2 gmlp) p wg wp gple

/-- A sum over 4096 in four parts, one after another. -/
theorem sum_four (f : Fin 4096 → EReal) :
    (∑ k : Fin 1024, f ⟨k.val, by omega⟩) + (∑ k : Fin 1024, f ⟨1024 + k.val, by omega⟩) + (∑ k : Fin 1024, f ⟨2048 + k.val, by omega⟩)
      + (∑ k : Fin 1024, f ⟨3072 + k.val, by omega⟩) = ∑ k, f k := by
  rw [← Equiv.sum_comp (finProdFinEquiv : Fin 4 × Fin 1024 ≃ Fin 4096) f, Fintype.sum_prod_type, Fin.sum_univ_four]
  refine congrArg₂ (· + ·) (congrArg₂ (· + ·) (congrArg₂ (· + ·) ?_ ?_) ?_) ?_ <;>
    exact Finset.sum_congr rfl fun k _ => congrArg f (Fin.ext (by simp [finProdFinEquiv] <;> omega))

/-- The feed-forward part a quarter of the hidden channels at a time. -/
theorem ffn_quarters (v : Fin 1024 → EReal) (w1 : Fin 1024 → Fin 4096 → EReal) (w2 : Fin 4096 → Fin 1024 → EReal) (j : Fin 1024) :
    (∑ k : Fin 1024, relu2 (lin v (fun i (k : Fin 1024) => w1 i ⟨k.val, by omega⟩) k) * w2 ⟨k.val, by omega⟩ j)
      + (∑ k : Fin 1024, relu2 (lin v (fun i (k : Fin 1024) => w1 i ⟨1024 + k.val, by omega⟩) k) * w2 ⟨1024 + k.val, by omega⟩ j)
      + (∑ k : Fin 1024, relu2 (lin v (fun i (k : Fin 1024) => w1 i ⟨2048 + k.val, by omega⟩) k) * w2 ⟨2048 + k.val, by omega⟩ j)
      + (∑ k : Fin 1024, relu2 (lin v (fun i (k : Fin 1024) => w1 i ⟨3072 + k.val, by omega⟩) k) * w2 ⟨3072 + k.val, by omega⟩ j)
    = ffn v w1 w2 j :=
  sum_four fun k => relu2 (lin v w1 k) * w2 k j

/-- A sum in two parts. -/
theorem sum_two (a b : ℕ) (f : Fin (a + b) → EReal) :
    (∑ k : Fin a, f ⟨k.val, by omega⟩) + (∑ k : Fin b, f ⟨a + k.val, by omega⟩) = ∑ k, f k :=
  (Fin.sum_univ_add f).symm

end Cert.Layer

end
-- ==== Proof.Layer.OddTile.lean ====
/- One tile of 512 rows of the odd layer, entry by entry. -/
module

public import proofs.«01_k».proof.Proof.Layer.Spec
public import proofs.«01_k».proof.Proof.Gen.Kernel2Ideal.Frame

@[expose] public section

noncomputable section

namespace Cert.Layer.Odd

open Idealize Idealize.ShloMosaic
open Cert.Kernel2Ideal Cert.Kernel2Ideal.Gen

set_option maxRecDepth 100000

/-- After the mixers. -/
theorem mixed (v0 : Vec Ideal S512x1024 .bf16) (v2 : Vec Ideal S1024x1024 .bf16) (v7 : Vec Ideal S512x512 .bf16) (v9 : Vec Ideal S512x1024 .bf16)
    (v13 : Vec Ideal S512x1024 .f32) (v17 : Vec Ideal S1x1024 .f32) (r : Fin 512) (j : Fin 1024) :
    k0_pay3 v0 v2 v7 v9 v13 v17 (ix2 r j)
      = h1 (fun j => v13 (ix2 r j)) (fun j => lin (fun k => v0 (ix2 r k)) (fun k j => v2 (ix2 k j)) j + lin (fun k => v7 (ix2 r k)) (fun k j => v9 (ix2 k j)) j)
          (fun j => v17 (ix2 0 j)) j := by
  unfold_payloads
  pointwise []
  rfl

/-- The row sums of squares. -/
theorem squares (v0 : Vec Ideal S512x1024 .bf16) (v2 : Vec Ideal S1024x1024 .bf16) (v7 : Vec Ideal S512x512 .bf16) (v9 : Vec Ideal S512x1024 .bf16)
    (v13 : Vec Ideal S512x1024 .f32) (v17 : Vec Ideal S1x1024 .f32) (r : Fin 512) :
    k0_pay5 v0 v2 v7 v9 v13 v17 (ix1 r)
      = ∑ k : Fin 1024, k0_pay3 v0 v2 v7 v9 v13 v17 (ix2 r k) * k0_pay3 v0 v2 v7 v9 v13 v17 (ix2 r k) := by
  unfold k0_pay5
  generalize k0_pay3 v0 v2 v7 v9 v13 v17 = X
  pointwise []

/-- The norm before the feed-forward part. -/
theorem normed (X : FVec Ideal S512x1024 .f32) (g : FVec Ideal S1x1024 .f32) (q : FVec Ideal S512 .f32) (r : Fin 512) (j : Fin 1024)
    (hq : q (ix1 r) = ∑ k : Fin 1024, X (ix2 r k) * X (ix2 r k)) :
    k0_pay6 X g q (ix2 r j) = norm (fun j => X (ix2 r j)) (fun j => g (ix2 0 j)) j := by
  unfold_payloads
  pointwise []
  rw [hq]
  rfl

/-- The feed-forward part's first half. -/
theorem half (X : FVec Ideal S512x1024 .f32) (g : FVec Ideal S1x1024 .f32) (q : FVec Ideal S512 .f32) (a b c d : Vec Ideal S1024x1024 .bf16)
    (r : Fin 512) (j : Fin 1024) :
    k0_pay7 X g q a b c d (ix2 r j)
      = (∑ k : Fin 1024, relu2 (lin (fun i => k0_pay6 X g q (ix2 r i)) (fun i k => a (ix2 i k)) k) * b (ix2 k j))
        + (∑ k : Fin 1024, relu2 (lin (fun i => k0_pay6 X g q (ix2 r i)) (fun i k => c (ix2 i k)) k) * d (ix2 k j)) := by
  unfold k0_pay7
  generalize k0_pay6 X g q = N
  pointwise []
  rfl

/-- The third part's positive parts. -/
theorem third (X : FVec Ideal S512x1024 .f32) (g : FVec Ideal S1x1024 .f32) (q : FVec Ideal S512 .f32) (a : Vec Ideal S1024x1024 .bf16)
    (r : Fin 512) (j : Fin 1024) :
    k0_pay8 X g q a (ix2 r j) = max (lin (fun i => k0_pay6 X g q (ix2 r i)) (fun i k => a (ix2 i k)) j) 0 := by
  unfold k0_pay8
  generalize k0_pay6 X g q = N
  pointwise []
  rfl

/-- After the feed-forward part. -/
theorem fed (X : FVec Ideal S512x1024 .f32) (N : FVec Ideal S512x1024 .bf16) (A Q : FVec Ideal S512x1024 .f32)
    (a b c : Vec Ideal S1024x1024 .bf16) (g : Vec Ideal S1x1024 .f32) (r : Fin 512) (j : Fin 1024) :
    k0_pay9 X N A Q a b c g (ix2 r j)
      = X (ix2 r j) + norm (fun j => A (ix2 r j) + (∑ k : Fin 1024, (Q (ix2 r k) * Q (ix2 r k)) * a (ix2 k j))
          + (∑ k : Fin 1024, relu2 (lin (fun i => N (ix2 r i)) (fun i k => b (ix2 i k)) k) * c (ix2 k j))) (fun j => g (ix2 0 j)) j := by
  unfold k0_pay9
  pointwise []
  rfl

/-- The gate's exponential. -/
theorem gated (X : FVec Ideal S512x1024 .f32) (N : FVec Ideal S512x1024 .bf16) (A Q : FVec Ideal S512x1024 .f32)
    (a b c : Vec Ideal S1024x1024 .bf16) (g : Vec Ideal S1x1024 .f32) (w : Vec Ideal S1024x1024 .bf16) (r : Fin 512) (j : Fin 1024) :
    k0_pay10 X N A Q a b c g w (ix2 r j)
      = Ideal.exp (-(lin (fun i => k0_pay9 X N A Q a b c g (ix2 r i)) (fun i k => w (ix2 i k)) j)) := by
  unfold k0_pay10
  generalize k0_pay9 X N A Q a b c g = Y
  pointwise []
  rw [zero_sub]
  rfl

/-- After the embedding. -/
theorem embedded (p : FVec Ideal S512x256 .f32) (H E O : FVec Ideal S512x1024 .f32) (wp : Vec Ideal S256x1024 .bf16) (g : Vec Ideal S1x1024 .f32)
    (r : Fin 512) (j : Fin 1024) :
    k0_pay1 p H E O wp g (ix2 r j)
      = H (ix2 r j) + norm (fun j => Ideal.div 1 (O (ix2 r j) + E (ix2 r j)) * lin (fun k => p (ix2 r k)) (fun k j => wp (ix2 k j)) j)
          (fun j => g (ix2 0 j)) j := by
  unfold k0_pay1
  pointwise []
  rfl

/-- The constant one. -/
theorem ones (r : Fin 512) (j : Fin 1024) : (k0_pay11 (F := Ideal)) (ix2 r j) = 1 := by
  unfold k0_pay11
  pointwise []

end Cert.Layer.Odd

end
-- ==== Proof.Layer.OddBlocks.lean ====
/- The blocks the odd layer's kernel reads, as entries of the launched arrays. -/
module

public import proofs.«01_k».proof.Proof.Layer.OddTile
public import proofs.«01_k».proof.Proof.Gen.Kernel2Ideal.Value
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.Odd

open Idealize Idealize.ShloMosaic
open Cert.Kernel2Ideal Cert.Kernel2Ideal.Gen

set_option maxRecDepth 100000

variable (m : (ℓ : Loc nD τ sig) → Buf (Elt Ideal) ℓ)

/-- Where the windows of rows stand: at tile `t`. -/
theorem idx_rows : ∀ t : Fin cfg0.N, (win0_0.index t = ![t.val, 0] ∧ win0_1.index t = ![t.val, 0])
    ∧ (win0_2.index t = ![t.val, 0] ∧ win0_3.index t = ![t.val, 0]) ∧ win0_14.index t = ![t.val, 0] := by decide +kernel

/-- The weight windows stand at the origin. -/
theorem idx_w : ∀ t : Fin cfg0.N, (win0_4.index t = ![0, 0] ∧ win0_5.index t = ![0, 0] ∧ win0_6.index t = ![0, 0] ∧ win0_7.index t = ![0, 0])
    ∧ (win0_8.index t = ![0, 0] ∧ win0_9.index t = ![0, 0] ∧ win0_10.index t = ![0, 0])
    ∧ (win0_11.index t = ![0, 0] ∧ win0_12.index t = ![0, 0] ∧ win0_13.index t = ![0, 0]) := by decide +kernel

theorem tlt (t : Fin cfg0.N) : t.val < 128 := lt_of_lt_of_eq t.isLt N_0

/-- The sequence of row `r` of tile `t`. -/
def sq (t : Fin cfg0.N) (r : Fin 512) : Fin 16 := ⟨(t.val * 512 + r.val) / 4096, by have := tlt t; omega⟩

/-- Its place in the sequence. -/
def st (t : Fin cfg0.N) (r : Fin 512) : Fin 4096 := ⟨(t.val * 512 + r.val) % 4096, by omega⟩

theorem blk_h (c : Dev nD) (t : Fin cfg0.N) (r : Fin 512) (j : Fin 1024) :
    iblk m c 0 t (ix2 r j) = m (c.tc.loc main_arg0) (ix3 (sq t r) (st t r) j) := by
  have := tlt t
  rw [show iblk m c 0 t (ix2 r j) = V m c main_v0 (ix2 ⟨t.val * 512 + r.val, by omega⟩ j) from by blk_ext [iblk, (idx_rows t).1.1]]
  entry_read
  pointwise []
  rfl

theorem blk_p (c : Dev nD) (t : Fin cfg0.N) (r : Fin 512) (j : Fin 256) :
    iblk m c 1 t (ix2 r j) = m (c.tc.loc main_arg1) (ix4 1 (sq t r) (st t r) j) := by
  have := tlt t
  rw [show iblk m c 1 t (ix2 r j) = V m c main_v3 (ix2 ⟨t.val * 512 + r.val, by omega⟩ j) from by blk_ext [iblk, (idx_rows t).1.2]]
  entry_read
  pointwise []
  rfl

theorem blk_y (c : Dev nD) (t : Fin cfg0.N) (r : Fin 512) (j : Fin 1024) :
    iblk m c 2 t (ix2 r j) = m (c.tc.loc main_arg2) (ix3 (sq t r) (st t r) j) := by
  have := tlt t
  rw [show iblk m c 2 t (ix2 r j) = V m c main_v4 (ix2 ⟨t.val * 512 + r.val, by omega⟩ j) from by blk_ext [iblk, (idx_rows t).2.1.1]]
  entry_read
  pointwise []
  rfl

theorem blk_z (c : Dev nD) (t : Fin cfg0.N) (r : Fin 512) (j : Fin 512) :
    iblk m c 3 t (ix2 r j) = m (c.tc.loc main_arg3) (ix3 (sq t r) (st t r) j) := by
  have := tlt t
  rw [show iblk m c 3 t (ix2 r j) = V m c main_v5 (ix2 ⟨t.val * 512 + r.val, by omega⟩ j) from by blk_ext [iblk, (idx_rows t).2.1.2]]
  entry_read
  pointwise []
  rfl

theorem blk_wy (c : Dev nD) (t : Fin cfg0.N) (k : Fin 1024) (j : Fin 1024) :
    iblk m c 4 t (ix2 k j) = m (c.tc.loc main_arg4) (ix3 0 ⟨k.val, by omega⟩ j) := by
  rw [show iblk m c 4 t (ix2 k j) = V m c main_v24 (ix2 k j) from by blk_ext [iblk, (idx_w t).1.1]]
  entry_read
  pointwise []

theorem blk_wz (c : Dev nD) (t : Fin cfg0.N) (k : Fin 512) (j : Fin 1024) :
    iblk m c 5 t (ix2 k j) = m (c.tc.loc main_arg4) (ix3 0 ⟨1024 + k.val, by omega⟩ j) := by
  rw [show iblk m c 5 t (ix2 k j) = V m c main_v26 (ix2 k j) from by blk_ext [iblk, (idx_w t).1.2.1]]
  entry_read
  pointwise []

theorem blk_gpost (c : Dev nD) (t : Fin cfg0.N) (j : Fin 1024) : iblk m c 6 t (ix2 0 j) = m (c.tc.loc main_arg5) (ix2 1 j) := by
  rw [show iblk m c 6 t (ix2 0 j) = V m c main_v27 (ix2 0 j) from by blk_ext [iblk, (idx_w t).1.2.2.1]]
  entry_read
  pointwise []

theorem blk_gpre (c : Dev nD) (t : Fin cfg0.N) (j : Fin 1024) : iblk m c 7 t (ix2 0 j) = m (c.tc.loc main_arg6) (ix2 1 j) := by
  rw [show iblk m c 7 t (ix2 0 j) = V m c main_v28 (ix2 0 j) from by blk_ext [iblk, (idx_w t).1.2.2.2]]
  entry_read
  pointwise []

theorem blk_w1 (c : Dev nD) (t : Fin cfg0.N) (k : Fin 1024) (j : Fin 4096) :
    iblk m c 8 t (ix2 k j) = m (c.tc.loc main_arg7) (ix3 1 k j) := by
  rw [show iblk m c 8 t (ix2 k j) = V m c main_v29 (ix2 k j) from by blk_ext [iblk, (idx_w t).2.1.1]]
  entry_read
  pointwise []

theorem blk_w2 (c : Dev nD) (t : Fin cfg0.N) (k : Fin 4096) (j : Fin 1024) :
    iblk m c 9 t (ix2 k j) = m (c.tc.loc main_arg8) (ix3 1 k j) := by
  rw [show iblk m c 9 t (ix2 k j) = V m c main_v30 (ix2 k j) from by blk_ext [iblk, (idx_w t).2.1.2.1]]
  entry_read
  pointwise []

theorem blk_gmlp (c : Dev nD) (t : Fin cfg0.N) (j : Fin 1024) : iblk m c 10 t (ix2 0 j) = m (c.tc.loc main_arg9) (ix2 1 j) := by
  rw [show iblk m c 10 t (ix2 0 j) = V m c main_v31 (ix2 0 j) from by blk_ext [iblk, (idx_w t).2.1.2.2]]
  entry_read
  pointwise []

theorem blk_wg (c : Dev nD) (t : Fin cfg0.N) (k : Fin 1024) (j : Fin 1024) :
    iblk m c 11 t (ix2 k j) = m (c.tc.loc main_arg10) (ix3 1 k j) := by
  rw [show iblk m c 11 t (ix2 k j) = V m c main_v32 (ix2 k j) from by blk_ext [iblk, (idx_w t).2.2.1]]
  entry_read
  pointwise []

theorem blk_wp (c : Dev nD) (t : Fin cfg0.N) (k : Fin 256) (j : Fin 1024) :
    iblk m c 12 t (ix2 k j) = m (c.tc.loc main_arg11) (ix3 1 k j) := by
  rw [show iblk m c 12 t (ix2 k j) = V m c main_v33 (ix2 k j) from by blk_ext [iblk, (idx_w t).2.2.2.1]]
  entry_read
  pointwise []

theorem blk_gple (c : Dev nD) (t : Fin cfg0.N) (j : Fin 1024) : iblk m c 13 t (ix2 0 j) = m (c.tc.loc main_arg12) (ix2 1 j) := by
  rw [show iblk m c 13 t (ix2 0 j) = V m c main_v34 (ix2 0 j) from by blk_ext [iblk, (idx_w t).2.2.2.2]]
  entry_read
  pointwise []

end Cert.Layer.Odd

end
-- ==== Proof.Layer.OddPoint.lean ====
/- What one point of the odd layer's grid computes: each of its 512 rows is the layer of that row. -/
module

public import proofs.«01_k».proof.Proof.Layer.OddTile
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.Odd

open Idealize Idealize.ShloMosaic
open Cert.Kernel2Ideal Cert.Kernel2Ideal.Gen

set_option maxRecDepth 100000

section Loaded

variable (h : Vec Ideal S512x1024 .f32) (p : Vec Ideal S512x256 .f32) (y : Vec Ideal S512x1024 .bf16) (z : Vec Ideal S512x512 .bf16)
  (wy : Vec Ideal S1024x1024 .bf16) (wz : Vec Ideal S512x1024 .bf16) (gpost gpre : Vec Ideal S1x1024 .f32)
  (w1 : Vec Ideal S1024x4096 .bf16) (w2 : Vec Ideal S4096x1024 .bf16)
  (gmlp : Vec Ideal S1x1024 .f32) (wg : Vec Ideal S1024x1024 .bf16) (wp : Vec Ideal S256x1024 .bf16) (gple : Vec Ideal S1x1024 .f32)

/-- A row after the mixers. -/
theorem row_mixed (r : Fin 512) :
    (fun j => k0_pay3 y wy z wz h gpost (ix2 r j))
      = h1 (fun j => h (ix2 r j)) (fun j => lin (fun k => y (ix2 r k)) (fun k j => wy (ix2 k j)) j + lin (fun k => z (ix2 r k)) (fun k j => wz (ix2 k j)) j)
          (fun j => gpost (ix2 0 j)) :=
  funext fun j => mixed y wy z wz h gpost r j

/-- A row of the norm before the feed-forward part. -/
theorem row_normed (r : Fin 512) :
    (fun j => k0_pay6 (k0_pay3 y wy z wz h gpost) (k0_pay4 gpre) (k0_pay5 y wy z wz h gpost) (ix2 r j))
      = norm (fun j => k0_pay3 y wy z wz h gpost (ix2 r j)) (fun j => gpre (ix2 0 j)) := by
  funext j
  refine (normed _ _ _ r j (squares y wy z wz h gpost r)).trans ?_
  refine congrArg (fun g => norm _ g j) (funext fun j => ?_)
  pointwise [k0_pay4]

/-- The feed-forward part of a row, from the four quarters of its weights. -/
theorem row_fed (X : FVec Ideal S512x1024 .f32) (g : FVec Ideal S1x1024 .f32) (q : FVec Ideal S512 .f32)
    (a1 a2 a3 a4 b1 b2 b3 b4 : Vec Ideal S1024x1024 .bf16)
    (ha1 : ∀ i k : Fin 1024, a1 (ix2 i k) = w1 (ix2 i ⟨k.val, by omega⟩)) (ha2 : ∀ i k : Fin 1024, a2 (ix2 i k) = w1 (ix2 i ⟨1024 + k.val, by omega⟩))
    (ha3 : ∀ i k : Fin 1024, a3 (ix2 i k) = w1 (ix2 i ⟨2048 + k.val, by omega⟩)) (ha4 : ∀ i k : Fin 1024, a4 (ix2 i k) = w1 (ix2 i ⟨3072 + k.val, by omega⟩))
    (hb1 : ∀ k j : Fin 1024, b1 (ix2 k j) = w2 (ix2 ⟨k.val, by omega⟩ j)) (hb2 : ∀ k j : Fin 1024, b2 (ix2 k j) = w2 (ix2 ⟨1024 + k.val, by omega⟩ j))
    (hb3 : ∀ k j : Fin 1024, b3 (ix2 k j) = w2 (ix2 ⟨2048 + k.val, by omega⟩ j)) (hb4 : ∀ k j : Fin 1024, b4 (ix2 k j) = w2 (ix2 ⟨3072 + k.val, by omega⟩ j))
    (r : Fin 512) :
    (fun j => k0_pay9 X (k0_pay6 X g q) (k0_pay7 X g q a1 b1 a2 b2) (k0_pay8 X g q a3) b3 a4 b4 gmlp (ix2 r j))
      = fun j => X (ix2 r j) + norm (ffn (fun j => k0_pay6 X g q (ix2 r j)) (fun i k => w1 (ix2 i k)) (fun k j => w2 (ix2 k j))) (fun j => gmlp (ix2 0 j)) j := by
  funext j
  rw [fed]
  refine congrArg (X (ix2 r j) + ·) (congrArg (fun f => norm f _ j) (funext fun j => ?_))
  simp only [half, third]
  rw [← ffn_quarters]
  simp only [ha1, ha2, ha3, ha4, hb1, hb2, hb3, hb4]
  rfl

/-- A row of what one point writes. -/
theorem row_out (r : Fin 512) (j : Fin 1024) :
    out0_14 h p y z wy wz gpost gpre w1 w2 gmlp wg wp gple (ix2 r j)
      = out (fun j => h (ix2 r j))
          (fun j => lin (fun k => y (ix2 r k)) (fun k j => wy (ix2 k j)) j + lin (fun k => z (ix2 r k)) (fun k j => wz (ix2 k j)) j)
          (fun j => gpost (ix2 0 j)) (fun j => gpre (ix2 0 j)) (fun i k => w1 (ix2 i k)) (fun k j => w2 (ix2 k j)) (fun j => gmlp (ix2 0 j))
          (fun k => p (ix2 r k)) (fun i k => wg (ix2 i k)) (fun k j => wp (ix2 k j)) (fun j => gple (ix2 0 j)) j := by
  unfold_out out0_14
  frame_out
  rw [embedded]
  have hf := row_fed w1 w2 gmlp (k0_pay3 y wy z wz h gpost) (k0_pay4 gpre) (k0_pay5 y wy z wz h gpost)
    (View.ld w1 (Rect.unit (s := S1024x4096) ![0, 0] S1024x1024.size inb_S1024x4096_S1024x1024_0_0))
    (View.ld w1 (Rect.unit (s := S1024x4096) ![0, 1024] S1024x1024.size inb_S1024x4096_S1024x1024_0_1024))
    (View.ld w1 (Rect.unit (s := S1024x4096) ![0, 2048] S1024x1024.size inb_S1024x4096_S1024x1024_0_2048))
    (View.ld w1 (Rect.unit (s := S1024x4096) ![0, 3072] S1024x1024.size inb_S1024x4096_S1024x1024_0_3072))
    (View.ld w2 (Rect.unit (s := S4096x1024) ![0, 0] S1024x1024.size inb_S4096x1024_S1024x1024_0_0))
    (View.ld w2 (Rect.unit (s := S4096x1024) ![1024, 0] S1024x1024.size inb_S4096x1024_S1024x1024_1024_0))
    (View.ld w2 (Rect.unit (s := S4096x1024) ![2048, 0] S1024x1024.size inb_S4096x1024_S1024x1024_2048_0))
    (View.ld w2 (Rect.unit (s := S4096x1024) ![3072, 0] S1024x1024.size inb_S4096x1024_S1024x1024_3072_0))
    (fun i k => by pointwise []) (fun i k => by pointwise []) (fun i k => by pointwise []) (fun i k => by pointwise [])
    (fun i k => by pointwise []) (fun i k => by pointwise []) (fun i k => by pointwise []) (fun i k => by pointwise []) r
  have hp : (fun k => k0_pay2 p (ix2 r k)) = fun k => p (ix2 r k) := funext fun k => by pointwise [k0_pay2]
  have key : ∀ (Y : FVec Ideal S512x1024 .f32) (H : Fin 1024 → EReal), (fun j => Y (ix2 r j)) = H →
      Y (ix2 r j) + norm (fun j => Ideal.div 1 (1 + Ideal.exp (-(lin (fun i => Y (ix2 r i)) (fun i k => wg (ix2 i k)) j)))
          * lin (fun k => k0_pay2 p (ix2 r k)) (fun k j => wp (ix2 k j)) j) (fun j => gple (ix2 0 j)) j
        = h3 H (fun k => p (ix2 r k)) (fun i k => wg (ix2 i k)) (fun k j => wp (ix2 k j)) (fun j => gple (ix2 0 j)) j := by
    intro Y H hY
    rw [hp, ← hY]
    rfl
  simp only [gated, ones]
  refine key _ _ (hf.trans ?_)
  rw [row_normed, ← row_mixed]
  rfl

end Loaded

end Cert.Layer.Odd

end
-- ==== Proof.Layer.OddRow.lean ====
/- The odd layer from the mixers' outputs on, row by row, as a function of the launched arrays. -/
module

public import proofs.«01_k».proof.Proof.Layer.Spec

@[expose] public section

noncomputable section

namespace Cert.Layer.Odd

open Idealize.ShloMosaic

/-- An array of the given extents, with extended real entries. -/
abbrev Arr (n : ℕ) (d : Fin n → ℕ) : Type := (⟨n, d⟩ : Shape).Idx → EReal

/-- The mixers' outputs times the output weights. -/
def mix (y : Arr 3 ![16, 4096, 1024]) (z : Arr 3 ![16, 4096, 512]) (w : Arr 3 ![1, 1536, 1024]) (b : Fin 16) (s : Fin 4096) (j : Fin 1024) : EReal :=
  lin (fun k : Fin 1024 => y (ix3 b s k)) (fun k j => w (ix3 0 ⟨k.val, by omega⟩ j)) j
    + lin (fun k : Fin 512 => z (ix3 b s k)) (fun k j => w (ix3 0 ⟨1024 + k.val, by omega⟩ j)) j

variable (h : Arr 3 ![16, 4096, 1024]) (p : Arr 4 ![2, 16, 4096, 256]) (y : Arr 3 ![16, 4096, 1024]) (z : Arr 3 ![16, 4096, 512])
  (w : Arr 3 ![1, 1536, 1024]) (gpost gpre : Arr 2 ![2, 1024]) (w1 : Arr 3 ![2, 1024, 4096]) (w2 : Arr 3 ![2, 4096, 1024])
  (gmlp : Arr 2 ![2, 1024]) (wg : Arr 3 ![2, 1024, 1024]) (wp : Arr 3 ![2, 256, 1024]) (gple : Arr 2 ![2, 1024])

/-- A row after the mixers. -/
def row1 (b : Fin 16) (s : Fin 4096) : Fin 1024 → EReal :=
  h1 (fun j => h (ix3 b s j)) (mix y z w b s) (fun j => gpost (ix2 1 j))

/-- A row after the feed-forward part. -/
def row2 (b : Fin 16) (s : Fin 4096) : Fin 1024 → EReal :=
  h2 (row1 h y z w gpost b s) (fun j => gpre (ix2 1 j)) (fun i k => w1 (ix3 1 i k)) (fun k j => w2 (ix3 1 k j)) (fun j => gmlp (ix2 1 j))

/-- A row after the embedding. -/
def row3 (b : Fin 16) (s : Fin 4096) : Fin 1024 → EReal :=
  h3 (row2 h y z w gpost gpre w1 w2 gmlp b s) (fun k => p (ix4 1 b s k)) (fun i k => wg (ix3 1 i k)) (fun k j => wp (ix3 1 k j))
    (fun j => gple (ix2 1 j))

end Cert.Layer.Odd

end
-- ==== Proof.Layer.OddFinal.lean ====
/- The array the odd layer's kernel leaves. -/
module

public import proofs.«01_k».proof.Proof.Layer.OddBlocks
public import proofs.«01_k».proof.Proof.Layer.OddPoint
public import proofs.«01_k».proof.Proof.Layer.OddRow

@[expose] public section

noncomputable section

namespace Cert.Layer.Odd

open Idealize Idealize.ShloMosaic
open Cert.Kernel2Ideal Cert.Kernel2Ideal.Gen

set_option maxRecDepth 100000

variable (m : (ℓ : Loc nD τ sig) → Buf (Elt Ideal) ℓ)

/-- The output array. -/
def result (c : Dev nD) : Vec Ideal S65536x1024 .f32 := fun i =>
  row3 (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12))
    ⟨(i 0).val / 4096, by have : (i 0).val < 65536 := (i 0).isLt; omega⟩ ⟨(i 0).val % 4096, by omega⟩ (i 1)

/-- What one point writes, over the launched arrays. -/
theorem point_row (c : Dev nD) (t : Fin cfg0.N) (r : Fin 512) (j : Fin 1024) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 r j)
      = row3 (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (sq t r) (st t r) j := by
  refine (row_out _ _ _ _ _ _ _ _ _ _ _ _ _ _ r j).trans ?_
  rw [funext fun j => blk_h m c t r j, funext fun j => blk_p m c t r j, funext fun j => blk_y m c t r j, funext fun j => blk_z m c t r j,
    funext fun k => funext fun j => blk_wy m c t k j, funext fun k => funext fun j => blk_wz m c t k j,
    funext fun j => blk_gpost m c t j, funext fun j => blk_gpre m c t j, funext fun k => funext fun j => blk_w1 m c t k j,
    funext fun k => funext fun j => blk_w2 m c t k j, funext fun j => blk_gmlp m c t j, funext fun k => funext fun j => blk_wg m c t k j,
    funext fun k => funext fun j => blk_wp m c t k j, funext fun j => blk_gple m c t j]
  rfl

/-- The blocks written back make it up. -/
theorem final (c : Dev nD) : (dats m 0 c).arrAt 14 cfg0.N = result m c := by
  refine (dats m 0 c).arrAt_eq_of_covers 14 _ (by decide +kernel) fun t hf y => ?_
  blk_simp
  rw [after0_14]
  have h0 : (y 0).val < 512 := (y 0).isLt
  have h1 : (y 1).val < 1024 := (y 1).isLt
  have hy : (y : S512x1024.Idx) = ix2 ⟨(y 0).val, h0⟩ ⟨(y 1).val, h1⟩ := by
    funext a
    match a with
    | ⟨0, _⟩ => rfl
    | ⟨1, _⟩ => rfl
  have he : ((win0_14.blk t).view.emb y : S65536x1024.Idx)
      = ix2 ⟨t.val * 512 + (y 0).val, by have := tlt t; omega⟩ ⟨(y 1).val, h1⟩ := by
    have hi := (idx_rows t).2.2
    funext a
    match a with
    | ⟨0, _⟩ =>
      refine Fin.ext ?_
      show win0_14.index t 0 * 512 + 1 * (y 0).val = t.val * 512 + (y 0).val
      rw [hi]; show t.val * 512 + 1 * (y 0).val = t.val * 512 + (y 0).val
      omega
    | ⟨1, _⟩ =>
      refine Fin.ext ?_
      show win0_14.index t 1 * 1024 + 1 * (y 1).val = (y 1).val
      rw [hi]; show 0 * 1024 + 1 * (y 1).val = (y 1).val
      omega
  rw [he]
  refine (congrArg _ hy).trans ?_
  exact point_row m c t ⟨(y 0).val, h0⟩ ⟨(y 1).val, h1⟩

end Cert.Layer.Odd

end
-- ==== Proof.Layer.OddRef.lean ====
/- The odd layer's reference, row by row. -/
module

public import proofs.«01_k».proof.Proof.Layer.OddRow
public import proofs.«01_k».proof.Proof.Gen.Reference2Ideal.Run
public import Idealize.ShloMosaic.Lib.Pointwise

@[expose] public section

set_option maxRecDepth 16384

noncomputable section

namespace Cert.Layer.Odd.Ref

open Idealize.ShloMosaic Idealize.ShloMosaic.StableHlo Cert.Reference2Ideal Cert.Reference2Ideal.Gen Cert.Reference2Ideal.Value

variable (V : Valuation τ sig (Elt Ideal))

/-- The mixers' outputs times the output weights. -/
theorem mix_apply (b : Fin 16) (s : Fin 4096) (j : Fin 1024) :
    res_main_v4 V (ix3 b s j) = mix (V (Proc.devRef .tc main_arg2)) (V (Proc.devRef .tc main_arg3)) (V (Proc.devRef .tc main_arg4)) b s j := by
  pointwise [res_main_v4]
  rfl

theorem row1_apply (b : Fin 16) (s : Fin 4096) (j : Fin 1024) :
    res_main_v20 V (ix3 b s j) = row1 (V (Proc.devRef .tc main_arg0)) (V (Proc.devRef .tc main_arg2)) (V (Proc.devRef .tc main_arg3))
      (V (Proc.devRef .tc main_arg4)) (V (Proc.devRef .tc main_arg5)) b s j := by
  pointwise [res_main_v20, mix_apply]
  rfl

theorem relu_apply (b : Fin 16) (s : Fin 4096) (k : Fin 4096) :
    res_main_v39 V (ix3 b s k) = max (lin (norm (fun j => res_main_v20 V (ix3 b s j)) (fun j => V (Proc.devRef .tc main_arg6) (ix2 1 j)))
      (fun i k => V (Proc.devRef .tc main_arg7) (ix3 1 i k)) k) 0 := by
  unfold res_main_v39
  generalize res_main_v20 V = X
  pointwise []
  rfl

theorem ffn_apply (b : Fin 16) (s : Fin 4096) (j : Fin 1024) :
    res_main_v43 V (ix3 b s j) = ffn (norm (fun j => res_main_v20 V (ix3 b s j)) (fun j => V (Proc.devRef .tc main_arg6) (ix2 1 j)))
      (fun i k => V (Proc.devRef .tc main_arg7) (ix3 1 i k)) (fun k j => V (Proc.devRef .tc main_arg8) (ix3 1 k j)) j := by
  pointwise [res_main_v43, relu_apply]
  rfl

theorem row2_apply (b : Fin 16) (s : Fin 4096) (j : Fin 1024) :
    res_main_v59 V (ix3 b s j) = row2 (V (Proc.devRef .tc main_arg0)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) b s j := by
  pointwise [res_main_v59, ffn_apply]
  simp only [row1_apply]
  rfl

theorem emb_apply (b : Fin 16) (s : Fin 4096) (j : Fin 1024) :
    res_main_v74 V (ix3 b s j) = emb (fun j => res_main_v59 V (ix3 b s j)) (fun k => V (Proc.devRef .tc main_arg1) (ix4 1 b s k))
      (fun i k => V (Proc.devRef .tc main_arg10) (ix3 1 i k)) (fun k j => V (Proc.devRef .tc main_arg11) (ix3 1 k j)) j := by
  unfold res_main_v74
  generalize res_main_v59 V = X
  pointwise []
  rfl

/-- The reference's result, from the last intermediate arrays. -/
def last : Vec Ideal S65536x1024 .f32 :=
  shapeCast S65536x1024 (addf (res_main_v59 V) (mulf (mulf (res_main_v74 V) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (res_main_v74 V) (res_main_v74 V)) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ (extractStridedSlice S1x1024 ![1, 0] (V (Proc.devRef .tc main_arg12)) slices_S2x1024_S1x1024_1_0) shapeCasts_S1x1024_S1024))))) shapeCasts_S16x4096x1024_S65536x1024

theorem last_apply (n : Fin 65536) (j : Fin 1024) :
    last V (ix2 n j) = row3 (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))
      (V (Proc.devRef .tc main_arg12)) ⟨n.val / 4096, by omega⟩ ⟨n.val % 4096, by omega⟩ j := by
  pointwise [last, emb_apply]
  simp only [row2_apply]
  rfl

end Cert.Layer.Odd.Ref

end
-- ==== Proof.Layer.OddEqual.lean ====
/- The odd layer: the kernel's array is the reference's. -/
module

public import proofs.«01_k».proof.Proof.Layer.OddFinal
public import proofs.«01_k».proof.Proof.Layer.OddRef

@[expose] public section

noncomputable section

namespace Cert.Layer.Odd

open Idealize.ShloMosaic Idealize.SL.Sem

set_option maxRecDepth 16384

/-- On equal arguments the reference's result is what the kernel's blocks make up. -/
theorem equal (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ)
    (c : Dev Cert.Kernel2Ideal.nD)
    (a0 : m' (c.tc.loc Cert.Reference2Ideal.main_arg0) = m (c.tc.loc Cert.Kernel2Ideal.main_arg0))
    (a1 : m' (c.tc.loc Cert.Reference2Ideal.main_arg1) = m (c.tc.loc Cert.Kernel2Ideal.main_arg1))
    (a2 : m' (c.tc.loc Cert.Reference2Ideal.main_arg2) = m (c.tc.loc Cert.Kernel2Ideal.main_arg2))
    (a3 : m' (c.tc.loc Cert.Reference2Ideal.main_arg3) = m (c.tc.loc Cert.Kernel2Ideal.main_arg3))
    (a4 : m' (c.tc.loc Cert.Reference2Ideal.main_arg4) = m (c.tc.loc Cert.Kernel2Ideal.main_arg4))
    (a5 : m' (c.tc.loc Cert.Reference2Ideal.main_arg5) = m (c.tc.loc Cert.Kernel2Ideal.main_arg5))
    (a6 : m' (c.tc.loc Cert.Reference2Ideal.main_arg6) = m (c.tc.loc Cert.Kernel2Ideal.main_arg6))
    (a7 : m' (c.tc.loc Cert.Reference2Ideal.main_arg7) = m (c.tc.loc Cert.Kernel2Ideal.main_arg7))
    (a8 : m' (c.tc.loc Cert.Reference2Ideal.main_arg8) = m (c.tc.loc Cert.Kernel2Ideal.main_arg8))
    (a9 : m' (c.tc.loc Cert.Reference2Ideal.main_arg9) = m (c.tc.loc Cert.Kernel2Ideal.main_arg9))
    (a10 : m' (c.tc.loc Cert.Reference2Ideal.main_arg10) = m (c.tc.loc Cert.Kernel2Ideal.main_arg10))
    (a11 : m' (c.tc.loc Cert.Reference2Ideal.main_arg11) = m (c.tc.loc Cert.Kernel2Ideal.main_arg11))
    (a12 : m' (c.tc.loc Cert.Reference2Ideal.main_arg12) = m (c.tc.loc Cert.Kernel2Ideal.main_arg12)) :
    Ref.last (StableHlo.launchContents m' c) = (Cert.Kernel2Ideal.Gen.dats m 0 c).arrAt 14 Cert.Kernel2Ideal.cfg0.N := by
  rw [final m c]
  funext i
  obtain ⟨n, j, rfl⟩ : ∃ n j, i = ValueIdx.ix2 n j := ⟨i 0, i 1, ValueIdx.eq_ix2 i⟩
  refine (Ref.last_apply (StableHlo.launchContents m' c) n j).trans ?_
  show row3 (m' (c.tc.loc Cert.Reference2Ideal.main_arg0)) (m' (c.tc.loc Cert.Reference2Ideal.main_arg1)) (m' (c.tc.loc Cert.Reference2Ideal.main_arg2))
    (m' (c.tc.loc Cert.Reference2Ideal.main_arg3)) (m' (c.tc.loc Cert.Reference2Ideal.main_arg4)) (m' (c.tc.loc Cert.Reference2Ideal.main_arg5))
    (m' (c.tc.loc Cert.Reference2Ideal.main_arg6)) (m' (c.tc.loc Cert.Reference2Ideal.main_arg7)) (m' (c.tc.loc Cert.Reference2Ideal.main_arg8))
    (m' (c.tc.loc Cert.Reference2Ideal.main_arg9)) (m' (c.tc.loc Cert.Reference2Ideal.main_arg10)) (m' (c.tc.loc Cert.Reference2Ideal.main_arg11))
    (m' (c.tc.loc Cert.Reference2Ideal.main_arg12)) _ _ j = _
  rw [a0, a1, a2, a3, a4, a5, a6, a7, a8, a9, a10, a11, a12]
  rfl

end Cert.Layer.Odd

end
-- ==== Proof.Layer.EvenTile.lean ====
/- One tile of 512 rows of the even layer, entry by entry. -/
module

public import proofs.«01_k».proof.Proof.Layer.Spec
public import proofs.«01_k».proof.Proof.Gen.Kernel3Ideal.Frame

@[expose] public section

noncomputable section

namespace Cert.Layer.Even

open Idealize Idealize.ShloMosaic
open Cert.Kernel3Ideal Cert.Kernel3Ideal.Gen

set_option maxRecDepth 100000

/-- After the mixers. -/
theorem mixed (v0 : Vec Ideal S512x512 .bf16) (v2 : Vec Ideal S512x1024 .bf16) (v7 : Vec Ideal S512x512 .bf16) (v9 : Vec Ideal S512x1024 .bf16)
    (v13 : Vec Ideal S512x1024 .f32) (v17 : Vec Ideal S1x1024 .f32) (r : Fin 512) (j : Fin 1024) :
    k0_pay3 v0 v2 v7 v9 v13 v17 (ix2 r j)
      = h1 (fun j => v13 (ix2 r j)) (fun j => lin (fun k => v0 (ix2 r k)) (fun k j => v2 (ix2 k j)) j + lin (fun k => v7 (ix2 r k)) (fun k j => v9 (ix2 k j)) j)
          (fun j => v17 (ix2 0 j)) j := by
  unfold_payloads
  pointwise []
  rfl

/-- The row sums of squares. -/
theorem squares (v0 : Vec Ideal S512x512 .bf16) (v2 : Vec Ideal S512x1024 .bf16) (v7 : Vec Ideal S512x512 .bf16) (v9 : Vec Ideal S512x1024 .bf16)
    (v13 : Vec Ideal S512x1024 .f32) (v17 : Vec Ideal S1x1024 .f32) (r : Fin 512) :
    k0_pay5 v0 v2 v7 v9 v13 v17 (ix1 r)
      = ∑ k : Fin 1024, k0_pay3 v0 v2 v7 v9 v13 v17 (ix2 r k) * k0_pay3 v0 v2 v7 v9 v13 v17 (ix2 r k) := by
  unfold k0_pay5
  generalize k0_pay3 v0 v2 v7 v9 v13 v17 = X
  pointwise []

/-- The norm before the feed-forward part. -/
theorem normed (X : FVec Ideal S512x1024 .f32) (g : FVec Ideal S1x1024 .f32) (q : FVec Ideal S512 .f32) (r : Fin 512) (j : Fin 1024)
    (hq : q (ix1 r) = ∑ k : Fin 1024, X (ix2 r k) * X (ix2 r k)) :
    k0_pay6 X g q (ix2 r j) = norm (fun j => X (ix2 r j)) (fun j => g (ix2 0 j)) j := by
  unfold_payloads
  pointwise []
  rw [hq]
  rfl

/-- The feed-forward part's first half. -/
theorem half (X : FVec Ideal S512x1024 .f32) (g : FVec Ideal S1x1024 .f32) (q : FVec Ideal S512 .f32) (a b c d : Vec Ideal S1024x1024 .bf16)
    (r : Fin 512) (j : Fin 1024) :
    k0_pay7 X g q a b c d (ix2 r j)
      = (∑ k : Fin 1024, relu2 (lin (fun i => k0_pay6 X g q (ix2 r i)) (fun i k => a (ix2 i k)) k) * b (ix2 k j))
        + (∑ k : Fin 1024, relu2 (lin (fun i => k0_pay6 X g q (ix2 r i)) (fun i k => c (ix2 i k)) k) * d (ix2 k j)) := by
  unfold k0_pay7
  generalize k0_pay6 X g q = N
  pointwise []
  rfl

/-- The third part's positive parts. -/
theorem third (X : FVec Ideal S512x1024 .f32) (g : FVec Ideal S1x1024 .f32) (q : FVec Ideal S512 .f32) (a : Vec Ideal S1024x1024 .bf16)
    (r : Fin 512) (j : Fin 1024) :
    k0_pay8 X g q a (ix2 r j) = max (lin (fun i => k0_pay6 X g q (ix2 r i)) (fun i k => a (ix2 i k)) j) 0 := by
  unfold k0_pay8
  generalize k0_pay6 X g q = N
  pointwise []
  rfl

/-- After the feed-forward part. -/
theorem fed (X : FVec Ideal S512x1024 .f32) (N : FVec Ideal S512x1024 .bf16) (A Q : FVec Ideal S512x1024 .f32)
    (a b c : Vec Ideal S1024x1024 .bf16) (g : Vec Ideal S1x1024 .f32) (r : Fin 512) (j : Fin 1024) :
    k0_pay9 X N A Q a b c g (ix2 r j)
      = X (ix2 r j) + norm (fun j => A (ix2 r j) + (∑ k : Fin 1024, (Q (ix2 r k) * Q (ix2 r k)) * a (ix2 k j))
          + (∑ k : Fin 1024, relu2 (lin (fun i => N (ix2 r i)) (fun i k => b (ix2 i k)) k) * c (ix2 k j))) (fun j => g (ix2 0 j)) j := by
  unfold k0_pay9
  pointwise []
  rfl

/-- The gate's exponential. -/
theorem gated (X : FVec Ideal S512x1024 .f32) (N : FVec Ideal S512x1024 .bf16) (A Q : FVec Ideal S512x1024 .f32)
    (a b c : Vec Ideal S1024x1024 .bf16) (g : Vec Ideal S1x1024 .f32) (w : Vec Ideal S1024x1024 .bf16) (r : Fin 512) (j : Fin 1024) :
    k0_pay10 X N A Q a b c g w (ix2 r j)
      = Ideal.exp (-(lin (fun i => k0_pay9 X N A Q a b c g (ix2 r i)) (fun i k => w (ix2 i k)) j)) := by
  unfold k0_pay10
  generalize k0_pay9 X N A Q a b c g = Y
  pointwise []
  rw [zero_sub]
  rfl

/-- After the embedding. -/
theorem embedded (p : FVec Ideal S512x256 .f32) (H E O : FVec Ideal S512x1024 .f32) (wp : Vec Ideal S256x1024 .bf16) (g : Vec Ideal S1x1024 .f32)
    (r : Fin 512) (j : Fin 1024) :
    k0_pay1 p H E O wp g (ix2 r j)
      = H (ix2 r j) + norm (fun j => Ideal.div 1 (O (ix2 r j) + E (ix2 r j)) * lin (fun k => p (ix2 r k)) (fun k j => wp (ix2 k j)) j)
          (fun j => g (ix2 0 j)) j := by
  unfold k0_pay1
  pointwise []
  rfl

/-- The constant one. -/
theorem ones (r : Fin 512) (j : Fin 1024) : (k0_pay11 (F := Ideal)) (ix2 r j) = 1 := by
  unfold k0_pay11
  pointwise []

end Cert.Layer.Even

end
-- ==== Proof.Layer.EvenBlocks.lean ====
/- The blocks the even layer's kernel reads, as entries of the launched arrays. -/
module

public import proofs.«01_k».proof.Proof.Layer.EvenTile
public import proofs.«01_k».proof.Proof.Gen.Kernel3Ideal.Value
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.Even

open Idealize Idealize.ShloMosaic
open Cert.Kernel3Ideal Cert.Kernel3Ideal.Gen

set_option maxRecDepth 100000

variable (m : (ℓ : Loc nD τ sig) → Buf (Elt Ideal) ℓ)

/-- Where the windows of rows stand: at tile `t`. -/
theorem idx_rows : ∀ t : Fin cfg0.N, (win0_0.index t = ![t.val, 0] ∧ win0_1.index t = ![t.val, 0])
    ∧ (win0_2.index t = ![t.val, 0] ∧ win0_3.index t = ![t.val, 0]) ∧ win0_14.index t = ![t.val, 0] := by decide +kernel

/-- The weight windows stand at the origin. -/
theorem idx_w : ∀ t : Fin cfg0.N, (win0_4.index t = ![0, 0] ∧ win0_5.index t = ![0, 0] ∧ win0_6.index t = ![0, 0] ∧ win0_7.index t = ![0, 0])
    ∧ (win0_8.index t = ![0, 0] ∧ win0_9.index t = ![0, 0] ∧ win0_10.index t = ![0, 0])
    ∧ (win0_11.index t = ![0, 0] ∧ win0_12.index t = ![0, 0] ∧ win0_13.index t = ![0, 0]) := by decide +kernel

theorem tlt (t : Fin cfg0.N) : t.val < 128 := lt_of_lt_of_eq t.isLt N_0

/-- The sequence of row `r` of tile `t`. -/
def sq (t : Fin cfg0.N) (r : Fin 512) : Fin 16 := ⟨(t.val * 512 + r.val) / 4096, by have := tlt t; omega⟩

/-- Its place in the sequence. -/
def st (t : Fin cfg0.N) (r : Fin 512) : Fin 4096 := ⟨(t.val * 512 + r.val) % 4096, by omega⟩

theorem blk_h (c : Dev nD) (t : Fin cfg0.N) (r : Fin 512) (j : Fin 1024) :
    iblk m c 0 t (ix2 r j) = m (c.tc.loc main_arg0) (ix3 (sq t r) (st t r) j) := by
  have := tlt t
  rw [show iblk m c 0 t (ix2 r j) = V m c main_v0 (ix2 ⟨t.val * 512 + r.val, by omega⟩ j) from by blk_ext [iblk, (idx_rows t).1.1]]
  entry_read
  pointwise []
  rfl

theorem blk_p (c : Dev nD) (t : Fin cfg0.N) (r : Fin 512) (j : Fin 256) :
    iblk m c 1 t (ix2 r j) = m (c.tc.loc main_arg1) (ix4 0 (sq t r) (st t r) j) := by
  have := tlt t
  rw [show iblk m c 1 t (ix2 r j) = V m c main_v3 (ix2 ⟨t.val * 512 + r.val, by omega⟩ j) from by blk_ext [iblk, (idx_rows t).1.2]]
  entry_read
  pointwise []
  rfl

theorem blk_y (c : Dev nD) (t : Fin cfg0.N) (r : Fin 512) (j : Fin 512) :
    iblk m c 2 t (ix2 r j) = m (c.tc.loc main_arg2) (ix3 (sq t r) (st t r) j) := by
  have := tlt t
  rw [show iblk m c 2 t (ix2 r j) = V m c main_v4 (ix2 ⟨t.val * 512 + r.val, by omega⟩ j) from by blk_ext [iblk, (idx_rows t).2.1.1]]
  entry_read
  pointwise []
  rfl

theorem blk_z (c : Dev nD) (t : Fin cfg0.N) (r : Fin 512) (j : Fin 512) :
    iblk m c 3 t (ix2 r j) = m (c.tc.loc main_arg3) (ix3 (sq t r) (st t r) j) := by
  have := tlt t
  rw [show iblk m c 3 t (ix2 r j) = V m c main_v5 (ix2 ⟨t.val * 512 + r.val, by omega⟩ j) from by blk_ext [iblk, (idx_rows t).2.1.2]]
  entry_read
  pointwise []
  rfl

theorem blk_wy (c : Dev nD) (t : Fin cfg0.N) (k : Fin 512) (j : Fin 1024) :
    iblk m c 4 t (ix2 k j) = m (c.tc.loc main_arg4) (ix3 0 ⟨k.val, by omega⟩ j) := by
  rw [show iblk m c 4 t (ix2 k j) = V m c main_v24 (ix2 k j) from by blk_ext [iblk, (idx_w t).1.1]]
  entry_read
  pointwise []

theorem blk_wz (c : Dev nD) (t : Fin cfg0.N) (k : Fin 512) (j : Fin 1024) :
    iblk m c 5 t (ix2 k j) = m (c.tc.loc main_arg4) (ix3 0 ⟨512 + k.val, by omega⟩ j) := by
  rw [show iblk m c 5 t (ix2 k j) = V m c main_v26 (ix2 k j) from by blk_ext [iblk, (idx_w t).1.2.1]]
  entry_read
  pointwise []

theorem blk_gpost (c : Dev nD) (t : Fin cfg0.N) (j : Fin 1024) : iblk m c 6 t (ix2 0 j) = m (c.tc.loc main_arg5) (ix2 0 j) := by
  rw [show iblk m c 6 t (ix2 0 j) = V m c main_v27 (ix2 0 j) from by blk_ext [iblk, (idx_w t).1.2.2.1]]
  entry_read
  pointwise []

theorem blk_gpre (c : Dev nD) (t : Fin cfg0.N) (j : Fin 1024) : iblk m c 7 t (ix2 0 j) = m (c.tc.loc main_arg6) (ix2 0 j) := by
  rw [show iblk m c 7 t (ix2 0 j) = V m c main_v28 (ix2 0 j) from by blk_ext [iblk, (idx_w t).1.2.2.2]]
  entry_read
  pointwise []

theorem blk_w1 (c : Dev nD) (t : Fin cfg0.N) (k : Fin 1024) (j : Fin 4096) :
    iblk m c 8 t (ix2 k j) = m (c.tc.loc main_arg7) (ix3 0 k j) := by
  rw [show iblk m c 8 t (ix2 k j) = V m c main_v29 (ix2 k j) from by blk_ext [iblk, (idx_w t).2.1.1]]
  entry_read
  pointwise []

theorem blk_w2 (c : Dev nD) (t : Fin cfg0.N) (k : Fin 4096) (j : Fin 1024) :
    iblk m c 9 t (ix2 k j) = m (c.tc.loc main_arg8) (ix3 0 k j) := by
  rw [show iblk m c 9 t (ix2 k j) = V m c main_v30 (ix2 k j) from by blk_ext [iblk, (idx_w t).2.1.2.1]]
  entry_read
  pointwise []

theorem blk_gmlp (c : Dev nD) (t : Fin cfg0.N) (j : Fin 1024) : iblk m c 10 t (ix2 0 j) = m (c.tc.loc main_arg9) (ix2 0 j) := by
  rw [show iblk m c 10 t (ix2 0 j) = V m c main_v31 (ix2 0 j) from by blk_ext [iblk, (idx_w t).2.1.2.2]]
  entry_read
  pointwise []

theorem blk_wg (c : Dev nD) (t : Fin cfg0.N) (k : Fin 1024) (j : Fin 1024) :
    iblk m c 11 t (ix2 k j) = m (c.tc.loc main_arg10) (ix3 0 k j) := by
  rw [show iblk m c 11 t (ix2 k j) = V m c main_v32 (ix2 k j) from by blk_ext [iblk, (idx_w t).2.2.1]]
  entry_read
  pointwise []

theorem blk_wp (c : Dev nD) (t : Fin cfg0.N) (k : Fin 256) (j : Fin 1024) :
    iblk m c 12 t (ix2 k j) = m (c.tc.loc main_arg11) (ix3 0 k j) := by
  rw [show iblk m c 12 t (ix2 k j) = V m c main_v33 (ix2 k j) from by blk_ext [iblk, (idx_w t).2.2.2.1]]
  entry_read
  pointwise []

theorem blk_gple (c : Dev nD) (t : Fin cfg0.N) (j : Fin 1024) : iblk m c 13 t (ix2 0 j) = m (c.tc.loc main_arg12) (ix2 0 j) := by
  rw [show iblk m c 13 t (ix2 0 j) = V m c main_v34 (ix2 0 j) from by blk_ext [iblk, (idx_w t).2.2.2.2]]
  entry_read
  pointwise []

end Cert.Layer.Even

end
-- ==== Proof.Layer.EvenPoint.lean ====
/- What one point of the even layer's grid computes: each of its 512 rows is the layer of that row. -/
module

public import proofs.«01_k».proof.Proof.Layer.EvenTile
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.Even

open Idealize Idealize.ShloMosaic
open Cert.Kernel3Ideal Cert.Kernel3Ideal.Gen

set_option maxRecDepth 100000

section Loaded

variable (h : Vec Ideal S512x1024 .f32) (p : Vec Ideal S512x256 .f32) (y : Vec Ideal S512x512 .bf16) (z : Vec Ideal S512x512 .bf16)
  (wy : Vec Ideal S512x1024 .bf16) (wz : Vec Ideal S512x1024 .bf16) (gpost gpre : Vec Ideal S1x1024 .f32)
  (w1 : Vec Ideal S1024x4096 .bf16) (w2 : Vec Ideal S4096x1024 .bf16)
  (gmlp : Vec Ideal S1x1024 .f32) (wg : Vec Ideal S1024x1024 .bf16) (wp : Vec Ideal S256x1024 .bf16) (gple : Vec Ideal S1x1024 .f32)

/-- A row after the mixers. -/
theorem row_mixed (r : Fin 512) :
    (fun j => k0_pay3 y wy z wz h gpost (ix2 r j))
      = h1 (fun j => h (ix2 r j)) (fun j => lin (fun k => y (ix2 r k)) (fun k j => wy (ix2 k j)) j + lin (fun k => z (ix2 r k)) (fun k j => wz (ix2 k j)) j)
          (fun j => gpost (ix2 0 j)) :=
  funext fun j => mixed y wy z wz h gpost r j

/-- A row of the norm before the feed-forward part. -/
theorem row_normed (r : Fin 512) :
    (fun j => k0_pay6 (k0_pay3 y wy z wz h gpost) (k0_pay4 gpre) (k0_pay5 y wy z wz h gpost) (ix2 r j))
      = norm (fun j => k0_pay3 y wy z wz h gpost (ix2 r j)) (fun j => gpre (ix2 0 j)) := by
  funext j
  refine (normed _ _ _ r j (squares y wy z wz h gpost r)).trans ?_
  refine congrArg (fun g => norm _ g j) (funext fun j => ?_)
  pointwise [k0_pay4]

/-- The feed-forward part of a row, from the four quarters of its weights. -/
theorem row_fed (X : FVec Ideal S512x1024 .f32) (g : FVec Ideal S1x1024 .f32) (q : FVec Ideal S512 .f32)
    (a1 a2 a3 a4 b1 b2 b3 b4 : Vec Ideal S1024x1024 .bf16)
    (ha1 : ∀ i k : Fin 1024, a1 (ix2 i k) = w1 (ix2 i ⟨k.val, by omega⟩)) (ha2 : ∀ i k : Fin 1024, a2 (ix2 i k) = w1 (ix2 i ⟨1024 + k.val, by omega⟩))
    (ha3 : ∀ i k : Fin 1024, a3 (ix2 i k) = w1 (ix2 i ⟨2048 + k.val, by omega⟩)) (ha4 : ∀ i k : Fin 1024, a4 (ix2 i k) = w1 (ix2 i ⟨3072 + k.val, by omega⟩))
    (hb1 : ∀ k j : Fin 1024, b1 (ix2 k j) = w2 (ix2 ⟨k.val, by omega⟩ j)) (hb2 : ∀ k j : Fin 1024, b2 (ix2 k j) = w2 (ix2 ⟨1024 + k.val, by omega⟩ j))
    (hb3 : ∀ k j : Fin 1024, b3 (ix2 k j) = w2 (ix2 ⟨2048 + k.val, by omega⟩ j)) (hb4 : ∀ k j : Fin 1024, b4 (ix2 k j) = w2 (ix2 ⟨3072 + k.val, by omega⟩ j))
    (r : Fin 512) :
    (fun j => k0_pay9 X (k0_pay6 X g q) (k0_pay7 X g q a1 b1 a2 b2) (k0_pay8 X g q a3) b3 a4 b4 gmlp (ix2 r j))
      = fun j => X (ix2 r j) + norm (ffn (fun j => k0_pay6 X g q (ix2 r j)) (fun i k => w1 (ix2 i k)) (fun k j => w2 (ix2 k j))) (fun j => gmlp (ix2 0 j)) j := by
  funext j
  rw [fed]
  refine congrArg (X (ix2 r j) + ·) (congrArg (fun f => norm f _ j) (funext fun j => ?_))
  simp only [half, third]
  rw [← ffn_quarters]
  simp only [ha1, ha2, ha3, ha4, hb1, hb2, hb3, hb4]
  rfl

/-- A row of what one point writes. -/
theorem row_out (r : Fin 512) (j : Fin 1024) :
    out0_14 h p y z wy wz gpost gpre w1 w2 gmlp wg wp gple (ix2 r j)
      = out (fun j => h (ix2 r j))
          (fun j => lin (fun k => y (ix2 r k)) (fun k j => wy (ix2 k j)) j + lin (fun k => z (ix2 r k)) (fun k j => wz (ix2 k j)) j)
          (fun j => gpost (ix2 0 j)) (fun j => gpre (ix2 0 j)) (fun i k => w1 (ix2 i k)) (fun k j => w2 (ix2 k j)) (fun j => gmlp (ix2 0 j))
          (fun k => p (ix2 r k)) (fun i k => wg (ix2 i k)) (fun k j => wp (ix2 k j)) (fun j => gple (ix2 0 j)) j := by
  unfold_out out0_14
  frame_out
  rw [embedded]
  have hf := row_fed w1 w2 gmlp (k0_pay3 y wy z wz h gpost) (k0_pay4 gpre) (k0_pay5 y wy z wz h gpost)
    (View.ld w1 (Rect.unit (s := S1024x4096) ![0, 0] S1024x1024.size inb_S1024x4096_S1024x1024_0_0))
    (View.ld w1 (Rect.unit (s := S1024x4096) ![0, 1024] S1024x1024.size inb_S1024x4096_S1024x1024_0_1024))
    (View.ld w1 (Rect.unit (s := S1024x4096) ![0, 2048] S1024x1024.size inb_S1024x4096_S1024x1024_0_2048))
    (View.ld w1 (Rect.unit (s := S1024x4096) ![0, 3072] S1024x1024.size inb_S1024x4096_S1024x1024_0_3072))
    (View.ld w2 (Rect.unit (s := S4096x1024) ![0, 0] S1024x1024.size inb_S4096x1024_S1024x1024_0_0))
    (View.ld w2 (Rect.unit (s := S4096x1024) ![1024, 0] S1024x1024.size inb_S4096x1024_S1024x1024_1024_0))
    (View.ld w2 (Rect.unit (s := S4096x1024) ![2048, 0] S1024x1024.size inb_S4096x1024_S1024x1024_2048_0))
    (View.ld w2 (Rect.unit (s := S4096x1024) ![3072, 0] S1024x1024.size inb_S4096x1024_S1024x1024_3072_0))
    (fun i k => by pointwise []) (fun i k => by pointwise []) (fun i k => by pointwise []) (fun i k => by pointwise [])
    (fun i k => by pointwise []) (fun i k => by pointwise []) (fun i k => by pointwise []) (fun i k => by pointwise []) r
  have hp : (fun k => k0_pay2 p (ix2 r k)) = fun k => p (ix2 r k) := funext fun k => by pointwise [k0_pay2]
  have key : ∀ (Y : FVec Ideal S512x1024 .f32) (H : Fin 1024 → EReal), (fun j => Y (ix2 r j)) = H →
      Y (ix2 r j) + norm (fun j => Ideal.div 1 (1 + Ideal.exp (-(lin (fun i => Y (ix2 r i)) (fun i k => wg (ix2 i k)) j)))
          * lin (fun k => k0_pay2 p (ix2 r k)) (fun k j => wp (ix2 k j)) j) (fun j => gple (ix2 0 j)) j
        = h3 H (fun k => p (ix2 r k)) (fun i k => wg (ix2 i k)) (fun k j => wp (ix2 k j)) (fun j => gple (ix2 0 j)) j := by
    intro Y H hY
    rw [hp, ← hY]
    rfl
  simp only [gated, ones]
  refine key _ _ (hf.trans ?_)
  rw [row_normed, ← row_mixed]
  rfl

end Loaded

end Cert.Layer.Even

end
-- ==== Proof.Layer.EvenRow.lean ====
/- The even layer from the mixers' outputs on, row by row, as a function of the launched arrays. -/
module

public import proofs.«01_k».proof.Proof.Layer.Spec

@[expose] public section

noncomputable section

namespace Cert.Layer.Even

open Idealize.ShloMosaic

/-- An array of the given extents, with extended real entries. -/
abbrev Arr (n : ℕ) (d : Fin n → ℕ) : Type := (⟨n, d⟩ : Shape).Idx → EReal

/-- The mixers' outputs times the output weights. -/
def mix (y : Arr 3 ![16, 4096, 512]) (z : Arr 3 ![16, 4096, 512]) (w : Arr 3 ![1, 1024, 1024]) (b : Fin 16) (s : Fin 4096) (j : Fin 1024) : EReal :=
  lin (fun k : Fin 512 => y (ix3 b s k)) (fun k j => w (ix3 0 ⟨k.val, by omega⟩ j)) j
    + lin (fun k : Fin 512 => z (ix3 b s k)) (fun k j => w (ix3 0 ⟨512 + k.val, by omega⟩ j)) j

variable (h : Arr 3 ![16, 4096, 1024]) (p : Arr 4 ![2, 16, 4096, 256]) (y : Arr 3 ![16, 4096, 512]) (z : Arr 3 ![16, 4096, 512])
  (w : Arr 3 ![1, 1024, 1024]) (gpost gpre : Arr 2 ![2, 1024]) (w1 : Arr 3 ![2, 1024, 4096]) (w2 : Arr 3 ![2, 4096, 1024])
  (gmlp : Arr 2 ![2, 1024]) (wg : Arr 3 ![2, 1024, 1024]) (wp : Arr 3 ![2, 256, 1024]) (gple : Arr 2 ![2, 1024])

/-- A row after the mixers. -/
def row1 (b : Fin 16) (s : Fin 4096) : Fin 1024 → EReal :=
  h1 (fun j => h (ix3 b s j)) (mix y z w b s) (fun j => gpost (ix2 0 j))

/-- A row after the feed-forward part. -/
def row2 (b : Fin 16) (s : Fin 4096) : Fin 1024 → EReal :=
  h2 (row1 h y z w gpost b s) (fun j => gpre (ix2 0 j)) (fun i k => w1 (ix3 0 i k)) (fun k j => w2 (ix3 0 k j)) (fun j => gmlp (ix2 0 j))

/-- A row after the embedding. -/
def row3 (b : Fin 16) (s : Fin 4096) : Fin 1024 → EReal :=
  h3 (row2 h y z w gpost gpre w1 w2 gmlp b s) (fun k => p (ix4 0 b s k)) (fun i k => wg (ix3 0 i k)) (fun k j => wp (ix3 0 k j))
    (fun j => gple (ix2 0 j))

end Cert.Layer.Even

end
-- ==== Proof.Layer.EvenFinal.lean ====
/- The array the even layer's kernel leaves. -/
module

public import proofs.«01_k».proof.Proof.Layer.EvenBlocks
public import proofs.«01_k».proof.Proof.Layer.EvenPoint
public import proofs.«01_k».proof.Proof.Layer.EvenRow

@[expose] public section

noncomputable section

namespace Cert.Layer.Even

open Idealize Idealize.ShloMosaic
open Cert.Kernel3Ideal Cert.Kernel3Ideal.Gen

set_option maxRecDepth 100000

variable (m : (ℓ : Loc nD τ sig) → Buf (Elt Ideal) ℓ)

/-- The output array. -/
def result (c : Dev nD) : Vec Ideal S65536x1024 .f32 := fun i =>
  row3 (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12))
    ⟨(i 0).val / 4096, by have : (i 0).val < 65536 := (i 0).isLt; omega⟩ ⟨(i 0).val % 4096, by omega⟩ (i 1)

/-- What one point writes, over the launched arrays. -/
theorem point_row (c : Dev nD) (t : Fin cfg0.N) (r : Fin 512) (j : Fin 1024) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 r j)
      = row3 (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12)) (sq t r) (st t r) j := by
  refine (row_out _ _ _ _ _ _ _ _ _ _ _ _ _ _ r j).trans ?_
  rw [funext fun j => blk_h m c t r j, funext fun j => blk_p m c t r j, funext fun j => blk_y m c t r j, funext fun j => blk_z m c t r j,
    funext fun k => funext fun j => blk_wy m c t k j, funext fun k => funext fun j => blk_wz m c t k j,
    funext fun j => blk_gpost m c t j, funext fun j => blk_gpre m c t j, funext fun k => funext fun j => blk_w1 m c t k j,
    funext fun k => funext fun j => blk_w2 m c t k j, funext fun j => blk_gmlp m c t j, funext fun k => funext fun j => blk_wg m c t k j,
    funext fun k => funext fun j => blk_wp m c t k j, funext fun j => blk_gple m c t j]
  rfl

/-- The blocks written back make it up. -/
theorem final (c : Dev nD) : (dats m 0 c).arrAt 14 cfg0.N = result m c := by
  refine (dats m 0 c).arrAt_eq_of_covers 14 _ (by decide +kernel) fun t hf y => ?_
  blk_simp
  rw [after0_14]
  have h0 : (y 0).val < 512 := (y 0).isLt
  have h1 : (y 1).val < 1024 := (y 1).isLt
  have hy : (y : S512x1024.Idx) = ix2 ⟨(y 0).val, h0⟩ ⟨(y 1).val, h1⟩ := by
    funext a
    match a with
    | ⟨0, _⟩ => rfl
    | ⟨1, _⟩ => rfl
  have he : ((win0_14.blk t).view.emb y : S65536x1024.Idx)
      = ix2 ⟨t.val * 512 + (y 0).val, by have := tlt t; omega⟩ ⟨(y 1).val, h1⟩ := by
    have hi := (idx_rows t).2.2
    funext a
    match a with
    | ⟨0, _⟩ =>
      refine Fin.ext ?_
      show win0_14.index t 0 * 512 + 1 * (y 0).val = t.val * 512 + (y 0).val
      rw [hi]; show t.val * 512 + 1 * (y 0).val = t.val * 512 + (y 0).val
      omega
    | ⟨1, _⟩ =>
      refine Fin.ext ?_
      show win0_14.index t 1 * 1024 + 1 * (y 1).val = (y 1).val
      rw [hi]; show 0 * 1024 + 1 * (y 1).val = (y 1).val
      omega
  rw [he]
  refine (congrArg _ hy).trans ?_
  exact point_row m c t ⟨(y 0).val, h0⟩ ⟨(y 1).val, h1⟩

end Cert.Layer.Even

end
-- ==== Proof.Layer.EvenRef.lean ====
/- The even layer's reference, row by row. -/
module

public import proofs.«01_k».proof.Proof.Layer.EvenRow
public import proofs.«01_k».proof.Proof.Gen.Reference3Ideal.Run
public import Idealize.ShloMosaic.Lib.Pointwise

@[expose] public section

set_option maxRecDepth 16384

noncomputable section

namespace Cert.Layer.Even.Ref

open Idealize.ShloMosaic Idealize.ShloMosaic.StableHlo Cert.Reference3Ideal Cert.Reference3Ideal.Gen Cert.Reference3Ideal.Value

variable (V : Valuation τ sig (Elt Ideal))

/-- The mixers' outputs times the output weights. -/
theorem mix_apply (b : Fin 16) (s : Fin 4096) (j : Fin 1024) :
    res_main_v4 V (ix3 b s j) = mix (V (Proc.devRef .tc main_arg2)) (V (Proc.devRef .tc main_arg3)) (V (Proc.devRef .tc main_arg4)) b s j := by
  pointwise [res_main_v4]
  rfl

theorem row1_apply (b : Fin 16) (s : Fin 4096) (j : Fin 1024) :
    res_main_v20 V (ix3 b s j) = row1 (V (Proc.devRef .tc main_arg0)) (V (Proc.devRef .tc main_arg2)) (V (Proc.devRef .tc main_arg3))
      (V (Proc.devRef .tc main_arg4)) (V (Proc.devRef .tc main_arg5)) b s j := by
  pointwise [res_main_v20, mix_apply]
  rfl

theorem relu_apply (b : Fin 16) (s : Fin 4096) (k : Fin 4096) :
    res_main_v39 V (ix3 b s k) = max (lin (norm (fun j => res_main_v20 V (ix3 b s j)) (fun j => V (Proc.devRef .tc main_arg6) (ix2 0 j)))
      (fun i k => V (Proc.devRef .tc main_arg7) (ix3 0 i k)) k) 0 := by
  unfold res_main_v39
  generalize res_main_v20 V = X
  pointwise []
  rfl

theorem ffn_apply (b : Fin 16) (s : Fin 4096) (j : Fin 1024) :
    res_main_v43 V (ix3 b s j) = ffn (norm (fun j => res_main_v20 V (ix3 b s j)) (fun j => V (Proc.devRef .tc main_arg6) (ix2 0 j)))
      (fun i k => V (Proc.devRef .tc main_arg7) (ix3 0 i k)) (fun k j => V (Proc.devRef .tc main_arg8) (ix3 0 k j)) j := by
  pointwise [res_main_v43, relu_apply]
  rfl

theorem row2_apply (b : Fin 16) (s : Fin 4096) (j : Fin 1024) :
    res_main_v59 V (ix3 b s j) = row2 (V (Proc.devRef .tc main_arg0)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) b s j := by
  pointwise [res_main_v59, ffn_apply]
  simp only [row1_apply]
  rfl

theorem emb_apply (b : Fin 16) (s : Fin 4096) (j : Fin 1024) :
    res_main_v74 V (ix3 b s j) = emb (fun j => res_main_v59 V (ix3 b s j)) (fun k => V (Proc.devRef .tc main_arg1) (ix4 0 b s k))
      (fun i k => V (Proc.devRef .tc main_arg10) (ix3 0 i k)) (fun k j => V (Proc.devRef .tc main_arg11) (ix3 0 k j)) j := by
  unfold res_main_v74
  generalize res_main_v59 V = X
  pointwise []
  rfl

/-- The reference's result, from the last intermediate arrays. -/
def last : Vec Ideal S65536x1024 .f32 :=
  shapeCast S65536x1024 (addf (res_main_v59 V) (mulf (mulf (res_main_v74 V) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (res_main_v74 V) (res_main_v74 V)) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ (extractStridedSlice S1x1024 ![0, 0] (V (Proc.devRef .tc main_arg12)) slices_S2x1024_S1x1024_0_0) shapeCasts_S1x1024_S1024))))) shapeCasts_S16x4096x1024_S65536x1024

theorem last_apply (n : Fin 65536) (j : Fin 1024) :
    last V (ix2 n j) = row3 (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))
      (V (Proc.devRef .tc main_arg12)) ⟨n.val / 4096, by omega⟩ ⟨n.val % 4096, by omega⟩ j := by
  pointwise [last, emb_apply]
  simp only [row2_apply]
  rfl

end Cert.Layer.Even.Ref

end
-- ==== Proof.Layer.EvenEqual.lean ====
/- The even layer: the kernel's array is the reference's. -/
module

public import proofs.«01_k».proof.Proof.Layer.EvenFinal
public import proofs.«01_k».proof.Proof.Layer.EvenRef

@[expose] public section

noncomputable section

namespace Cert.Layer.Even

open Idealize.ShloMosaic Idealize.SL.Sem

set_option maxRecDepth 16384

/-- On equal arguments the reference's result is what the kernel's blocks make up. -/
theorem equal (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ)
    (c : Dev Cert.Kernel3Ideal.nD)
    (a0 : m' (c.tc.loc Cert.Reference3Ideal.main_arg0) = m (c.tc.loc Cert.Kernel3Ideal.main_arg0))
    (a1 : m' (c.tc.loc Cert.Reference3Ideal.main_arg1) = m (c.tc.loc Cert.Kernel3Ideal.main_arg1))
    (a2 : m' (c.tc.loc Cert.Reference3Ideal.main_arg2) = m (c.tc.loc Cert.Kernel3Ideal.main_arg2))
    (a3 : m' (c.tc.loc Cert.Reference3Ideal.main_arg3) = m (c.tc.loc Cert.Kernel3Ideal.main_arg3))
    (a4 : m' (c.tc.loc Cert.Reference3Ideal.main_arg4) = m (c.tc.loc Cert.Kernel3Ideal.main_arg4))
    (a5 : m' (c.tc.loc Cert.Reference3Ideal.main_arg5) = m (c.tc.loc Cert.Kernel3Ideal.main_arg5))
    (a6 : m' (c.tc.loc Cert.Reference3Ideal.main_arg6) = m (c.tc.loc Cert.Kernel3Ideal.main_arg6))
    (a7 : m' (c.tc.loc Cert.Reference3Ideal.main_arg7) = m (c.tc.loc Cert.Kernel3Ideal.main_arg7))
    (a8 : m' (c.tc.loc Cert.Reference3Ideal.main_arg8) = m (c.tc.loc Cert.Kernel3Ideal.main_arg8))
    (a9 : m' (c.tc.loc Cert.Reference3Ideal.main_arg9) = m (c.tc.loc Cert.Kernel3Ideal.main_arg9))
    (a10 : m' (c.tc.loc Cert.Reference3Ideal.main_arg10) = m (c.tc.loc Cert.Kernel3Ideal.main_arg10))
    (a11 : m' (c.tc.loc Cert.Reference3Ideal.main_arg11) = m (c.tc.loc Cert.Kernel3Ideal.main_arg11))
    (a12 : m' (c.tc.loc Cert.Reference3Ideal.main_arg12) = m (c.tc.loc Cert.Kernel3Ideal.main_arg12)) :
    Ref.last (StableHlo.launchContents m' c) = (Cert.Kernel3Ideal.Gen.dats m 0 c).arrAt 14 Cert.Kernel3Ideal.cfg0.N := by
  rw [final m c]
  funext i
  obtain ⟨n, j, rfl⟩ : ∃ n j, i = ValueIdx.ix2 n j := ⟨i 0, i 1, ValueIdx.eq_ix2 i⟩
  refine (Ref.last_apply (StableHlo.launchContents m' c) n j).trans ?_
  show row3 (m' (c.tc.loc Cert.Reference3Ideal.main_arg0)) (m' (c.tc.loc Cert.Reference3Ideal.main_arg1)) (m' (c.tc.loc Cert.Reference3Ideal.main_arg2))
    (m' (c.tc.loc Cert.Reference3Ideal.main_arg3)) (m' (c.tc.loc Cert.Reference3Ideal.main_arg4)) (m' (c.tc.loc Cert.Reference3Ideal.main_arg5))
    (m' (c.tc.loc Cert.Reference3Ideal.main_arg6)) (m' (c.tc.loc Cert.Reference3Ideal.main_arg7)) (m' (c.tc.loc Cert.Reference3Ideal.main_arg8))
    (m' (c.tc.loc Cert.Reference3Ideal.main_arg9)) (m' (c.tc.loc Cert.Reference3Ideal.main_arg10)) (m' (c.tc.loc Cert.Reference3Ideal.main_arg11))
    (m' (c.tc.loc Cert.Reference3Ideal.main_arg12)) _ _ j = _
  rw [a0, a1, a2, a3, a4, a5, a6, a7, a8, a9, a10, a11, a12]
  rfl

end Cert.Layer.Even

end
-- ==== Proof.Layer.ProjEvenPoint.lean ====
/- What one point of the even layer's projection writes: each of its 512 rows normed, times the weights. -/
module

public import proofs.«01_k».proof.Proof.Layer.Spec
public import proofs.«01_k».proof.Proof.Gen.Kernel4Ideal.Frame
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.ProjEven

open Idealize Idealize.ShloMosaic
open Cert.Kernel4Ideal Cert.Kernel4Ideal.Gen

set_option maxRecDepth 100000

/-- The normed rows. -/
theorem normed (x0 : Vec Ideal S512x1024 .f32) (x1 : Vec Ideal S1x1024 .f32) (r : Fin 512) (j : Fin 1024) :
    k0_pay3 x0 x1 (ix2 r j) = norm (fun j => x0 (ix2 r j)) (fun j => x1 (ix2 0 j)) j := by
  unfold_payloads
  pointwise []
  rfl

variable (x0 : Vec Ideal S512x1024 .f32) (x1 : Vec Ideal S1x1024 .f32) (x2 : Vec Ideal S1024x512 .bf16) (x3 : Vec Ideal S1024x512 .bf16) (x4 : Vec Ideal S1024x512 .bf16) (x5 : Vec Ideal S1024x512 .bf16) (x6 : Vec Ideal S1024x512 .bf16)

theorem row_a (r : Fin 512) (j : Fin 512) :
    out0_7 x0 x1 x2 x3 x4 x5 x6 (ix2 r j) = lin (norm (fun j => x0 (ix2 r j)) (fun j => x1 (ix2 0 j))) (fun k j => x2 (ix2 k j)) j := by
  unfold_out out0_7
  frame_out
  pointwise [k0_pay4, normed]
  rfl

theorem row_b (r : Fin 512) (j : Fin 512) :
    out0_8 x0 x1 x2 x3 x4 x5 x6 (ix2 r j) = lin (norm (fun j => x0 (ix2 r j)) (fun j => x1 (ix2 0 j))) (fun k j => x3 (ix2 k j)) j := by
  unfold_out out0_8
  frame_out
  pointwise [k0_pay5, normed]
  rfl

theorem row_q (r : Fin 512) (j : Fin 512) :
    out0_9 x0 x1 x2 x3 x4 x5 x6 (ix2 r j) = lin (norm (fun j => x0 (ix2 r j)) (fun j => x1 (ix2 0 j))) (fun k j => x4 (ix2 k j)) j := by
  unfold_out out0_9
  frame_out
  pointwise [k0_pay6, normed]
  rfl

theorem row_k (r : Fin 512) (j : Fin 512) :
    out0_10 x0 x1 x2 x3 x4 x5 x6 (ix2 r j) = lin (norm (fun j => x0 (ix2 r j)) (fun j => x1 (ix2 0 j))) (fun k j => x5 (ix2 k j)) j := by
  unfold_out out0_10
  frame_out
  pointwise [k0_pay1, k0_pay7, normed]
  rfl

theorem row_v (r : Fin 512) (j : Fin 512) :
    out0_11 x0 x1 x2 x3 x4 x5 x6 (ix2 r j) = lin (norm (fun j => x0 (ix2 r j)) (fun j => x1 (ix2 0 j))) (fun k j => x6 (ix2 k j)) j := by
  unfold_out out0_11
  frame_out
  pointwise [k0_pay2, normed]
  rfl

end Cert.Layer.ProjEven

end
-- ==== Proof.Layer.ProjEvenRow.lean ====
/- The norm and the input projections of the even layer, row by row, as functions of the launched arrays. -/
module

public import proofs.«01_k».proof.Proof.Layer.Spec

@[expose] public section

noncomputable section

namespace Cert.Layer.ProjEven

open Idealize.ShloMosaic

/-- An array of the given extents, with extended real entries. -/
abbrev Arr (n : ℕ) (d : Fin n → ℕ) : Type := (⟨n, d⟩ : Shape).Idx → EReal

variable (h : Arr 3 ![16, 4096, 1024]) (w : Arr 3 ![1, 1024, 2560]) (g : Arr 2 ![2, 1024])

/-- A normed row. -/
def nrow (b : Fin 16) (s : Fin 4096) : Fin 1024 → EReal := norm (fun j => h (ix3 b s j)) (fun j => g (ix2 0 j))

/-- Its projection to channel `j`. -/
def proj (b : Fin 16) (s : Fin 4096) (j : Fin 2560) : EReal := lin (nrow h g b s) (fun k j => w (ix3 0 k j)) j

end Cert.Layer.ProjEven

end
-- ==== Proof.Layer.ProjEvenFinal.lean ====
/- The arrays the even layer's projection leaves. -/
module

public import proofs.«01_k».proof.Proof.Layer.ProjEvenPoint
public import proofs.«01_k».proof.Proof.Layer.ProjEvenRow
public import proofs.«01_k».proof.Proof.Gen.Kernel4Ideal.Value
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.ProjEven

open Idealize Idealize.ShloMosaic
open Cert.Kernel4Ideal Cert.Kernel4Ideal.Gen

set_option maxRecDepth 100000

variable (m : (ℓ : Loc nD τ sig) → Buf (Elt Ideal) ℓ)

/-- Where the windows of rows stand: at tile `t`. -/
theorem idx_rows : ∀ t : Fin cfg0.N, win0_0.index t = ![t.val, 0] ∧ win0_7.index t = ![t.val, 0] ∧ win0_8.index t = ![t.val, 0] ∧ win0_9.index t = ![t.val, 0] ∧ win0_10.index t = ![t.val, 0] ∧ win0_11.index t = ![t.val, 0] := by decide +kernel

/-- The weight windows stand at the origin. -/
theorem idx_w : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] := by decide +kernel

theorem tlt (t : Fin cfg0.N) : t.val < 128 := lt_of_lt_of_eq t.isLt N_0

/-- The sequence of row `r` of tile `t`. -/
def sq (t : Fin cfg0.N) (r : Fin 512) : Fin 16 := ⟨(t.val * 512 + r.val) / 4096, by have := tlt t; omega⟩

/-- Its place in the sequence. -/
def st (t : Fin cfg0.N) (r : Fin 512) : Fin 4096 := ⟨(t.val * 512 + r.val) % 4096, by omega⟩

theorem blk_h (c : Dev nD) (t : Fin cfg0.N) (r : Fin 512) (j : Fin 1024) :
    iblk m c 0 t (ix2 r j) = m (c.tc.loc main_arg0) (ix3 (sq t r) (st t r) j) := by
  have := tlt t
  rw [show iblk m c 0 t (ix2 r j) = V m c main_v13 (ix2 ⟨t.val * 512 + r.val, by omega⟩ j) from by blk_ext [iblk, (idx_rows t).1]]
  entry_read
  pointwise []
  rfl

theorem blk_g (c : Dev nD) (t : Fin cfg0.N) (j : Fin 1024) : iblk m c 1 t (ix2 0 j) = m (c.tc.loc main_arg2) (ix2 0 j) := by
  rw [show iblk m c 1 t (ix2 0 j) = V m c main_v14 (ix2 0 j) from by blk_ext [iblk, (idx_w t).1]]
  entry_read
  pointwise []

/-- The normed row of the launched arrays. -/
theorem normed_row (c : Dev nD) (t : Fin cfg0.N) (r : Fin 512) :
    norm (fun j => iblk m c 0 t (ix2 r j)) (fun j => iblk m c 1 t (ix2 0 j))
      = nrow (m (c.tc.loc main_arg0)) (m (c.tc.loc main_arg2)) (sq t r) (st t r) := by
  rw [funext fun j => blk_h m c t r j, funext fun j => blk_g m c t j]
  rfl

theorem blk_a (c : Dev nD) (t : Fin cfg0.N) (k : Fin 1024) (j : Fin 512) :
    iblk m c 2 t (ix2 k j) = m (c.tc.loc main_arg1) (ix3 0 k ⟨0 + j.val, by omega⟩) := by
  rw [show iblk m c 2 t (ix2 k j) = V m c main_v4 (ix2 k j) from by blk_ext [iblk, (idx_w t).2.1]]
  entry_read
  pointwise []
theorem point_a (c : Dev nD) (t : Fin cfg0.N) (r : Fin 512) (j : Fin 512) :
    out0_7 (iblk m c 0 t) (iblk m c 1 t) (iblk m c 2 t) (iblk m c 3 t) (iblk m c 4 t) (iblk m c 5 t) (iblk m c 6 t) (ix2 r j) = proj (m (c.tc.loc main_arg0)) (m (c.tc.loc main_arg1)) (m (c.tc.loc main_arg2)) (sq t r) (st t r) ⟨0 + (j).val, by have : (j).val < 512 := (j).isLt; omega⟩ := by
  refine (row_a _ _ _ _ _ _ _ r j).trans ?_
  rw [normed_row, funext fun k => funext fun j => blk_a m c t k j]
  rfl

/-- Output array 0. -/
def result_a (c : Dev nD) : Vec Ideal S65536x512 .f32 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨0 + ((i 1)).val, by have : ((i 1)).val < 512 := ((i 1)).isLt; omega⟩

/-- The blocks written back make it up. -/
theorem final_a (c : Dev nD) : (dats m 0 c).arrAt 7 cfg0.N = result_a m c := by
  refine (dats m 0 c).arrAt_eq_of_covers 7 _ (by decide +kernel) fun t hf y => ?_
  blk_simp
  rw [after0_7]
  have h0 : (y 0).val < 512 := (y 0).isLt
  have h1 : (y 1).val < 512 := (y 1).isLt
  have hy : (y : S512x512.Idx) = ix2 ⟨(y 0).val, h0⟩ ⟨(y 1).val, h1⟩ := by
    funext a
    match a with
    | ⟨0, _⟩ => rfl
    | ⟨1, _⟩ => rfl
  have he : ((win0_7.blk t).view.emb y : S65536x512.Idx)
      = ix2 ⟨t.val * 512 + (y 0).val, by have := tlt t; omega⟩ ⟨(y 1).val, h1⟩ := by
    have hi := (idx_rows t).2.1
    funext a
    match a with
    | ⟨0, _⟩ =>
      refine Fin.ext ?_
      show win0_7.index t 0 * 512 + 1 * (y 0).val = t.val * 512 + (y 0).val
      rw [hi]; show t.val * 512 + 1 * (y 0).val = t.val * 512 + (y 0).val
      omega
    | ⟨1, _⟩ =>
      refine Fin.ext ?_
      show win0_7.index t 1 * 512 + 1 * (y 1).val = (y 1).val
      rw [hi]; show 0 * 512 + 1 * (y 1).val = (y 1).val
      omega
  rw [he]
  refine (congrArg _ hy).trans ?_
  exact point_a m c t ⟨(y 0).val, h0⟩ ⟨(y 1).val, h1⟩

theorem blk_b (c : Dev nD) (t : Fin cfg0.N) (k : Fin 1024) (j : Fin 512) :
    iblk m c 3 t (ix2 k j) = m (c.tc.loc main_arg1) (ix3 0 k ⟨512 + j.val, by omega⟩) := by
  rw [show iblk m c 3 t (ix2 k j) = V m c main_v6 (ix2 k j) from by blk_ext [iblk, (idx_w t).2.2.1]]
  entry_read
  pointwise []
theorem point_b (c : Dev nD) (t : Fin cfg0.N) (r : Fin 512) (j : Fin 512) :
    out0_8 (iblk m c 0 t) (iblk m c 1 t) (iblk m c 2 t) (iblk m c 3 t) (iblk m c 4 t) (iblk m c 5 t) (iblk m c 6 t) (ix2 r j) = proj (m (c.tc.loc main_arg0)) (m (c.tc.loc main_arg1)) (m (c.tc.loc main_arg2)) (sq t r) (st t r) ⟨512 + (j).val, by have : (j).val < 512 := (j).isLt; omega⟩ := by
  refine (row_b _ _ _ _ _ _ _ r j).trans ?_
  rw [normed_row, funext fun k => funext fun j => blk_b m c t k j]
  rfl

/-- Output array 1. -/
def result_b (c : Dev nD) : Vec Ideal S65536x512 .f32 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨512 + ((i 1)).val, by have : ((i 1)).val < 512 := ((i 1)).isLt; omega⟩

/-- The blocks written back make it up. -/
theorem final_b (c : Dev nD) : (dats m 0 c).arrAt 8 cfg0.N = result_b m c := by
  refine (dats m 0 c).arrAt_eq_of_covers 8 _ (by decide +kernel) fun t hf y => ?_
  blk_simp
  rw [after0_8]
  have h0 : (y 0).val < 512 := (y 0).isLt
  have h1 : (y 1).val < 512 := (y 1).isLt
  have hy : (y : S512x512.Idx) = ix2 ⟨(y 0).val, h0⟩ ⟨(y 1).val, h1⟩ := by
    funext a
    match a with
    | ⟨0, _⟩ => rfl
    | ⟨1, _⟩ => rfl
  have he : ((win0_8.blk t).view.emb y : S65536x512.Idx)
      = ix2 ⟨t.val * 512 + (y 0).val, by have := tlt t; omega⟩ ⟨(y 1).val, h1⟩ := by
    have hi := (idx_rows t).2.2.1
    funext a
    match a with
    | ⟨0, _⟩ =>
      refine Fin.ext ?_
      show win0_8.index t 0 * 512 + 1 * (y 0).val = t.val * 512 + (y 0).val
      rw [hi]; show t.val * 512 + 1 * (y 0).val = t.val * 512 + (y 0).val
      omega
    | ⟨1, _⟩ =>
      refine Fin.ext ?_
      show win0_8.index t 1 * 512 + 1 * (y 1).val = (y 1).val
      rw [hi]; show 0 * 512 + 1 * (y 1).val = (y 1).val
      omega
  rw [he]
  refine (congrArg _ hy).trans ?_
  exact point_b m c t ⟨(y 0).val, h0⟩ ⟨(y 1).val, h1⟩

theorem blk_q (c : Dev nD) (t : Fin cfg0.N) (k : Fin 1024) (j : Fin 512) :
    iblk m c 4 t (ix2 k j) = m (c.tc.loc main_arg1) (ix3 0 k ⟨1024 + j.val, by omega⟩) := by
  rw [show iblk m c 4 t (ix2 k j) = V m c main_v8 (ix2 k j) from by blk_ext [iblk, (idx_w t).2.2.2.1]]
  entry_read
  pointwise []
theorem point_q (c : Dev nD) (t : Fin cfg0.N) (r : Fin 512) (j : Fin 512) :
    out0_9 (iblk m c 0 t) (iblk m c 1 t) (iblk m c 2 t) (iblk m c 3 t) (iblk m c 4 t) (iblk m c 5 t) (iblk m c 6 t) (ix2 r j) = proj (m (c.tc.loc main_arg0)) (m (c.tc.loc main_arg1)) (m (c.tc.loc main_arg2)) (sq t r) (st t r) ⟨1024 + (j).val, by have : (j).val < 512 := (j).isLt; omega⟩ := by
  refine (row_q _ _ _ _ _ _ _ r j).trans ?_
  rw [normed_row, funext fun k => funext fun j => blk_q m c t k j]
  rfl

/-- Output array 2. -/
def result_q (c : Dev nD) : Vec Ideal S65536x512 .bf16 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨1024 + ((i 1)).val, by have : ((i 1)).val < 512 := ((i 1)).isLt; omega⟩

/-- The blocks written back make it up. -/
theorem final_q (c : Dev nD) : (dats m 0 c).arrAt 9 cfg0.N = result_q m c := by
  refine (dats m 0 c).arrAt_eq_of_covers 9 _ (by decide +kernel) fun t hf y => ?_
  blk_simp
  rw [after0_9]
  have h0 : (y 0).val < 512 := (y 0).isLt
  have h1 : (y 1).val < 512 := (y 1).isLt
  have hy : (y : S512x512.Idx) = ix2 ⟨(y 0).val, h0⟩ ⟨(y 1).val, h1⟩ := by
    funext a
    match a with
    | ⟨0, _⟩ => rfl
    | ⟨1, _⟩ => rfl
  have he : ((win0_9.blk t).view.emb y : S65536x512.Idx)
      = ix2 ⟨t.val * 512 + (y 0).val, by have := tlt t; omega⟩ ⟨(y 1).val, h1⟩ := by
    have hi := (idx_rows t).2.2.2.1
    funext a
    match a with
    | ⟨0, _⟩ =>
      refine Fin.ext ?_
      show win0_9.index t 0 * 512 + 1 * (y 0).val = t.val * 512 + (y 0).val
      rw [hi]; show t.val * 512 + 1 * (y 0).val = t.val * 512 + (y 0).val
      omega
    | ⟨1, _⟩ =>
      refine Fin.ext ?_
      show win0_9.index t 1 * 512 + 1 * (y 1).val = (y 1).val
      rw [hi]; show 0 * 512 + 1 * (y 1).val = (y 1).val
      omega
  rw [he]
  refine (congrArg _ hy).trans ?_
  exact point_q m c t ⟨(y 0).val, h0⟩ ⟨(y 1).val, h1⟩

theorem blk_k (c : Dev nD) (t : Fin cfg0.N) (k : Fin 1024) (j : Fin 512) :
    iblk m c 5 t (ix2 k j) = m (c.tc.loc main_arg1) (ix3 0 k ⟨1536 + j.val, by omega⟩) := by
  rw [show iblk m c 5 t (ix2 k j) = V m c main_v10 (ix2 k j) from by blk_ext [iblk, (idx_w t).2.2.2.2.1]]
  entry_read
  pointwise []
theorem point_k (c : Dev nD) (t : Fin cfg0.N) (r : Fin 512) (j : Fin 512) :
    out0_10 (iblk m c 0 t) (iblk m c 1 t) (iblk m c 2 t) (iblk m c 3 t) (iblk m c 4 t) (iblk m c 5 t) (iblk m c 6 t) (ix2 r j) = proj (m (c.tc.loc main_arg0)) (m (c.tc.loc main_arg1)) (m (c.tc.loc main_arg2)) (sq t r) (st t r) ⟨1536 + (j).val, by have : (j).val < 512 := (j).isLt; omega⟩ := by
  refine (row_k _ _ _ _ _ _ _ r j).trans ?_
  rw [normed_row, funext fun k => funext fun j => blk_k m c t k j]
  rfl

/-- Output array 3. -/
def result_k (c : Dev nD) : Vec Ideal S65536x512 .bf16 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨1536 + ((i 1)).val, by have : ((i 1)).val < 512 := ((i 1)).isLt; omega⟩

/-- The blocks written back make it up. -/
theorem final_k (c : Dev nD) : (dats m 0 c).arrAt 10 cfg0.N = result_k m c := by
  refine (dats m 0 c).arrAt_eq_of_covers 10 _ (by decide +kernel) fun t hf y => ?_
  blk_simp
  rw [after0_10]
  have h0 : (y 0).val < 512 := (y 0).isLt
  have h1 : (y 1).val < 512 := (y 1).isLt
  have hy : (y : S512x512.Idx) = ix2 ⟨(y 0).val, h0⟩ ⟨(y 1).val, h1⟩ := by
    funext a
    match a with
    | ⟨0, _⟩ => rfl
    | ⟨1, _⟩ => rfl
  have he : ((win0_10.blk t).view.emb y : S65536x512.Idx)
      = ix2 ⟨t.val * 512 + (y 0).val, by have := tlt t; omega⟩ ⟨(y 1).val, h1⟩ := by
    have hi := (idx_rows t).2.2.2.2.1
    funext a
    match a with
    | ⟨0, _⟩ =>
      refine Fin.ext ?_
      show win0_10.index t 0 * 512 + 1 * (y 0).val = t.val * 512 + (y 0).val
      rw [hi]; show t.val * 512 + 1 * (y 0).val = t.val * 512 + (y 0).val
      omega
    | ⟨1, _⟩ =>
      refine Fin.ext ?_
      show win0_10.index t 1 * 512 + 1 * (y 1).val = (y 1).val
      rw [hi]; show 0 * 512 + 1 * (y 1).val = (y 1).val
      omega
  rw [he]
  refine (congrArg _ hy).trans ?_
  exact point_k m c t ⟨(y 0).val, h0⟩ ⟨(y 1).val, h1⟩

theorem blk_v (c : Dev nD) (t : Fin cfg0.N) (k : Fin 1024) (j : Fin 512) :
    iblk m c 6 t (ix2 k j) = m (c.tc.loc main_arg1) (ix3 0 k ⟨2048 + j.val, by omega⟩) := by
  rw [show iblk m c 6 t (ix2 k j) = V m c main_v12 (ix2 k j) from by blk_ext [iblk, (idx_w t).2.2.2.2.2]]
  entry_read
  pointwise []
theorem point_v (c : Dev nD) (t : Fin cfg0.N) (r : Fin 512) (j : Fin 512) :
    out0_11 (iblk m c 0 t) (iblk m c 1 t) (iblk m c 2 t) (iblk m c 3 t) (iblk m c 4 t) (iblk m c 5 t) (iblk m c 6 t) (ix2 r j) = proj (m (c.tc.loc main_arg0)) (m (c.tc.loc main_arg1)) (m (c.tc.loc main_arg2)) (sq t r) (st t r) ⟨2048 + (j).val, by have : (j).val < 512 := (j).isLt; omega⟩ := by
  refine (row_v _ _ _ _ _ _ _ r j).trans ?_
  rw [normed_row, funext fun k => funext fun j => blk_v m c t k j]
  rfl

/-- Output array 4. -/
def result_v (c : Dev nD) : Vec Ideal S65536x512 .bf16 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨2048 + ((i 1)).val, by have : ((i 1)).val < 512 := ((i 1)).isLt; omega⟩

/-- The blocks written back make it up. -/
theorem final_v (c : Dev nD) : (dats m 0 c).arrAt 11 cfg0.N = result_v m c := by
  refine (dats m 0 c).arrAt_eq_of_covers 11 _ (by decide +kernel) fun t hf y => ?_
  blk_simp
  rw [after0_11]
  have h0 : (y 0).val < 512 := (y 0).isLt
  have h1 : (y 1).val < 512 := (y 1).isLt
  have hy : (y : S512x512.Idx) = ix2 ⟨(y 0).val, h0⟩ ⟨(y 1).val, h1⟩ := by
    funext a
    match a with
    | ⟨0, _⟩ => rfl
    | ⟨1, _⟩ => rfl
  have he : ((win0_11.blk t).view.emb y : S65536x512.Idx)
      = ix2 ⟨t.val * 512 + (y 0).val, by have := tlt t; omega⟩ ⟨(y 1).val, h1⟩ := by
    have hi := (idx_rows t).2.2.2.2.2
    funext a
    match a with
    | ⟨0, _⟩ =>
      refine Fin.ext ?_
      show win0_11.index t 0 * 512 + 1 * (y 0).val = t.val * 512 + (y 0).val
      rw [hi]; show t.val * 512 + 1 * (y 0).val = t.val * 512 + (y 0).val
      omega
    | ⟨1, _⟩ =>
      refine Fin.ext ?_
      show win0_11.index t 1 * 512 + 1 * (y 1).val = (y 1).val
      rw [hi]; show 0 * 512 + 1 * (y 1).val = (y 1).val
      omega
  rw [he]
  refine (congrArg _ hy).trans ?_
  exact point_v m c t ⟨(y 0).val, h0⟩ ⟨(y 1).val, h1⟩

end Cert.Layer.ProjEven

end
-- ==== Proof.Layer.ProjEvenRef.lean ====
/- The even layer's projection reference, row by row. -/
module

public import proofs.«01_k».proof.Proof.Layer.ProjEvenRow
public import proofs.«01_k».proof.Proof.Gen.Reference4Ideal.Run
public import Idealize.ShloMosaic.Lib.Pointwise

@[expose] public section

set_option maxRecDepth 16384

noncomputable section

namespace Cert.Layer.ProjEven.Ref

open Idealize.ShloMosaic Idealize.ShloMosaic.StableHlo Cert.Reference4Ideal Cert.Reference4Ideal.Gen

variable (h : FVec Ideal S16x4096x1024 .f32) (w : FVec Ideal S1x1024x2560 .f32) (g : FVec Ideal S2x1024 .f32)

/-- All projections of all rows. -/
def every : FVec Ideal S16x4096x2560 .f32 :=
  Host.dotGeneral (F := Ideal) (φ₁ := .f32) (φ₂ := .f32) dot_S16x4096x1024_S1024x2560_S16x4096x2560_2_0_01_1_n_n none (mulf (mulf h (broadcastInDim S16x4096x1024 ![0, 1, 2] bcast_S16x4096x1_S16x4096x1024_0_1_2
    (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2
      (shapeCast _ (extractStridedSlice S1x1024 ![0, 0] g slices_S2x1024_S1x1024_0_0) shapeCasts_S1x1024_S1024)))) (shapeCast _ w shapeCasts_S1x1024x2560_S1024x2560)

theorem every_apply (b : Fin 16) (s : Fin 4096) (j : Fin 2560) : every h w g (ix3 b s j) = proj h w g b s j := by
  pointwise [every]
  rfl

/-- A result of the reference. -/
def out_a : FVec Ideal S65536x512 .f32 :=
  shapeCast S65536x512 (extractStridedSlice S16x4096x512 ![0, 0, 0] (every h w g) slices_S16x4096x2560_S16x4096x512_0_0_0) shapeCasts_S16x4096x512_S65536x512

theorem out_a_apply (n : Fin 65536) (j : Fin 512) : out_a h w g (ix2 n j) = proj h w g ⟨n.val / 4096, by omega⟩ ⟨n.val % 4096, by omega⟩ ⟨0 + j.val, by omega⟩ := by
  pointwise [out_a, every_apply]

/-- A result of the reference. -/
def out_b : FVec Ideal S65536x512 .f32 :=
  shapeCast S65536x512 (extractStridedSlice S16x4096x512 ![0, 0, 512] (every h w g) slices_S16x4096x2560_S16x4096x512_0_0_512) shapeCasts_S16x4096x512_S65536x512

theorem out_b_apply (n : Fin 65536) (j : Fin 512) : out_b h w g (ix2 n j) = proj h w g ⟨n.val / 4096, by omega⟩ ⟨n.val % 4096, by omega⟩ ⟨512 + j.val, by omega⟩ := by
  pointwise [out_b, every_apply]

/-- A result of the reference. -/
def out_q : FVec Ideal S65536x512 .bf16 :=
  truncf .bf16 (shapeCast S65536x512 (extractStridedSlice S16x4096x512 ![0, 0, 1024] (every h w g) slices_S16x4096x2560_S16x4096x512_0_0_1024) shapeCasts_S16x4096x512_S65536x512) bitsLt_bf16_f32

theorem out_q_apply (n : Fin 65536) (j : Fin 512) : out_q h w g (ix2 n j) = proj h w g ⟨n.val / 4096, by omega⟩ ⟨n.val % 4096, by omega⟩ ⟨1024 + j.val, by omega⟩ := by
  pointwise [out_q, every_apply]

/-- A result of the reference. -/
def out_k : FVec Ideal S65536x512 .bf16 :=
  truncf .bf16 (shapeCast S65536x512 (extractStridedSlice S16x4096x512 ![0, 0, 1536] (every h w g) slices_S16x4096x2560_S16x4096x512_0_0_1536) shapeCasts_S16x4096x512_S65536x512) bitsLt_bf16_f32

theorem out_k_apply (n : Fin 65536) (j : Fin 512) : out_k h w g (ix2 n j) = proj h w g ⟨n.val / 4096, by omega⟩ ⟨n.val % 4096, by omega⟩ ⟨1536 + j.val, by omega⟩ := by
  pointwise [out_k, every_apply]

/-- A result of the reference. -/
def out_v : FVec Ideal S65536x512 .bf16 :=
  truncf .bf16 (shapeCast S65536x512 (extractStridedSlice S16x4096x512 ![0, 0, 2048] (every h w g) slices_S16x4096x2560_S16x4096x512_0_0_2048) shapeCasts_S16x4096x512_S65536x512) bitsLt_bf16_f32

theorem out_v_apply (n : Fin 65536) (j : Fin 512) : out_v h w g (ix2 n j) = proj h w g ⟨n.val / 4096, by omega⟩ ⟨n.val % 4096, by omega⟩ ⟨2048 + j.val, by omega⟩ := by
  pointwise [out_v, every_apply]

end Cert.Layer.ProjEven.Ref

end
-- ==== Proof.Layer.ProjEvenEqual.lean ====
/- The even layer's projection: the kernel's arrays are the reference's. -/
module

public import proofs.«01_k».proof.Proof.Layer.ProjEvenFinal
public import proofs.«01_k».proof.Proof.Layer.ProjEvenRef

@[expose] public section

noncomputable section

namespace Cert.Layer.ProjEven

open Idealize.ShloMosaic Idealize.SL.Sem

set_option maxRecDepth 16384

variable (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ)
  (c : Dev Cert.Kernel4Ideal.nD)

/-- On equal arguments this result is what the kernel's blocks make up. -/
theorem equal_a (a0 : m' (c.tc.loc Cert.Reference4Ideal.main_arg0) = m (c.tc.loc Cert.Kernel4Ideal.main_arg0))
    (a1 : m' (c.tc.loc Cert.Reference4Ideal.main_arg1) = m (c.tc.loc Cert.Kernel4Ideal.main_arg1))
    (a2 : m' (c.tc.loc Cert.Reference4Ideal.main_arg2) = m (c.tc.loc Cert.Kernel4Ideal.main_arg2)) :
    Ref.out_a (m' (c.tc.loc Cert.Reference4Ideal.main_arg0)) (m' (c.tc.loc Cert.Reference4Ideal.main_arg1)) (m' (c.tc.loc Cert.Reference4Ideal.main_arg2))
      = (Cert.Kernel4Ideal.Gen.dats m 0 c).arrAt 7 Cert.Kernel4Ideal.cfg0.N := by
  rw [final_a m c, a0, a1, a2]
  funext i
  obtain ⟨n, j, rfl⟩ : ∃ n j, i = ValueIdx.ix2 n j := ⟨i 0, i 1, ValueIdx.eq_ix2 i⟩
  exact Ref.out_a_apply _ _ _ n j

/-- On equal arguments this result is what the kernel's blocks make up. -/
theorem equal_b (a0 : m' (c.tc.loc Cert.Reference4Ideal.main_arg0) = m (c.tc.loc Cert.Kernel4Ideal.main_arg0))
    (a1 : m' (c.tc.loc Cert.Reference4Ideal.main_arg1) = m (c.tc.loc Cert.Kernel4Ideal.main_arg1))
    (a2 : m' (c.tc.loc Cert.Reference4Ideal.main_arg2) = m (c.tc.loc Cert.Kernel4Ideal.main_arg2)) :
    Ref.out_b (m' (c.tc.loc Cert.Reference4Ideal.main_arg0)) (m' (c.tc.loc Cert.Reference4Ideal.main_arg1)) (m' (c.tc.loc Cert.Reference4Ideal.main_arg2))
      = (Cert.Kernel4Ideal.Gen.dats m 0 c).arrAt 8 Cert.Kernel4Ideal.cfg0.N := by
  rw [final_b m c, a0, a1, a2]
  funext i
  obtain ⟨n, j, rfl⟩ : ∃ n j, i = ValueIdx.ix2 n j := ⟨i 0, i 1, ValueIdx.eq_ix2 i⟩
  exact Ref.out_b_apply _ _ _ n j

/-- On equal arguments this result is what the kernel's blocks make up. -/
theorem equal_q (a0 : m' (c.tc.loc Cert.Reference4Ideal.main_arg0) = m (c.tc.loc Cert.Kernel4Ideal.main_arg0))
    (a1 : m' (c.tc.loc Cert.Reference4Ideal.main_arg1) = m (c.tc.loc Cert.Kernel4Ideal.main_arg1))
    (a2 : m' (c.tc.loc Cert.Reference4Ideal.main_arg2) = m (c.tc.loc Cert.Kernel4Ideal.main_arg2)) :
    Ref.out_q (m' (c.tc.loc Cert.Reference4Ideal.main_arg0)) (m' (c.tc.loc Cert.Reference4Ideal.main_arg1)) (m' (c.tc.loc Cert.Reference4Ideal.main_arg2))
      = (Cert.Kernel4Ideal.Gen.dats m 0 c).arrAt 9 Cert.Kernel4Ideal.cfg0.N := by
  rw [final_q m c, a0, a1, a2]
  funext i
  obtain ⟨n, j, rfl⟩ : ∃ n j, i = ValueIdx.ix2 n j := ⟨i 0, i 1, ValueIdx.eq_ix2 i⟩
  exact Ref.out_q_apply _ _ _ n j

/-- On equal arguments this result is what the kernel's blocks make up. -/
theorem equal_k (a0 : m' (c.tc.loc Cert.Reference4Ideal.main_arg0) = m (c.tc.loc Cert.Kernel4Ideal.main_arg0))
    (a1 : m' (c.tc.loc Cert.Reference4Ideal.main_arg1) = m (c.tc.loc Cert.Kernel4Ideal.main_arg1))
    (a2 : m' (c.tc.loc Cert.Reference4Ideal.main_arg2) = m (c.tc.loc Cert.Kernel4Ideal.main_arg2)) :
    Ref.out_k (m' (c.tc.loc Cert.Reference4Ideal.main_arg0)) (m' (c.tc.loc Cert.Reference4Ideal.main_arg1)) (m' (c.tc.loc Cert.Reference4Ideal.main_arg2))
      = (Cert.Kernel4Ideal.Gen.dats m 0 c).arrAt 10 Cert.Kernel4Ideal.cfg0.N := by
  rw [final_k m c, a0, a1, a2]
  funext i
  obtain ⟨n, j, rfl⟩ : ∃ n j, i = ValueIdx.ix2 n j := ⟨i 0, i 1, ValueIdx.eq_ix2 i⟩
  exact Ref.out_k_apply _ _ _ n j

/-- On equal arguments this result is what the kernel's blocks make up. -/
theorem equal_v (a0 : m' (c.tc.loc Cert.Reference4Ideal.main_arg0) = m (c.tc.loc Cert.Kernel4Ideal.main_arg0))
    (a1 : m' (c.tc.loc Cert.Reference4Ideal.main_arg1) = m (c.tc.loc Cert.Kernel4Ideal.main_arg1))
    (a2 : m' (c.tc.loc Cert.Reference4Ideal.main_arg2) = m (c.tc.loc Cert.Kernel4Ideal.main_arg2)) :
    Ref.out_v (m' (c.tc.loc Cert.Reference4Ideal.main_arg0)) (m' (c.tc.loc Cert.Reference4Ideal.main_arg1)) (m' (c.tc.loc Cert.Reference4Ideal.main_arg2))
      = (Cert.Kernel4Ideal.Gen.dats m 0 c).arrAt 11 Cert.Kernel4Ideal.cfg0.N := by
  rw [final_v m c, a0, a1, a2]
  funext i
  obtain ⟨n, j, rfl⟩ : ∃ n j, i = ValueIdx.ix2 n j := ⟨i 0, i 1, ValueIdx.eq_ix2 i⟩
  exact Ref.out_v_apply _ _ _ n j

end Cert.Layer.ProjEven

end
-- ==== Proof.Layer.ProjOddPoint.lean ====
/- What one point of the odd layer's projection writes: each of its 512 rows normed, times the weights. -/
module

public import proofs.«01_k».proof.Proof.Layer.Spec
public import proofs.«01_k».proof.Proof.Gen.Kernel5Ideal.Frame
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.ProjOdd

open Idealize Idealize.ShloMosaic
open Cert.Kernel5Ideal Cert.Kernel5Ideal.Gen

set_option maxRecDepth 100000

/-- The normed rows. -/
theorem normed (x0 : Vec Ideal S512x1024 .f32) (x1 : Vec Ideal S1x1024 .f32) (r : Fin 512) (j : Fin 1024) :
    k0_pay2 x0 x1 (ix2 r j) = norm (fun j => x0 (ix2 r j)) (fun j => x1 (ix2 0 j)) j := by
  unfold_payloads
  pointwise []
  rfl

variable (x0 : Vec Ideal S512x1024 .f32) (x1 : Vec Ideal S1x1024 .f32) (x2 : Vec Ideal S1024x1024 .bf16) (x3 : Vec Ideal S1024x1536 .bf16) (x4 : Vec Ideal S1024x128 .bf16) (x5 : Vec Ideal S1024x1024 .bf16)

theorem row_z (r : Fin 512) (j : Fin 1024) :
    out0_6 x0 x1 x2 x3 x4 x5 (ix2 r j) = lin (norm (fun j => x0 (ix2 r j)) (fun j => x1 (ix2 0 j))) (fun k j => x2 (ix2 k j)) j := by
  unfold out0_6
  frame_out
  pointwise [k0_pay3, normed]
  rfl

theorem row_x (r : Fin 512) (j : Fin 1536) :
    out0_7 x0 x1 x2 x3 x4 x5 (ix2 r j) = lin (norm (fun j => x0 (ix2 r j)) (fun j => x1 (ix2 0 j))) (fun k j => x3 (ix2 k j)) j := by
  unfold out0_7
  frame_out
  pointwise [k0_pay4, normed]
  rfl

theorem row_d (r : Fin 512) (j : Fin 128) :
    out0_8 x0 x1 x2 x3 x4 x5 (ix2 r j) = lin (norm (fun j => x0 (ix2 r j)) (fun j => x1 (ix2 0 j))) (fun k j => x4 (ix2 k j)) j := by
  unfold out0_8
  frame_out
  pointwise [k0_pay5, normed]
  rfl

theorem row_u (r : Fin 512) (j : Fin 1024) :
    out0_9 x0 x1 x2 x3 x4 x5 (ix2 r j) = lin (norm (fun j => x0 (ix2 r j)) (fun j => x1 (ix2 0 j))) (fun k j => x5 (ix2 k j)) j := by
  unfold out0_9
  frame_out
  pointwise [k0_pay1, k0_pay6, normed]
  rfl

end Cert.Layer.ProjOdd

end
-- ==== Proof.Layer.ProjOddRow.lean ====
/- The norm and the input projections of the odd layer, row by row, as functions of the launched arrays. -/
module

public import proofs.«01_k».proof.Proof.Layer.Spec

@[expose] public section

noncomputable section

namespace Cert.Layer.ProjOdd

open Idealize.ShloMosaic

/-- An array of the given extents, with extended real entries. -/
abbrev Arr (n : ℕ) (d : Fin n → ℕ) : Type := (⟨n, d⟩ : Shape).Idx → EReal

variable (h : Arr 3 ![16, 4096, 1024]) (w : Arr 3 ![1, 1024, 3600]) (g : Arr 2 ![2, 1024])

/-- A normed row. -/
def nrow (b : Fin 16) (s : Fin 4096) : Fin 1024 → EReal := norm (fun j => h (ix3 b s j)) (fun j => g (ix2 1 j))

/-- Its projection to channel `j`. -/
def proj (b : Fin 16) (s : Fin 4096) (j : Fin 3600) : EReal := lin (nrow h g b s) (fun k j => w (ix3 0 k j)) j

/-- The 16 channels of the step sizes, with zeros after them. -/
def steps (b : Fin 16) (s : Fin 4096) (j : Fin 128) : EReal := if hj : j.val < 16 then proj h w g b s ⟨2560 + j.val, by omega⟩ else 0

end Cert.Layer.ProjOdd

end
-- ==== Proof.Layer.ProjOddFinal.lean ====
/- The arrays the odd layer's projection leaves. -/
module

public import proofs.«01_k».proof.Proof.Layer.ProjOddPoint
public import proofs.«01_k».proof.Proof.Layer.ProjOddRow
public import proofs.«01_k».proof.Proof.Gen.Kernel5Ideal.Value
public import Idealize.ShloMosaic.Lib.Pointwise
public import Idealize.ShloMosaic.Lib.Claim
public import Idealize.ShloMosaic.Lib.Pipeline.Value
public import Idealize.ShloMosaic.Lib.Pipeline.ValueKit.Point

@[expose] public section

noncomputable section

namespace Cert.Layer.ProjOdd

open Idealize Idealize.ShloMosaic
open Cert.Kernel5Ideal Cert.Kernel5Ideal.Gen

set_option maxRecDepth 100000

variable (m : (ℓ : Loc nD τ sig) → Buf (Elt Ideal) ℓ)

/-- Where the windows of rows stand: at tile `t`. -/
theorem idx_rows : ∀ t : Fin cfg0.N, win0_0.index t = ![t.val, 0] ∧ win0_6.index t = ![t.val, 0] ∧ win0_7.index t = ![t.val, 0] ∧ win0_8.index t = ![t.val, 0] ∧ win0_9.index t = ![t.val, 0] := by decide +kernel

/-- The weight windows stand at the origin. -/
theorem idx_w : ∀ t : Fin cfg0.N, win0_1.index t = ![0, 0] ∧ win0_2.index t = ![0, 0] ∧ win0_3.index t = ![0, 0] ∧ win0_4.index t = ![0, 0] ∧ win0_5.index t = ![0, 0] := by decide +kernel

theorem tlt (t : Fin cfg0.N) : t.val < 128 := lt_of_lt_of_eq t.isLt N_0

/-- The sequence of row `r` of tile `t`. -/
def sq (t : Fin cfg0.N) (r : Fin 512) : Fin 16 := ⟨(t.val * 512 + r.val) / 4096, by have := tlt t; omega⟩

/-- Its place in the sequence. -/
def st (t : Fin cfg0.N) (r : Fin 512) : Fin 4096 := ⟨(t.val * 512 + r.val) % 4096, by omega⟩

theorem blk_h (c : Dev nD) (t : Fin cfg0.N) (r : Fin 512) (j : Fin 1024) :
    iblk m c 0 t (ix2 r j) = m (c.tc.loc main_arg0) (ix3 (sq t r) (st t r) j) := by
  have := tlt t
  rw [show iblk m c 0 t (ix2 r j) = V m c main_v12 (ix2 ⟨t.val * 512 + r.val, by omega⟩ j) from by blk_ext [iblk, (idx_rows t).1]]
  unfold V
  simp only [hostOps0, hostOps0_1, hostOps0_2, List.flatten_cons, List.flatten_nil, List.append_nil, List.cons_append, List.nil_append]
  after_results
  pointwise []
  rfl

theorem blk_g (c : Dev nD) (t : Fin cfg0.N) (j : Fin 1024) : iblk m c 1 t (ix2 0 j) = m (c.tc.loc main_arg2) (ix2 1 j) := by
  rw [show iblk m c 1 t (ix2 0 j) = V m c main_v13 (ix2 0 j) from by blk_ext [iblk, (idx_w t).1]]
  unfold V
  simp only [hostOps0, hostOps0_1, hostOps0_2, List.flatten_cons, List.flatten_nil, List.append_nil, List.cons_append, List.nil_append]
  after_results
  pointwise []

/-- The normed row of the launched arrays. -/
theorem normed_row (c : Dev nD) (t : Fin cfg0.N) (r : Fin 512) :
    norm (fun j => iblk m c 0 t (ix2 r j)) (fun j => iblk m c 1 t (ix2 0 j))
      = nrow (m (c.tc.loc main_arg0)) (m (c.tc.loc main_arg2)) (sq t r) (st t r) := by
  rw [funext fun j => blk_h m c t r j, funext fun j => blk_g m c t j]
  rfl

theorem blk_z (c : Dev nD) (t : Fin cfg0.N) (k : Fin 1024) (j : Fin 1024) :
    iblk m c 2 t (ix2 k j) = m (c.tc.loc main_arg1) (ix3 0 k ⟨0 + j.val, by omega⟩) := by
  rw [show iblk m c 2 t (ix2 k j) = V m c main_v8 (ix2 k j) from by blk_ext [iblk, (idx_w t).2.1]]
  unfold V
  simp only [hostOps0, hostOps0_1, hostOps0_2, List.flatten_cons, List.flatten_nil, List.append_nil, List.cons_append, List.nil_append]
  after_results
  pointwise []
theorem point_z (c : Dev nD) (t : Fin cfg0.N) (r : Fin 512) (j : Fin 1024) :
    out0_6 (iblk m c 0 t) (iblk m c 1 t) (iblk m c 2 t) (iblk m c 3 t) (iblk m c 4 t) (iblk m c 5 t) (ix2 r j) = proj (m (c.tc.loc main_arg0)) (m (c.tc.loc main_arg1)) (m (c.tc.loc main_arg2)) (sq t r) (st t r) ⟨0 + (j).val, by have : (j).val < 1024 := (j).isLt; omega⟩ := by
  refine (row_z _ _ _ _ _ _ r j).trans ?_
  rw [normed_row, funext fun k => funext fun j => blk_z m c t k j]
  rfl

/-- Output array 0. -/
def result_z (c : Dev nD) : Vec Ideal S65536x1024 .f32 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨0 + ((i 1)).val, by have : ((i 1)).val < 1024 := ((i 1)).isLt; omega⟩

/-- The blocks written back make it up. -/
theorem final_z (c : Dev nD) : (dats m 0 c).arrAt 6 cfg0.N = result_z m c := by
  refine (dats m 0 c).arrAt_eq_of_covers 6 _ (by decide +kernel) fun t hf y => ?_
  blk_simp
  rw [after0_6]
  have h0 : (y 0).val < 512 := (y 0).isLt
  have h1 : (y 1).val < 1024 := (y 1).isLt
  have hy : (y : S512x1024.Idx) = ix2 ⟨(y 0).val, h0⟩ ⟨(y 1).val, h1⟩ := by
    funext a
    match a with
    | ⟨0, _⟩ => rfl
    | ⟨1, _⟩ => rfl
  have he : ((win0_6.blk t).view.emb y : S65536x1024.Idx)
      = ix2 ⟨t.val * 512 + (y 0).val, by have := tlt t; omega⟩ ⟨(y 1).val, h1⟩ := by
    have hi := (idx_rows t).2.1
    funext a
    match a with
    | ⟨0, _⟩ =>
      refine Fin.ext ?_
      show win0_6.index t 0 * 512 + 1 * (y 0).val = t.val * 512 + (y 0).val
      rw [hi]; show t.val * 512 + 1 * (y 0).val = t.val * 512 + (y 0).val
      omega
    | ⟨1, _⟩ =>
      refine Fin.ext ?_
      show win0_6.index t 1 * 1024 + 1 * (y 1).val = (y 1).val
      rw [hi]; show 0 * 1024 + 1 * (y 1).val = (y 1).val
      omega
  rw [he]
  refine (congrArg _ hy).trans ?_
  exact point_z m c t ⟨(y 0).val, h0⟩ ⟨(y 1).val, h1⟩

theorem blk_x (c : Dev nD) (t : Fin cfg0.N) (k : Fin 1024) (j : Fin 1536) :
    iblk m c 3 t (ix2 k j) = m (c.tc.loc main_arg1) (ix3 0 k ⟨1024 + j.val, by omega⟩) := by
  rw [show iblk m c 3 t (ix2 k j) = V m c main_v9 (ix2 k j) from by blk_ext [iblk, (idx_w t).2.2.1]]
  unfold V
  simp only [hostOps0, hostOps0_1, hostOps0_2, List.flatten_cons, List.flatten_nil, List.append_nil, List.cons_append, List.nil_append]
  after_results
  pointwise []
theorem point_x (c : Dev nD) (t : Fin cfg0.N) (r : Fin 512) (j : Fin 1536) :
    out0_7 (iblk m c 0 t) (iblk m c 1 t) (iblk m c 2 t) (iblk m c 3 t) (iblk m c 4 t) (iblk m c 5 t) (ix2 r j) = proj (m (c.tc.loc main_arg0)) (m (c.tc.loc main_arg1)) (m (c.tc.loc main_arg2)) (sq t r) (st t r) ⟨1024 + (j).val, by have : (j).val < 1536 := (j).isLt; omega⟩ := by
  refine (row_x _ _ _ _ _ _ r j).trans ?_
  rw [normed_row, funext fun k => funext fun j => blk_x m c t k j]
  rfl

/-- Output array 1. -/
def result_x (c : Dev nD) : Vec Ideal S65536x1536 .f32 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨1024 + ((i 1)).val, by have : ((i 1)).val < 1536 := ((i 1)).isLt; omega⟩

/-- The blocks written back make it up. -/
theorem final_x (c : Dev nD) : (dats m 0 c).arrAt 7 cfg0.N = result_x m c := by
  refine (dats m 0 c).arrAt_eq_of_covers 7 _ (by decide +kernel) fun t hf y => ?_
  blk_simp
  rw [after0_7]
  have h0 : (y 0).val < 512 := (y 0).isLt
  have h1 : (y 1).val < 1536 := (y 1).isLt
  have hy : (y : S512x1536.Idx) = ix2 ⟨(y 0).val, h0⟩ ⟨(y 1).val, h1⟩ := by
    funext a
    match a with
    | ⟨0, _⟩ => rfl
    | ⟨1, _⟩ => rfl
  have he : ((win0_7.blk t).view.emb y : S65536x1536.Idx)
      = ix2 ⟨t.val * 512 + (y 0).val, by have := tlt t; omega⟩ ⟨(y 1).val, h1⟩ := by
    have hi := (idx_rows t).2.2.1
    funext a
    match a with
    | ⟨0, _⟩ =>
      refine Fin.ext ?_
      show win0_7.index t 0 * 512 + 1 * (y 0).val = t.val * 512 + (y 0).val
      rw [hi]; show t.val * 512 + 1 * (y 0).val = t.val * 512 + (y 0).val
      omega
    | ⟨1, _⟩ =>
      refine Fin.ext ?_
      show win0_7.index t 1 * 1536 + 1 * (y 1).val = (y 1).val
      rw [hi]; show 0 * 1536 + 1 * (y 1).val = (y 1).val
      omega
  rw [he]
  refine (congrArg _ hy).trans ?_
  exact point_x m c t ⟨(y 0).val, h0⟩ ⟨(y 1).val, h1⟩

theorem blk_d (c : Dev nD) (t : Fin cfg0.N) (k : Fin 1024) (j : Fin 128) :
    iblk m c 4 t (ix2 k j) = if hj : j.val < 16 then m (c.tc.loc main_arg1) (ix3 0 k ⟨2560 + j.val, by omega⟩) else (0 : EReal) := by
  rw [show iblk m c 4 t (ix2 k j) = V m c main_v10 (ix2 k j) from by blk_ext [iblk, (idx_w t).2.2.2.1]]
  unfold V
  simp only [hostOps0, hostOps0_1, hostOps0_2, List.flatten_cons, List.flatten_nil, List.append_nil, List.cons_append, List.nil_append]
  after_results
  simp only [StableHlo.TRef.toBuf, StableHlo.TRef.ofBuf, cast_cast, cast_eq]
  pointwise []
  have e : (FloatOps.sitofp (F := Ideal) FTy.f32 0#32) = (0 : EReal) := by
    show (((0#32 : BitVec 32).toInt : ℝ) : EReal) = 0
    simp
  rw [e]

theorem point_d (c : Dev nD) (t : Fin cfg0.N) (r : Fin 512) (j : Fin 128) :
    out0_8 (iblk m c 0 t) (iblk m c 1 t) (iblk m c 2 t) (iblk m c 3 t) (iblk m c 4 t) (iblk m c 5 t) (ix2 r j) = steps (m (c.tc.loc main_arg0)) (m (c.tc.loc main_arg1)) (m (c.tc.loc main_arg2)) (sq t r) (st t r) j := by
  refine (row_d _ _ _ _ _ _ r j).trans ?_
  rw [normed_row, funext fun k => funext fun j => blk_d m c t k j]
  unfold steps lin
  by_cases hj : j.val < 16
  · simp only [dif_pos hj]
    rfl
  · simp only [dif_neg hj, mul_zero, Finset.sum_const_zero]

/-- Output array 2. -/
def result_d (c : Dev nD) : Vec Ideal S65536x128 .f32 := fun i =>
  steps (m (c.tc.loc main_arg0)) (m (c.tc.loc main_arg1)) (m (c.tc.loc main_arg2)) ⟨(i 0).val / 4096, by have : (i 0).val < 65536 := (i 0).isLt; omega⟩ ⟨(i 0).val % 4096, by omega⟩ (i 1)

/-- The blocks written back make it up. -/
theorem final_d (c : Dev nD) : (dats m 0 c).arrAt 8 cfg0.N = result_d m c := by
  refine (dats m 0 c).arrAt_eq_of_covers 8 _ (by decide +kernel) fun t hf y => ?_
  blk_simp
  rw [after0_8]
  have h0 : (y 0).val < 512 := (y 0).isLt
  have h1 : (y 1).val < 128 := (y 1).isLt
  have hy : (y : S512x128.Idx) = ix2 ⟨(y 0).val, h0⟩ ⟨(y 1).val, h1⟩ := by
    funext a
    match a with
    | ⟨0, _⟩ => rfl
    | ⟨1, _⟩ => rfl
  have he : ((win0_8.blk t).view.emb y : S65536x128.Idx)
      = ix2 ⟨t.val * 512 + (y 0).val, by have := tlt t; omega⟩ ⟨(y 1).val, h1⟩ := by
    have hi := (idx_rows t).2.2.2.1
    funext a
    match a with
    | ⟨0, _⟩ =>
      refine Fin.ext ?_
      show win0_8.index t 0 * 512 + 1 * (y 0).val = t.val * 512 + (y 0).val
      rw [hi]; show t.val * 512 + 1 * (y 0).val = t.val * 512 + (y 0).val
      omega
    | ⟨1, _⟩ =>
      refine Fin.ext ?_
      show win0_8.index t 1 * 128 + 1 * (y 1).val = (y 1).val
      rw [hi]; show 0 * 128 + 1 * (y 1).val = (y 1).val
      omega
  rw [he]
  refine (congrArg _ hy).trans ?_
  exact point_d m c t ⟨(y 0).val, h0⟩ ⟨(y 1).val, h1⟩

theorem blk_u (c : Dev nD) (t : Fin cfg0.N) (k : Fin 1024) (j : Fin 1024) :
    iblk m c 5 t (ix2 k j) = m (c.tc.loc main_arg1) (ix3 0 k ⟨2576 + j.val, by omega⟩) := by
  rw [show iblk m c 5 t (ix2 k j) = V m c main_v11 (ix2 k j) from by blk_ext [iblk, (idx_w t).2.2.2.2]]
  unfold V
  simp only [hostOps0, hostOps0_1, hostOps0_2, List.flatten_cons, List.flatten_nil, List.append_nil, List.cons_append, List.nil_append]
  after_results
  pointwise []
theorem point_u (c : Dev nD) (t : Fin cfg0.N) (r : Fin 512) (j : Fin 1024) :
    out0_9 (iblk m c 0 t) (iblk m c 1 t) (iblk m c 2 t) (iblk m c 3 t) (iblk m c 4 t) (iblk m c 5 t) (ix2 r j) = proj (m (c.tc.loc main_arg0)) (m (c.tc.loc main_arg1)) (m (c.tc.loc main_arg2)) (sq t r) (st t r) ⟨2576 + (j).val, by have : (j).val < 1024 := (j).isLt; omega⟩ := by
  refine (row_u _ _ _ _ _ _ r j).trans ?_
  rw [normed_row, funext fun k => funext fun j => blk_u m c t k j]
  rfl

/-- Output array 3. -/
def result_u (c : Dev nD) : Vec Ideal S65536x1024 .f32 := fun i =>
  proj (m (c.tc.loc main_arg0)) (m (c.tc.loc main_arg1)) (m (c.tc.loc main_arg2)) ⟨(i 0).val / 4096, by have : (i 0).val < 65536 := (i 0).isLt; omega⟩ ⟨(i 0).val % 4096, by omega⟩ ⟨2576 + ((i 1)).val, by have : ((i 1)).val < 1024 := ((i 1)).isLt; omega⟩

/-- The blocks written back make it up. -/
theorem final_u (c : Dev nD) : (dats m 0 c).arrAt 9 cfg0.N = result_u m c := by
  refine (dats m 0 c).arrAt_eq_of_covers 9 _ (by decide +kernel) fun t hf y => ?_
  blk_simp
  rw [after0_9]
  have h0 : (y 0).val < 512 := (y 0).isLt
  have h1 : (y 1).val < 1024 := (y 1).isLt
  have hy : (y : S512x1024.Idx) = ix2 ⟨(y 0).val, h0⟩ ⟨(y 1).val, h1⟩ := by
    funext a
    match a with
    | ⟨0, _⟩ => rfl
    | ⟨1, _⟩ => rfl
  have he : ((win0_9.blk t).view.emb y : S65536x1024.Idx)
      = ix2 ⟨t.val * 512 + (y 0).val, by have := tlt t; omega⟩ ⟨(y 1).val, h1⟩ := by
    have hi := (idx_rows t).2.2.2.2
    funext a
    match a with
    | ⟨0, _⟩ =>
      refine Fin.ext ?_
      show win0_9.index t 0 * 512 + 1 * (y 0).val = t.val * 512 + (y 0).val
      rw [hi]; show t.val * 512 + 1 * (y 0).val = t.val * 512 + (y 0).val
      omega
    | ⟨1, _⟩ =>
      refine Fin.ext ?_
      show win0_9.index t 1 * 1024 + 1 * (y 1).val = (y 1).val
      rw [hi]; show 0 * 1024 + 1 * (y 1).val = (y 1).val
      omega
  rw [he]
  refine (congrArg _ hy).trans ?_
  exact point_u m c t ⟨(y 0).val, h0⟩ ⟨(y 1).val, h1⟩

end Cert.Layer.ProjOdd

end
-- ==== Proof.Layer.ProjOddRef.lean ====
/- The odd layer's projection reference, row by row. -/
module

public import proofs.«01_k».proof.Proof.Layer.ProjOddRow
public import proofs.«01_k».proof.Proof.Gen.Reference5Ideal.Run
public import Idealize.ShloMosaic.Lib.Pointwise

@[expose] public section

set_option maxRecDepth 16384

noncomputable section

namespace Cert.Layer.ProjOdd.Ref

open Idealize.ShloMosaic Idealize.ShloMosaic.StableHlo Cert.Reference5Ideal Cert.Reference5Ideal.Gen

variable (h : FVec Ideal S16x4096x1024 .f32) (w : FVec Ideal S1x1024x3600 .f32) (g : FVec Ideal S2x1024 .f32)

/-- All projections of all rows. -/
def every : FVec Ideal S16x4096x3600 .f32 :=
  Host.dotGeneral (F := Ideal) (φ₁ := .f32) (φ₂ := .f32) dot_S16x4096x1024_S1024x3600_S16x4096x3600_2_0_01_1_n_n none (mulf (mulf h (broadcastInDim S16x4096x1024 ![0, 1, 2] bcast_S16x4096x1_S16x4096x1024_0_1_2
    (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2
      (shapeCast _ (extractStridedSlice S1x1024 ![1, 0] g slices_S2x1024_S1x1024_1_0) shapeCasts_S1x1024_S1024)))) (shapeCast _ w shapeCasts_S1x1024x3600_S1024x3600)

theorem every_apply (b : Fin 16) (s : Fin 4096) (j : Fin 3600) : every h w g (ix3 b s j) = proj h w g b s j := by
  pointwise [every]
  rfl

/-- A result of the reference. -/
def out_z : FVec Ideal S65536x1024 .f32 :=
  shapeCast S65536x1024 (extractStridedSlice S16x4096x1024 ![0, 0, 0] (every h w g) slices_S16x4096x3600_S16x4096x1024_0_0_0) shapeCasts_S16x4096x1024_S65536x1024

theorem out_z_apply (n : Fin 65536) (j : Fin 1024) : out_z h w g (ix2 n j) = proj h w g ⟨n.val / 4096, by omega⟩ ⟨n.val % 4096, by omega⟩ ⟨0 + j.val, by omega⟩ := by
  pointwise [out_z, every_apply]

/-- A result of the reference. -/
def out_x : FVec Ideal S65536x1536 .f32 :=
  shapeCast S65536x1536 (extractStridedSlice S16x4096x1536 ![0, 0, 1024] (every h w g) slices_S16x4096x3600_S16x4096x1536_0_0_1024) shapeCasts_S16x4096x1536_S65536x1536

theorem out_x_apply (n : Fin 65536) (j : Fin 1536) : out_x h w g (ix2 n j) = proj h w g ⟨n.val / 4096, by omega⟩ ⟨n.val % 4096, by omega⟩ ⟨1024 + j.val, by omega⟩ := by
  pointwise [out_x, every_apply]

/-- A result of the reference. -/
def out_d : FVec Ideal S65536x128 .f32 :=
  pad S65536x128 ![0, 0] ![0, 112] ![0, 0] (shapeCast S65536x16 (extractStridedSlice S16x4096x16 ![0, 0, 2560] (every h w g) slices_S16x4096x3600_S16x4096x16_0_0_2560) shapeCasts_S16x4096x16_S65536x16) (sitofp .f32 (constantI S_ 32 0#32)) pads_S65536x16_S65536x128_000_01120 h_S_

theorem out_d_apply (n : Fin 65536) (j : Fin 128) : out_d h w g (ix2 n j) = steps h w g ⟨n.val / 4096, by omega⟩ ⟨n.val % 4096, by omega⟩ j := by
  pointwise [out_d, every_apply]
  have e : (FloatOps.sitofp (F := Ideal) FTy.f32 0#32) = (0 : EReal) := by
    show (((0#32 : BitVec 32).toInt : ℝ) : EReal) = 0
    simp
  rw [e]
  rfl

/-- A result of the reference. -/
def out_u : FVec Ideal S65536x1024 .f32 :=
  shapeCast S65536x1024 (extractStridedSlice S16x4096x1024 ![0, 0, 2576] (every h w g) slices_S16x4096x3600_S16x4096x1024_0_0_2576) shapeCasts_S16x4096x1024_S65536x1024

theorem out_u_apply (n : Fin 65536) (j : Fin 1024) : out_u h w g (ix2 n j) = proj h w g ⟨n.val / 4096, by omega⟩ ⟨n.val % 4096, by omega⟩ ⟨2576 + j.val, by omega⟩ := by
  pointwise [out_u, every_apply]

end Cert.Layer.ProjOdd.Ref

end
-- ==== Proof.Layer.ProjOddEqual.lean ====
/- The odd layer's projection: the kernel's arrays are the reference's. -/
module

public import proofs.«01_k».proof.Proof.Layer.ProjOddFinal
public import proofs.«01_k».proof.Proof.Layer.ProjOddRef

@[expose] public section

noncomputable section

namespace Cert.Layer.ProjOdd

open Idealize.ShloMosaic Idealize.SL.Sem

set_option maxRecDepth 16384

variable (m : (ℓ : Loc Cert.Kernel5Ideal.nD Cert.Kernel5Ideal.τ Cert.Kernel5Ideal.sig) → Buf (Elt Ideal) ℓ) (m' : (ℓ : Loc Cert.Reference5Ideal.nD Cert.Reference5Ideal.τ Cert.Reference5Ideal.sig) → Buf (Elt Ideal) ℓ)
  (c : Dev Cert.Kernel5Ideal.nD)

/-- On equal arguments this result is what the kernel's blocks make up. -/
theorem equal_z (a0 : m' (c.tc.loc Cert.Reference5Ideal.main_arg0) = m (c.tc.loc Cert.Kernel5Ideal.main_arg0))
    (a1 : m' (c.tc.loc Cert.Reference5Ideal.main_arg1) = m (c.tc.loc Cert.Kernel5Ideal.main_arg1))
    (a2 : m' (c.tc.loc Cert.Reference5Ideal.main_arg2) = m (c.tc.loc Cert.Kernel5Ideal.main_arg2)) :
    Ref.out_z (m' (c.tc.loc Cert.Reference5Ideal.main_arg0)) (m' (c.tc.loc Cert.Reference5Ideal.main_arg1)) (m' (c.tc.loc Cert.Reference5Ideal.main_arg2))
      = (Cert.Kernel5Ideal.Gen.dats m 0 c).arrAt 6 Cert.Kernel5Ideal.cfg0.N := by
  rw [final_z m c, a0, a1, a2]
  funext i
  obtain ⟨n, j, rfl⟩ : ∃ n j, i = ValueIdx.ix2 n j := ⟨i 0, i 1, ValueIdx.eq_ix2 i⟩
  exact Ref.out_z_apply _ _ _ n j

/-- On equal arguments this result is what the kernel's blocks make up. -/
theorem equal_x (a0 : m' (c.tc.loc Cert.Reference5Ideal.main_arg0) = m (c.tc.loc Cert.Kernel5Ideal.main_arg0))
    (a1 : m' (c.tc.loc Cert.Reference5Ideal.main_arg1) = m (c.tc.loc Cert.Kernel5Ideal.main_arg1))
    (a2 : m' (c.tc.loc Cert.Reference5Ideal.main_arg2) = m (c.tc.loc Cert.Kernel5Ideal.main_arg2)) :
    Ref.out_x (m' (c.tc.loc Cert.Reference5Ideal.main_arg0)) (m' (c.tc.loc Cert.Reference5Ideal.main_arg1)) (m' (c.tc.loc Cert.Reference5Ideal.main_arg2))
      = (Cert.Kernel5Ideal.Gen.dats m 0 c).arrAt 7 Cert.Kernel5Ideal.cfg0.N := by
  rw [final_x m c, a0, a1, a2]
  funext i
  obtain ⟨n, j, rfl⟩ : ∃ n j, i = ValueIdx.ix2 n j := ⟨i 0, i 1, ValueIdx.eq_ix2 i⟩
  exact Ref.out_x_apply _ _ _ n j

/-- On equal arguments this result is what the kernel's blocks make up. -/
theorem equal_d (a0 : m' (c.tc.loc Cert.Reference5Ideal.main_arg0) = m (c.tc.loc Cert.Kernel5Ideal.main_arg0))
    (a1 : m' (c.tc.loc Cert.Reference5Ideal.main_arg1) = m (c.tc.loc Cert.Kernel5Ideal.main_arg1))
    (a2 : m' (c.tc.loc Cert.Reference5Ideal.main_arg2) = m (c.tc.loc Cert.Kernel5Ideal.main_arg2)) :
    Ref.out_d (m' (c.tc.loc Cert.Reference5Ideal.main_arg0)) (m' (c.tc.loc Cert.Reference5Ideal.main_arg1)) (m' (c.tc.loc Cert.Reference5Ideal.main_arg2))
      = (Cert.Kernel5Ideal.Gen.dats m 0 c).arrAt 8 Cert.Kernel5Ideal.cfg0.N := by
  rw [final_d m c, a0, a1, a2]
  funext i
  obtain ⟨n, j, rfl⟩ : ∃ n j, i = ValueIdx.ix2 n j := ⟨i 0, i 1, ValueIdx.eq_ix2 i⟩
  exact Ref.out_d_apply _ _ _ n j

/-- On equal arguments this result is what the kernel's blocks make up. -/
theorem equal_u (a0 : m' (c.tc.loc Cert.Reference5Ideal.main_arg0) = m (c.tc.loc Cert.Kernel5Ideal.main_arg0))
    (a1 : m' (c.tc.loc Cert.Reference5Ideal.main_arg1) = m (c.tc.loc Cert.Kernel5Ideal.main_arg1))
    (a2 : m' (c.tc.loc Cert.Reference5Ideal.main_arg2) = m (c.tc.loc Cert.Kernel5Ideal.main_arg2)) :
    Ref.out_u (m' (c.tc.loc Cert.Reference5Ideal.main_arg0)) (m' (c.tc.loc Cert.Reference5Ideal.main_arg1)) (m' (c.tc.loc Cert.Reference5Ideal.main_arg2))
      = (Cert.Kernel5Ideal.Gen.dats m 0 c).arrAt 9 Cert.Kernel5Ideal.cfg0.N := by
  rw [final_u m c, a0, a1, a2]
  funext i
  obtain ⟨n, j, rfl⟩ : ∃ n j, i = ValueIdx.ix2 n j := ⟨i 0, i 1, ValueIdx.eq_ix2 i⟩
  exact Ref.out_u_apply _ _ _ n j

end Cert.Layer.ProjOdd

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Lru.Equal
public import proofs.«01_k».proof.Proof.Ssd.Equal
public import proofs.«01_k».proof.Proof.Layer.OddEqual
public import proofs.«01_k».proof.Proof.Layer.EvenEqual
public import proofs.«01_k».proof.Proof.Layer.ProjEvenEqual
public import proofs.«01_k».proof.Proof.Layer.ProjOddEqual
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The recurrence. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8⟩ := hagree c
  exact (h c).1.trans (Cert.Lru.Equal.equal m m' c a0 a1 a2 a3 a4 a5 a6 a7 a8)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- After the odd layer's mixers. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨a0, a1, a2, a3, a4, a5, a6, a7, a8, a9, a10, a11, a12⟩ := hagree c
  exact (h c).1.trans (Cert.Layer.Odd.equal m m' c a0 a1 a2 a3 a4 a5 a6 a7 a8 a9 a10 a11 a12)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- After the even layer's mixers. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3, a4, a5, a6, a7, a8, a9, a10, a11, a12⟩ := hagree c
  exact (h c).1.trans (Cert.Layer.Even.equal m m' c a0 a1 a2 a3 a4 a5 a6 a7 a8 a9 a10 a11 a12)

theorem quiescent_Reference4Ideal : quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The even layer's projections. -/
theorem algebraic_Kernel4Ideal_Reference4Ideal : algebraic_Kernel4Ideal_Reference4Ideal := by
  intro m ρ m' ρ' _ hagree
  refine ⟨_, _, _, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨a0, a1, a2⟩ := hagree c
  obtain ⟨ra, rb, rq, rk, rv, kept⟩ := h c
  exact ⟨ra.trans (Cert.Layer.ProjEven.equal_a m m' c a0 a1 a2), rb.trans (Cert.Layer.ProjEven.equal_b m m' c a0 a1 a2), rq.trans (Cert.Layer.ProjEven.equal_q m m' c a0 a1 a2), rk.trans (Cert.Layer.ProjEven.equal_k m m' c a0 a1 a2), rv.trans (Cert.Layer.ProjEven.equal_v m m' c a0 a1 a2), kept⟩

theorem quiescent_Reference5Ideal : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The odd layer's projections. -/
theorem algebraic_Kernel5Ideal_Reference5Ideal : algebraic_Kernel5Ideal_Reference5Ideal := by
  intro m ρ m' ρ' _ hagree
  refine ⟨_, _, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨a0, a1, a2⟩ := hagree c
  obtain ⟨rz, rx, rd, ru, kept⟩ := h c
  exact ⟨rz.trans (Cert.Layer.ProjOdd.equal_z m m' c a0 a1 a2), rx.trans (Cert.Layer.ProjOdd.equal_x m m' c a0 a1 a2), rd.trans (Cert.Layer.ProjOdd.equal_d m m' c a0 a1 a2), ru.trans (Cert.Layer.ProjOdd.equal_u m m' c a0 a1 a2), kept⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The selective state space layer. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  obtain ⟨a0, a1, a2, a3, a4, a5, a6, a7, a8⟩ := hagree c
  exact (h c).1.trans (Cert.Ssd.Equal.equal m m' c a0 a1 a2 a3 a4 a5 a6 a7 a8)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
